-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueRefIdeal (m : (ℓ : Loc Cert.KeyValueRefIdeal.nD Cert.KeyValueRefIdeal.τ Cert.KeyValueRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5)
      ∧ r.2.mem ((c.tc : Thread Cert.MixedRefIdeal.nD Cert.MixedRefIdeal.τ).loc Cert.MixedRefIdeal.main_arg6) = m ((c.tc : Thread Cert.MixedRefIdeal.nD Cert.MixedRefIdeal.τ).loc Cert.MixedRefIdeal.main_arg6))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1)
      ∧ r.2.mem ((c.tc : Thread Cert.PlainRefIdeal.nD Cert.PlainRefIdeal.τ).loc Cert.PlainRefIdeal.main_arg2) = m ((c.tc : Thread Cert.PlainRefIdeal.nD Cert.PlainRefIdeal.τ).loc Cert.PlainRefIdeal.main_arg2)
      ∧ r.2.mem ((c.tc : Thread Cert.PlainRefIdeal.nD Cert.PlainRefIdeal.τ).loc Cert.PlainRefIdeal.main_arg3) = m ((c.tc : Thread Cert.PlainRefIdeal.nD Cert.PlainRefIdeal.τ).loc Cert.PlainRefIdeal.main_arg3)
      ∧ r.2.mem ((c.tc : Thread Cert.PlainRefIdeal.nD Cert.PlainRefIdeal.τ).loc Cert.PlainRefIdeal.main_arg4) = m ((c.tc : Thread Cert.PlainRefIdeal.nD Cert.PlainRefIdeal.τ).loc Cert.PlainRefIdeal.main_arg4))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1)
      ∧ r.2.mem ((c.tc : Thread Cert.KeyValue.nD Cert.KeyValue.τ).loc Cert.KeyValue.main_arg2) = m ((c.tc : Thread Cert.KeyValue.nD Cert.KeyValue.τ).loc Cert.KeyValue.main_arg2)
      ∧ r.2.mem ((c.tc : Thread Cert.KeyValue.nD Cert.KeyValue.τ).loc Cert.KeyValue.main_arg3) = m ((c.tc : Thread Cert.KeyValue.nD Cert.KeyValue.τ).loc Cert.KeyValue.main_arg3))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
      ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
      ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3))
      ∧ r.2.sem = fun _ => 0)

def quiescent_KeyValueRefIdeal [hKeyValueRefIdeal : Cert.KeyValueRefIdeal.Facts] : Prop :=
  ∀ (m : (ℓ : Loc Cert.KeyValueRefIdeal.nD Cert.KeyValueRefIdeal.τ Cert.KeyValueRefIdeal.sig) → Buf (Elt Ideal) ℓ) (g : Dev Cert.KeyValueRefIdeal.nD → PrngReg), Pre_KeyValueRefIdeal m →
    θ_run (Cert.KeyValueRefIdeal.defs (F := Ideal)) (onTc (τ := Cert.KeyValueRefIdeal.τ) (Cert.KeyValueRefIdeal.main (F := Ideal))) ⟨m, fun _ => 0, g⟩ (fun r => (∀ c : Dev Cert.KeyValueRefIdeal.nD,
      r.2.mem ((c.tc : Thread Cert.KeyValueRefIdeal.nD Cert.KeyValueRefIdeal.τ).loc Cert.KeyValueRefIdeal.main_arg0) = m ((c.tc : Thread Cert.KeyValueRefIdeal.nD Cert.KeyValueRefIdeal.τ).loc Cert.KeyValueRefIdeal.main_arg0)
      ∧ r.2.mem ((c.tc : Thread Cert.KeyValueRefIdeal.nD Cert.KeyValueRefIdeal.τ).loc Cert.KeyValueRefIdeal.main_arg1) = m ((c.tc : Thread Cert.KeyValueRefIdeal.nD Cert.KeyValueRefIdeal.τ).loc Cert.KeyValueRefIdeal.main_arg1)
      ∧ r.2.mem ((c.tc : Thread Cert.KeyValueRefIdeal.nD Cert.KeyValueRefIdeal.τ).loc Cert.KeyValueRefIdeal.main_arg2) = m ((c.tc : Thread Cert.KeyValueRefIdeal.nD Cert.KeyValueRefIdeal.τ).loc Cert.KeyValueRefIdeal.main_arg2)
      ∧ r.2.mem ((c.tc : Thread Cert.KeyValueRefIdeal.nD Cert.KeyValueRefIdeal.τ).loc Cert.KeyValueRefIdeal.main_arg3) = m ((c.tc : Thread Cert.KeyValueRefIdeal.nD Cert.KeyValueRefIdeal.τ).loc Cert.KeyValueRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)
      ∧ m' ((c.tc : Thread Cert.MixedRefIdeal.nD Cert.MixedRefIdeal.τ).loc Cert.MixedRefIdeal.main_arg5) = m ((c.tc : Thread Cert.MixedIdeal.nD Cert.MixedIdeal.τ).loc Cert.MixedIdeal.main_arg5)
      ∧ m' ((c.tc : Thread Cert.MixedRefIdeal.nD Cert.MixedRefIdeal.τ).loc Cert.MixedRefIdeal.main_arg6) = m ((c.tc : Thread Cert.MixedIdeal.nD Cert.MixedIdeal.τ).loc Cert.MixedIdeal.main_arg6)) →
    ∃ (v0 : (c : Dev Cert.MixedIdeal.nD) → Buf (Elt Ideal) ((c.tc : Thread Cert.MixedIdeal.nD Cert.MixedIdeal.τ).loc Cert.MixedIdeal.main_v33)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v33) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v82) = v0 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5)
          ∧ r.2.mem ((c.tc : Thread Cert.MixedRefIdeal.nD Cert.MixedRefIdeal.τ).loc Cert.MixedRefIdeal.main_arg6) = m' ((c.tc : Thread Cert.MixedRefIdeal.nD Cert.MixedRefIdeal.τ).loc Cert.MixedRefIdeal.main_arg6))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)
      ∧ m' ((c.tc : Thread Cert.PlainRefIdeal.nD Cert.PlainRefIdeal.τ).loc Cert.PlainRefIdeal.main_arg2) = m ((c.tc : Thread Cert.PlainIdeal.nD Cert.PlainIdeal.τ).loc Cert.PlainIdeal.main_arg2)
      ∧ m' ((c.tc : Thread Cert.PlainRefIdeal.nD Cert.PlainRefIdeal.τ).loc Cert.PlainRefIdeal.main_arg3) = m ((c.tc : Thread Cert.PlainIdeal.nD Cert.PlainIdeal.τ).loc Cert.PlainIdeal.main_arg3)
      ∧ m' ((c.tc : Thread Cert.PlainRefIdeal.nD Cert.PlainRefIdeal.τ).loc Cert.PlainRefIdeal.main_arg4) = m ((c.tc : Thread Cert.PlainIdeal.nD Cert.PlainIdeal.τ).loc Cert.PlainIdeal.main_arg4)) →
    ∃ (v0 : (c : Dev Cert.PlainIdeal.nD) → Buf (Elt Ideal) ((c.tc : Thread Cert.PlainIdeal.nD Cert.PlainIdeal.τ).loc Cert.PlainIdeal.main_v28)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v28) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v62) = v0 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1)
          ∧ r.2.mem ((c.tc : Thread Cert.PlainRefIdeal.nD Cert.PlainRefIdeal.τ).loc Cert.PlainRefIdeal.main_arg2) = m' ((c.tc : Thread Cert.PlainRefIdeal.nD Cert.PlainRefIdeal.τ).loc Cert.PlainRefIdeal.main_arg2)
          ∧ r.2.mem ((c.tc : Thread Cert.PlainRefIdeal.nD Cert.PlainRefIdeal.τ).loc Cert.PlainRefIdeal.main_arg3) = m' ((c.tc : Thread Cert.PlainRefIdeal.nD Cert.PlainRefIdeal.τ).loc Cert.PlainRefIdeal.main_arg3)
          ∧ r.2.mem ((c.tc : Thread Cert.PlainRefIdeal.nD Cert.PlainRefIdeal.τ).loc Cert.PlainRefIdeal.main_arg4) = m' ((c.tc : Thread Cert.PlainRefIdeal.nD Cert.PlainRefIdeal.τ).loc Cert.PlainRefIdeal.main_arg4))

def preserves_KeyValue_KeyValueIdeal : Prop :=
  True

def algebraic_KeyValueIdeal_KeyValueRefIdeal [hKeyValueIdeal : Cert.KeyValueIdeal.Facts] [hKeyValueRefIdeal : Cert.KeyValueRefIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueRefIdeal.nD Cert.KeyValueRefIdeal.τ Cert.KeyValueRefIdeal.sig) → Buf (Elt Ideal) ℓ) (g' : Dev Cert.KeyValueRefIdeal.nD → PrngReg), Pre_KeyValueIdeal m →
    (∀ c : Dev Cert.KeyValueIdeal.nD,
      m' ((c.tc : Thread Cert.KeyValueRefIdeal.nD Cert.KeyValueRefIdeal.τ).loc Cert.KeyValueRefIdeal.main_arg0) = m ((c.tc : Thread Cert.KeyValueIdeal.nD Cert.KeyValueIdeal.τ).loc Cert.KeyValueIdeal.main_arg0)
      ∧ m' ((c.tc : Thread Cert.KeyValueRefIdeal.nD Cert.KeyValueRefIdeal.τ).loc Cert.KeyValueRefIdeal.main_arg1) = m ((c.tc : Thread Cert.KeyValueIdeal.nD Cert.KeyValueIdeal.τ).loc Cert.KeyValueIdeal.main_arg1)
      ∧ m' ((c.tc : Thread Cert.KeyValueRefIdeal.nD Cert.KeyValueRefIdeal.τ).loc Cert.KeyValueRefIdeal.main_arg2) = m ((c.tc : Thread Cert.KeyValueIdeal.nD Cert.KeyValueIdeal.τ).loc Cert.KeyValueIdeal.main_arg2)
      ∧ m' ((c.tc : Thread Cert.KeyValueRefIdeal.nD Cert.KeyValueRefIdeal.τ).loc Cert.KeyValueRefIdeal.main_arg3) = m ((c.tc : Thread Cert.KeyValueIdeal.nD Cert.KeyValueIdeal.τ).loc Cert.KeyValueIdeal.main_arg3)) →
    ∃ (v0 : (c : Dev Cert.KeyValueIdeal.nD) → Buf (Elt Ideal) ((c.tc : Thread Cert.KeyValueIdeal.nD Cert.KeyValueIdeal.τ).loc Cert.KeyValueIdeal.main_v24_0)) (v1 : (c : Dev Cert.KeyValueIdeal.nD) → Buf (Elt Ideal) ((c.tc : Thread Cert.KeyValueIdeal.nD Cert.KeyValueIdeal.τ).loc Cert.KeyValueIdeal.main_v24_1)) (v2 : (c : Dev Cert.KeyValueIdeal.nD) → Buf (Elt Ideal) ((c.tc : Thread Cert.KeyValueIdeal.nD Cert.KeyValueIdeal.τ).loc Cert.KeyValueIdeal.main_v24_2)) (v3 : (c : Dev Cert.KeyValueIdeal.nD) → Buf (Elt Ideal) ((c.tc : Thread Cert.KeyValueIdeal.nD Cert.KeyValueIdeal.τ).loc Cert.KeyValueIdeal.main_v24_3)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v24_0) = v0 c
          ∧ r.2.mem ((c.tc : Thread Cert.KeyValueIdeal.nD Cert.KeyValueIdeal.τ).loc Cert.KeyValueIdeal.main_v24_1) = v1 c
          ∧ r.2.mem ((c.tc : Thread Cert.KeyValueIdeal.nD Cert.KeyValueIdeal.τ).loc Cert.KeyValueIdeal.main_v24_2) = v2 c
          ∧ r.2.mem ((c.tc : Thread Cert.KeyValueIdeal.nD Cert.KeyValueIdeal.τ).loc Cert.KeyValueIdeal.main_v24_3) = v3 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
          ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2)
          ∧ r.2.mem ((c.tc : Thread Cert.KeyValueIdeal.nD Cert.KeyValueIdeal.τ).loc Cert.KeyValueIdeal.main_arg3) = m ((c.tc : Thread Cert.KeyValueIdeal.nD Cert.KeyValueIdeal.τ).loc Cert.KeyValueIdeal.main_arg3))
      ∧ θ_run (Cert.KeyValueRefIdeal.defs (F := Ideal)) (onTc (τ := Cert.KeyValueRefIdeal.τ) (Cert.KeyValueRefIdeal.main (F := Ideal))) ⟨m', fun _ => 0, g'⟩ (fun r => ∀ c : Dev Cert.KeyValueRefIdeal.nD,
          r.2.mem ((c.tc : Thread Cert.KeyValueRefIdeal.nD Cert.KeyValueRefIdeal.τ).loc Cert.KeyValueRefIdeal.main_v58) = v0 c
          ∧ r.2.mem ((c.tc : Thread Cert.KeyValueRefIdeal.nD Cert.KeyValueRefIdeal.τ).loc Cert.KeyValueRefIdeal.main_v59) = v1 c
          ∧ r.2.mem ((c.tc : Thread Cert.KeyValueRefIdeal.nD Cert.KeyValueRefIdeal.τ).loc Cert.KeyValueRefIdeal.main_v60) = v2 c
          ∧ r.2.mem ((c.tc : Thread Cert.KeyValueRefIdeal.nD Cert.KeyValueRefIdeal.τ).loc Cert.KeyValueRefIdeal.main_v61) = v3 c
          ∧ r.2.mem ((c.tc : Thread Cert.KeyValueRefIdeal.nD Cert.KeyValueRefIdeal.τ).loc Cert.KeyValueRefIdeal.main_arg0) = m' ((c.tc : Thread Cert.KeyValueRefIdeal.nD Cert.KeyValueRefIdeal.τ).loc Cert.KeyValueRefIdeal.main_arg0)
          ∧ r.2.mem ((c.tc : Thread Cert.KeyValueRefIdeal.nD Cert.KeyValueRefIdeal.τ).loc Cert.KeyValueRefIdeal.main_arg1) = m' ((c.tc : Thread Cert.KeyValueRefIdeal.nD Cert.KeyValueRefIdeal.τ).loc Cert.KeyValueRefIdeal.main_arg1)
          ∧ r.2.mem ((c.tc : Thread Cert.KeyValueRefIdeal.nD Cert.KeyValueRefIdeal.τ).loc Cert.KeyValueRefIdeal.main_arg2) = m' ((c.tc : Thread Cert.KeyValueRefIdeal.nD Cert.KeyValueRefIdeal.τ).loc Cert.KeyValueRefIdeal.main_arg2)
          ∧ r.2.mem ((c.tc : Thread Cert.KeyValueRefIdeal.nD Cert.KeyValueRefIdeal.τ).loc Cert.KeyValueRefIdeal.main_arg3) = m' ((c.tc : Thread Cert.KeyValueRefIdeal.nD Cert.KeyValueRefIdeal.τ).loc Cert.KeyValueRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v43)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v43) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v69) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def Claim : Prop :=
  ∃ (hKernel : Cert.Kernel.Facts) (hKernelIdeal : Cert.KernelIdeal.Facts) (hReferenceIdeal : Cert.ReferenceIdeal.Facts) (hMixed : Cert.Mixed.Facts) (hMixedIdeal : Cert.MixedIdeal.Facts) (hMixedRefIdeal : Cert.MixedRefIdeal.Facts) (hPlain : Cert.Plain.Facts) (hPlainIdeal : Cert.PlainIdeal.Facts) (hPlainRefIdeal : Cert.PlainRefIdeal.Facts) (hKeyValue : Cert.KeyValue.Facts) (hKeyValueIdeal : Cert.KeyValueIdeal.Facts) (hKeyValueRefIdeal : Cert.KeyValueRefIdeal.Facts) (hQuery : Cert.Query.Facts) (hQueryIdeal : Cert.QueryIdeal.Facts) (hQueryRefIdeal : Cert.QueryRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixed (hMixed := hMixed)
    ∧ quiescent_MixedIdeal (hMixedIdeal := hMixedIdeal)
    ∧ quiescent_MixedRefIdeal (hMixedRefIdeal := hMixedRefIdeal)
    ∧ quiescent_Plain (hPlain := hPlain)
    ∧ quiescent_PlainIdeal (hPlainIdeal := hPlainIdeal)
    ∧ quiescent_PlainRefIdeal (hPlainRefIdeal := hPlainRefIdeal)
    ∧ quiescent_KeyValue (hKeyValue := hKeyValue)
    ∧ quiescent_KeyValueIdeal (hKeyValueIdeal := hKeyValueIdeal)
    ∧ quiescent_KeyValueRefIdeal (hKeyValueRefIdeal := hKeyValueRefIdeal)
    ∧ quiescent_Query (hQuery := hQuery)
    ∧ quiescent_QueryIdeal (hQueryIdeal := hQueryIdeal)
    ∧ quiescent_QueryRefIdeal (hQueryRefIdeal := hQueryRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixed_MixedIdeal
    ∧ algebraic_MixedIdeal_MixedRefIdeal (hMixedIdeal := hMixedIdeal) (hMixedRefIdeal := hMixedRefIdeal)
    ∧ preserves_Plain_PlainIdeal
    ∧ algebraic_PlainIdeal_PlainRefIdeal (hPlainIdeal := hPlainIdeal) (hPlainRefIdeal := hPlainRefIdeal)
    ∧ preserves_KeyValue_KeyValueIdeal
    ∧ algebraic_KeyValueIdeal_KeyValueRefIdeal (hKeyValueIdeal := hKeyValueIdeal) (hKeyValueRefIdeal := hKeyValueRefIdeal)
    ∧ preserves_Query_QueryIdeal
    ∧ algebraic_QueryIdeal_QueryRefIdeal (hQueryIdeal := hQueryIdeal) (hQueryRefIdeal := hQueryRefIdeal)
-- ==== Pre_finite.lean ====
abbrev S2x8192x8x2x64 : Shape := ⟨5, ![2, 8192, 8, 2, 64]⟩
abbrev S2x8192x8x128 : Shape := ⟨4, ![2, 8192, 8, 128]⟩
abbrev S1x4x64 : Shape := ⟨3, ![1, 4, 64]⟩
abbrev S1x128 : Shape := ⟨2, ![1, 128]⟩
abbrev S_ : Shape := ⟨0, ![]⟩

class Facts : Prop where
  bcast_S_S2x8192x8x2x64 : S_.BroadcastsInDim S2x8192x8x2x64 (![] : Fin 0 → Fin S2x8192x8x2x64.rank)
  reducesTo_S2x8192x8x2x64_S_d0_1_2_3_4 : S2x8192x8x2x64.ReducesTo [0, 1, 2, 3, 4] S_
  h_S_ : 0 < S_.numel
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  main_v18

def fn {F : FTy → Type} [FloatOps F] (main_arg0 : FVec F S2x8192x8x2x64 .f32) (main_arg1 : FVec F S2x8192x8x2x64 .f32) (main_arg2 : FVec F S2x8192x8x128 .f32) (main_arg3 : FVec F S1x4x64 .f32) (main_arg4 : FVec F S1x128 .f32) : IVec S_ 1 :=
  let main_v0 : FVec F S2x8192x8x2x64 .f32 := Host.absf main_arg0
  let main_cst : FVec F S_ .f32 := constant S_ .f32 0x7F800000#32
  let main_v1 : FVec F S2x8192x8x2x64 .f32 := broadcastInDim S2x8192x8x2x64 ![] bcast_S_S2x8192x8x2x64 main_cst
  let main_v2 : IVec S2x8192x8x2x64 1 := cmpf .olt main_v0 main_v1
  let main_c : IVec S_ 1 := constantI S_ 1 1#1
  let main_v3 : IVec S_ 1 := (fun x v => Host.reduce IntOp.andi x v reducesTo_S2x8192x8x2x64_S_d0_1_2_3_4 h_S_) main_v2 main_c
  let main_v4 : FVec F S2x8192x8x2x64 .f32 := Host.absf main_arg1
  let main_cst_0 : FVec F S_ .f32 := constant S_ .f32 0x7F800000#32
  let main_v5 : FVec F S2x8192x8x2x64 .f32 := broadcastInDim S2x8192x8x2x64 ![] bcast_S_S2x8192x8x2x64 main_cst_0
  let main_v6 : IVec S2x8192x8x2x64 1 := cmpf .olt main_v4 main_v5
  let main_c_1 : IVec S_ 1 := constantI S_ 1 1#1
  let main_v7 : IVec S_ 1 := (fun x v => Host.reduce IntOp.andi x v reducesTo_S2x8192x8x2x64_S_d0_1_2_3_4 h_S_) main_v6 main_c_1
  let main_v8 : IVec S_ 1 := andi main_v3 main_v7
  let main_v9 : FVec F S2x8192x8x128 .f32 := Host.absf main_arg2
  let main_cst_2 : FVec F S_ .f32 := constant S_ .f32 0x7F800000#32
  let main_v10 : FVec F S2x8192x8x128 .f32 := broadcastInDim S2x8192x8x128 ![] bcast_S_S2x8192x8x128 main_cst_2
  let main_v11 : IVec S2x8192x8x128 1 := cmpf .olt main_v9 main_v10
  let main_c_3 : IVec S_ 1 := constantI S_ 1 1#1
  let main_v12 : IVec S_ 1 := (fun x v => Host.reduce IntOp.andi x v reducesTo_S2x8192x8x128_S_d0_1_2_3 h_S_) main_v11 main_c_3
  let main_v13 : IVec S_ 1 := andi main_v8 main_v12
  let main_v14 : FVec F S1x4x64 .f32 := Host.absf main_arg3
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_v13 main_v16
-- ==== Kernel.lean ====
abbrev S2x8192x8x2x64 : Shape := ⟨5, ![2, 8192, 8, 2, 64]⟩
abbrev S2x8192x8x128 : Shape := ⟨4, ![2, 8192, 8, 128]⟩
abbrev S1x4x64 : Shape := ⟨3, ![1, 4, 64]⟩
abbrev S1x128 : Shape := ⟨2, ![1, 128]⟩
abbrev S2x8192x1024 : Shape := ⟨3, ![2, 8192, 1024]⟩
abbrev S4x64 : Shape := ⟨2, ![4, 64]⟩
abbrev S128 : Shape := ⟨1, ![128]⟩
abbrev S1x512x128 : Shape := ⟨3, ![1, 512, 128]⟩
abbrev S1x8192x128 : Shape := ⟨3, ![1, 8192, 128]⟩
abbrev S1024x128 : Shape := ⟨2, ![1024, 128]⟩
abbrev S1024x256 : Shape := ⟨2, ![1024, 256]⟩
abbrev S1024x512 : Shape := ⟨2, ![1024, 512]⟩
abbrev S2x1024x512 : Shape := ⟨3, ![2, 1024, 512]⟩
abbrev S512x128 : Shape := ⟨2, ![512, 128]⟩
abbrev S1x1024x512 : Shape := ⟨3, ![1, 1024, 512]⟩
abbrev S1024 : Shape := ⟨1, ![1024]⟩
abbrev S1024x1 : Shape := ⟨2, ![1024, 1]⟩
abbrev S512x256 : Shape := ⟨2, ![512, 256]⟩
abbrev S1x64 : Shape := ⟨2, ![1, 64]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S1x4x64, .f32⟩
  | .hbm, ⟨4, _⟩ => ⟨S1x128, .f32⟩
  | .hbm, ⟨5, _⟩ => ⟨S2x8192x1024, .f32⟩
  | .hbm, ⟨6, _⟩ => ⟨S2x8192x1024, .f32⟩
  | .hbm, ⟨7, _⟩ => ⟨S2x8192x1024, .bf16⟩
  | .hbm, ⟨8, _⟩ => ⟨S2x8192x1024, .f32⟩
  | .hbm, ⟨9, _⟩ => ⟨S2x8192x1024, .bf16⟩
  | .hbm, ⟨10, _⟩ => ⟨S4x64, .f32⟩
  | .hbm, ⟨11, _⟩ => ⟨S128, .f32⟩
  | .hbm, ⟨12, _⟩ => ⟨S1x128, .f32⟩
  | .hbm, ⟨13, _⟩ => ⟨S2x8192x1024, .f32⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x512x128, .f32⟩
  | .local _ .vmem, ⟨9, _⟩ => ⟨S1x512x128, .f32⟩
  | .local _ .vmem, ⟨10, _⟩ => ⟨S1024x128, .f32⟩
  | .local _ .vmem, ⟨11, _⟩ => ⟨S1024x256, .f32⟩
  | .local _ .vmem, ⟨12, _⟩ => ⟨S1024x512, .bf16⟩
  | .local _ .vmem, ⟨13, _⟩ => ⟨S2x1024x512, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32_10 : BitVec 32 := 512#32
  let v33 : BitVec 32 := Scalar.muli arg2 c512_i32_10
  v33
def k0_off1 (i : grid0.Coords) : Fin 3 → Nat :=
  let c0_20 : Index := 0#32
  let arg2 : BitVec 32 := BitVec.ofNat 32 (i 2).val
  let c512_i32_10 : BitVec 32 := 512#32
  let v33 : BitVec 32 := Scalar.muli arg2 c512_i32_10
  let v34 : BitVec 32 := v33
  let v47 : Index := Scalar.indexCast v34
  let c0_21 : Index := 0#32
  ![0, v47.toNat, 0]
def k0_mult2 (i : grid0.Coords) : BitVec 32 :=
  let c0_i32_25 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_23 : BitVec 32 := 1#32
  let v51 : BitVec 32 := Scalar.subi v18 c1_i32_23
  let c0_i32_24 : BitVec 32 := 0#32
  let v52 : BitVec 32 := Scalar.maxsi v51 c0_i32_24
  let v53 : BitVec 32 := Scalar.minsi c0_i32_25 v52
  let c512_i32_26 : BitVec 32 := 512#32
  let v54 : BitVec 32 := Scalar.muli v53 c512_i32_26
  v54
def k0_off2 (i : grid0.Coords) : Fin 3 → Nat :=
  let c0_27 : Index := 0#32
  let c0_i32_25 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_23 : BitVec 32 := 1#32
  let v51 : BitVec 32 := Scalar.subi v18 c1_i32_23
  let c0_i32_24 : BitVec 32 := 0#32
  let v52 : BitVec 32 := Scalar.maxsi v51 c0_i32_24
  let v53 : BitVec 32 := Scalar.minsi c0_i32_25 v52
  let c512_i32_26 : BitVec 32 := 512#32
  let v54 : BitVec 32 := Scalar.muli v53 c512_i32_26
  let v55 : BitVec 32 := v54
  let v56 : Index := Scalar.indexCast v55
  let c0_28 : Index := 0#32
  ![0, v56.toNat, 0]
@[reducible] def k0_t1_loop (i : grid0.Coords) : Scf.Loop 32 :=
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_70 : BitVec 32 := 1#32
  ⟨c0_i32_68, v168, c1_i32_70⟩
def k0_mult3 (i : grid0.Coords) (k0_t1 : Fin (k0_t1_loop i).trips) : BitVec 32 :=
  let c2_i32_105 : BitVec 32 := 2#32
  let c0_i32_68 : BitVec 32 := 0#32
  let c1_i32_70 : BitVec 32 := 1#32
  let arg13 : BitVec 32 := Scf.iv c0_i32_68 c1_i32_70 k0_t1
  let v240 : BitVec 32 := Scalar.muli c2_i32_105 arg13
  let c1_i32_106 : BitVec 32 := 1#32
  let v241 : BitVec 32 := Scalar.addi v240 c1_i32_106
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_107 : BitVec 32 := 1#32
  let v242 : BitVec 32 := Scalar.subi v18 c1_i32_107
  let c0_i32_108 : BitVec 32 := 0#32
  let v243 : BitVec 32 := Scalar.maxsi v242 c0_i32_108
  let v244 : BitVec 32 := Scalar.minsi v241 v243
  let c512_i32_109 : BitVec 32 := 512#32
  let v245 : BitVec 32 := Scalar.muli v244 c512_i32_109
  v245
def k0_off3 (i : grid0.Coords) (k0_t1 : Fin (k0_t1_loop i).trips) : Fin 3 → Nat :=
  let c0_110 : Index := 0#32
  let c2_i32_105 : BitVec 32 := 2#32
  let c0_i32_68 : BitVec 32 := 0#32
  let c1_i32_70 : BitVec 32 := 1#32
  let arg13 : BitVec 32 := Scf.iv c0_i32_68 c1_i32_70 k0_t1
  let v240 : BitVec 32 := Scalar.muli c2_i32_105 arg13
  let c1_i32_106 : BitVec 32 := 1#32
  let v241 : BitVec 32 := Scalar.addi v240 c1_i32_106
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_107 : BitVec 32 := 1#32
  let v242 : BitVec 32 := Scalar.subi v18 c1_i32_107
  let c0_i32_108 : BitVec 32 := 0#32
  let v243 : BitVec 32 := Scalar.maxsi v242 c0_i32_108
  let v244 : BitVec 32 := Scalar.minsi v241 v243
  let c512_i32_109 : BitVec 32 := 512#32
  let v245 : BitVec 32 := Scalar.muli v244 c512_i32_109
  let v246 : BitVec 32 := v245
  let v247 : Index := Scalar.indexCast v246
  let c0_111 : Index := 0#32
  ![0, v247.toNat, 0]
def k0_mult4 (i : grid0.Coords) (k0_t1 : Fin (k0_t1_loop i).trips) : BitVec 32 :=
  let c2_i32_105 : BitVec 32 := 2#32
  let c0_i32_68 : BitVec 32 := 0#32
  let c1_i32_70 : BitVec 32 := 1#32
  let arg13 : BitVec 32 := Scf.iv c0_i32_68 c1_i32_70 k0_t1
  let v240 : BitVec 32 := Scalar.muli c2_i32_105 arg13
  let c0_i32_113 : BitVec 32 := 0#32
  let v251 : BitVec 1 := Scalar.cmpi .eq v240 c0_i32_113
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_114 : BitVec 32 := 1#32
  let v252 : BitVec 32 := Scalar.subi v240 c1_i32_114
  let v253 : BitVec 32 := Scalar.select v251 v18 v252
  let c512_i32_115 : BitVec 32 := 512#32
  let v254 : BitVec 32 := Scalar.muli v253 c512_i32_115
  v254
def k0_off4 (i : grid0.Coords) (k0_t1 : Fin (k0_t1_loop i).trips) : Fin 3 → Nat :=
  let c0_118 : Index := 0#32
  let c2_i32_105 : BitVec 32 := 2#32
  let c0_i32_68 : BitVec 32 := 0#32
  let c1_i32_70 : BitVec 32 := 1#32
  let arg13 : BitVec 32 := Scf.iv c0_i32_68 c1_i32_70 k0_t1
  let v240 : BitVec 32 := Scalar.muli c2_i32_105 arg13
  let c0_i32_113 : BitVec 32 := 0#32
  let v251 : BitVec 1 := Scalar.cmpi .eq v240 c0_i32_113
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_114 : BitVec 32 := 1#32
  let v252 : BitVec 32 := Scalar.subi v240 c1_i32_114
  let v253 : BitVec 32 := Scalar.select v251 v18 v252
  let c512_i32_115 : BitVec 32 := 512#32
  let v254 : BitVec 32 := Scalar.muli v253 c512_i32_115
  let v255 : BitVec 32 := v254
  let v257 : Index := Scalar.indexCast v255
  let c0_119 : Index := 0#32
  ![0, v257.toNat, 0]
def k0_cond1 (i : grid0.Coords) (k0_t1 : Fin (k0_t1_loop i).trips) : BitVec 1 :=
  let c0_i32_68 : BitVec 32 := 0#32
  let c1_i32_70 : BitVec 32 := 1#32
  let arg13 : BitVec 32 := Scf.iv c0_i32_68 c1_i32_70 k0_t1
  let c0_i32_138 : BitVec 32 := 0#32
  let v292 : BitVec 1 := Scalar.cmpi .sge arg13 c0_i32_138
  let v293 : BitVec 32 := Scalar.extui v292
  let c0_i32_139 : BitVec 32 := 0#32
  let v294 : BitVec 1 := Scalar.cmpi .ne v293 c0_i32_139
  v294

def k0_mult5 (i : grid0.Coords) (k0_t1 : Fin (k0_t1_loop i).trips) : BitVec 32 :=
  let c2_i32_140 : BitVec 32 := 2#32
  let c0_i32_68 : BitVec 32 := 0#32
  let c1_i32_70 : BitVec 32 := 1#32
  let arg13 : BitVec 32 := Scf.iv c0_i32_68 c1_i32_70 k0_t1
  let v295 : BitVec 32 := Scalar.muli c2_i32_140 arg13
  let c1_i32_141 : BitVec 32 := 1#32
  let v296 : BitVec 32 := Scalar.addi v295 c1_i32_141
  let c1_i32_142 : BitVec 32 := 1#32
  let v297 : BitVec 32 := Scalar.addi v296 c1_i32_142
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_143 : BitVec 32 := 1#32
  let v298 : BitVec 32 := Scalar.subi v18 c1_i32_143
  let c0_i32_144 : BitVec 32 := 0#32
  let v299 : BitVec 32 := Scalar.maxsi v298 c0_i32_144
  let v300 : BitVec 32 := Scalar.minsi v297 v299
  let c512_i32_145 : BitVec 32 := 512#32
  let v301 : BitVec 32 := Scalar.muli v300 c512_i32_145
  v301
def k0_off5 (i : grid0.Coords) (k0_t1 : Fin (k0_t1_loop i).trips) : Fin 3 → Nat :=
  let c0_146 : Index := 0#32
  let c2_i32_140 : BitVec 32 := 2#32
  let c0_i32_68 : BitVec 32 := 0#32
  let c1_i32_70 : BitVec 32 := 1#32
  let arg13 : BitVec 32 := Scf.iv c0_i32_68 c1_i32_70 k0_t1
  let v295 : BitVec 32 := Scalar.muli c2_i32_140 arg13
  let c1_i32_141 : BitVec 32 := 1#32
  let v296 : BitVec 32 := Scalar.addi v295 c1_i32_141
  let c1_i32_142 : BitVec 32 := 1#32
  let v297 : BitVec 32 := Scalar.addi v296 c1_i32_142
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_143 : BitVec 32 := 1#32
  let v298 : BitVec 32 := Scalar.subi v18 c1_i32_143
  let c0_i32_144 : BitVec 32 := 0#32
  let v299 : BitVec 32 := Scalar.maxsi v298 c0_i32_144
  let v300 : BitVec 32 := Scalar.minsi v297 v299
  let c512_i32_145 : BitVec 32 := 512#32
  let v301 : BitVec 32 := Scalar.muli v300 c512_i32_145
  let v302 : BitVec 32 := v301
  let v303 : Index := Scalar.indexCast v302
  let c0_147 : Index := 0#32
  ![0, v303.toNat, 0]
def k0_mult6 (i : grid0.Coords) (k0_t1 : Fin (k0_t1_loop i).trips) : BitVec 32 :=
  let c2_i32_140 : BitVec 32 := 2#32
  let c0_i32_68 : BitVec 32 := 0#32
  let c1_i32_70 : BitVec 32 := 1#32
  let arg13 : BitVec 32 := Scf.iv c0_i32_68 c1_i32_70 k0_t1
  let v295 : BitVec 32 := Scalar.muli c2_i32_140 arg13
  let c1_i32_141 : BitVec 32 := 1#32
  let v296 : BitVec 32 := Scalar.addi v295 c1_i32_141
  let c0_i32_149 : BitVec 32 := 0#32
  let v307 : BitVec 1 := Scalar.cmpi .eq v296 c0_i32_149
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_150 : BitVec 32 := 1#32
  let v308 : BitVec 32 := Scalar.subi v296 c1_i32_150
  let v309 : BitVec 32 := Scalar.select v307 v18 v308
  let c512_i32_151 : BitVec 32 := 512#32
  let v310 : BitVec 32 := Scalar.muli v309 c512_i32_151
  v310
def k0_off6 (i : grid0.Coords) (k0_t1 : Fin (k0_t1_loop i).trips) : Fin 3 → Nat :=
  let c0_154 : Index := 0#32
  let c2_i32_140 : BitVec 32 := 2#32
  let c0_i32_68 : BitVec 32 := 0#32
  let c1_i32_70 : BitVec 32 := 1#32
  let arg13 : BitVec 32 := Scf.iv c0_i32_68 c1_i32_70 k0_t1
  let v295 : BitVec 32 := Scalar.muli c2_i32_140 arg13
  let c1_i32_141 : BitVec 32 := 1#32
  let v296 : BitVec 32 := Scalar.addi v295 c1_i32_141
  let c0_i32_149 : BitVec 32 := 0#32
  let v307 : BitVec 1 := Scalar.cmpi .eq v296 c0_i32_149
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_150 : BitVec 32 := 1#32
  let v308 : BitVec 32 := Scalar.subi v296 c1_i32_150
  let v309 : BitVec 32 := Scalar.select v307 v18 v308
  let c512_i32_151 : BitVec 32 := 512#32
  let v310 : BitVec 32 := Scalar.muli v309 c512_i32_151
  let v311 : BitVec 32 := v310
  let v313 : Index := Scalar.indexCast v311
  let c0_155 : Index := 0#32
  ![0, v313.toNat, 0]
@[reducible] def k0_t2_loop (i : grid0.Coords) : Scf.Loop 32 :=
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let v165 : BitVec 32 := Scalar.addi c0_i32_68 v164
  let c1_i32_71 : BitVec 32 := 1#32
  ⟨v168, v165, c1_i32_71⟩
def k0_mult7 (i : grid0.Coords) (k0_t2 : Fin (k0_t2_loop i).trips) : BitVec 32 :=
  let c2_i32_105 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v240 : BitVec 32 := Scalar.muli c2_i32_105 arg13
  let c1_i32_106 : BitVec 32 := 1#32
  let v241 : BitVec 32 := Scalar.addi v240 c1_i32_106
  let c1_i32_107 : BitVec 32 := 1#32
  let v242 : BitVec 32 := Scalar.subi v18 c1_i32_107
  let c0_i32_108 : BitVec 32 := 0#32
  let v243 : BitVec 32 := Scalar.maxsi v242 c0_i32_108
  let v244 : BitVec 32 := Scalar.minsi v241 v243
  let c512_i32_109 : BitVec 32 := 512#32
  let v245 : BitVec 32 := Scalar.muli v244 c512_i32_109
  v245
def k0_off7 (i : grid0.Coords) (k0_t2 : Fin (k0_t2_loop i).trips) : Fin 3 → Nat :=
  let c0_110 : Index := 0#32
  let c2_i32_105 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v240 : BitVec 32 := Scalar.muli c2_i32_105 arg13
  let c1_i32_106 : BitVec 32 := 1#32
  let v241 : BitVec 32 := Scalar.addi v240 c1_i32_106
  let c1_i32_107 : BitVec 32 := 1#32
  let v242 : BitVec 32 := Scalar.subi v18 c1_i32_107
  let c0_i32_108 : BitVec 32 := 0#32
  let v243 : BitVec 32 := Scalar.maxsi v242 c0_i32_108
  let v244 : BitVec 32 := Scalar.minsi v241 v243
  let c512_i32_109 : BitVec 32 := 512#32
  let v245 : BitVec 32 := Scalar.muli v244 c512_i32_109
  let v246 : BitVec 32 := v245
  let v247 : Index := Scalar.indexCast v246
  let c0_111 : Index := 0#32
  ![0, v247.toNat, 0]
def k0_mult8 (i : grid0.Coords) (k0_t2 : Fin (k0_t2_loop i).trips) : BitVec 32 :=
  let c2_i32_105 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v240 : BitVec 32 := Scalar.muli c2_i32_105 arg13
  let c0_i32_113 : BitVec 32 := 0#32
  let v251 : BitVec 1 := Scalar.cmpi .eq v240 c0_i32_113
  let c1_i32_114 : BitVec 32 := 1#32
  let v252 : BitVec 32 := Scalar.subi v240 c1_i32_114
  let v253 : BitVec 32 := Scalar.select v251 v18 v252
  let c512_i32_115 : BitVec 32 := 512#32
  let v254 : BitVec 32 := Scalar.muli v253 c512_i32_115
  v254
def k0_off8 (i : grid0.Coords) (k0_t2 : Fin (k0_t2_loop i).trips) : Fin 3 → Nat :=
  let c0_118 : Index := 0#32
  let c2_i32_105 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v240 : BitVec 32 := Scalar.muli c2_i32_105 arg13
  let c0_i32_113 : BitVec 32 := 0#32
  let v251 : BitVec 1 := Scalar.cmpi .eq v240 c0_i32_113
  let c1_i32_114 : BitVec 32 := 1#32
  let v252 : BitVec 32 := Scalar.subi v240 c1_i32_114
  let v253 : BitVec 32 := Scalar.select v251 v18 v252
  let c512_i32_115 : BitVec 32 := 512#32
  let v254 : BitVec 32 := Scalar.muli v253 c512_i32_115
  let v255 : BitVec 32 := v254
  let v257 : Index := Scalar.indexCast v255
  let c0_119 : Index := 0#32
  ![0, v257.toNat, 0]
def k0_cond2 (i : grid0.Coords) (k0_t2 : Fin (k0_t2_loop i).trips) : BitVec 1 :=
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let c0_i32_138 : BitVec 32 := 0#32
  let v292 : BitVec 1 := Scalar.cmpi .sge arg13 c0_i32_138
  let v293 : BitVec 32 := Scalar.extui v292
  let c0_i32_139 : BitVec 32 := 0#32
  let v294 : BitVec 1 := Scalar.cmpi .ne v293 c0_i32_139
  v294

def k0_mult9 (i : grid0.Coords) (k0_t2 : Fin (k0_t2_loop i).trips) : BitVec 32 :=
  let c2_i32_140 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v295 : BitVec 32 := Scalar.muli c2_i32_140 arg13
  let c1_i32_141 : BitVec 32 := 1#32
  let v296 : BitVec 32 := Scalar.addi v295 c1_i32_141
  let c1_i32_142 : BitVec 32 := 1#32
  let v297 : BitVec 32 := Scalar.addi v296 c1_i32_142
  let c1_i32_143 : BitVec 32 := 1#32
  let v298 : BitVec 32 := Scalar.subi v18 c1_i32_143
  let c0_i32_144 : BitVec 32 := 0#32
  let v299 : BitVec 32 := Scalar.maxsi v298 c0_i32_144
  let v300 : BitVec 32 := Scalar.minsi v297 v299
  let c512_i32_145 : BitVec 32 := 512#32
  let v301 : BitVec 32 := Scalar.muli v300 c512_i32_145
  v301
def k0_off9 (i : grid0.Coords) (k0_t2 : Fin (k0_t2_loop i).trips) : Fin 3 → Nat :=
  let c0_146 : Index := 0#32
  let c2_i32_140 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v295 : BitVec 32 := Scalar.muli c2_i32_140 arg13
  let c1_i32_141 : BitVec 32 := 1#32
  let v296 : BitVec 32 := Scalar.addi v295 c1_i32_141
  let c1_i32_142 : BitVec 32 := 1#32
  let v297 : BitVec 32 := Scalar.addi v296 c1_i32_142
  let c1_i32_143 : BitVec 32 := 1#32
  let v298 : BitVec 32 := Scalar.subi v18 c1_i32_143
  let c0_i32_144 : BitVec 32 := 0#32
  let v299 : BitVec 32 := Scalar.maxsi v298 c0_i32_144
  let v300 : BitVec 32 := Scalar.minsi v297 v299
  let c512_i32_145 : BitVec 32 := 512#32
  let v301 : BitVec 32 := Scalar.muli v300 c512_i32_145
  let v302 : BitVec 32 := v301
  let v303 : Index := Scalar.indexCast v302
  let c0_147 : Index := 0#32
  ![0, v303.toNat, 0]
def k0_mult10 (i : grid0.Coords) (k0_t2 : Fin (k0_t2_loop i).trips) : BitVec 32 :=
  let c2_i32_140 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v295 : BitVec 32 := Scalar.muli c2_i32_140 arg13
  let c1_i32_141 : BitVec 32 := 1#32
  let v296 : BitVec 32 := Scalar.addi v295 c1_i32_141
  let c0_i32_149 : BitVec 32 := 0#32
  let v307 : BitVec 1 := Scalar.cmpi .eq v296 c0_i32_149
  let c1_i32_150 : BitVec 32 := 1#32
  let v308 : BitVec 32 := Scalar.subi v296 c1_i32_150
  let v309 : BitVec 32 := Scalar.select v307 v18 v308
  let c512_i32_151 : BitVec 32 := 512#32
  let v310 : BitVec 32 := Scalar.muli v309 c512_i32_151
  v310
def k0_off10 (i : grid0.Coords) (k0_t2 : Fin (k0_t2_loop i).trips) : Fin 3 → Nat :=
  let c0_154 : Index := 0#32
  let c2_i32_140 : BitVec 32 := 2#32
  let c0_i32_68 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_61 : BitVec 32 := 0#32
  let v148 : BitVec 1 := Scalar.cmpi .sgt v18 c0_i32_61
  let v149 : BitVec 32 := Scalar.extui v148
  let c0_i32_62 : BitVec 32 := 0#32
  let v150 : BitVec 1 := Scalar.cmpi .slt v18 c0_i32_62
  let v151 : BitVec 32 := Scalar.extui v150
  let v152 : BitVec 32 := Scalar.subi v149 v151
  let c2_i32 : BitVec 32 := 2#32
  let c0_i32_63 : BitVec 32 := 0#32
  let v153 : BitVec 1 := Scalar.cmpi .sgt c2_i32 c0_i32_63
  let v154 : BitVec 32 := Scalar.extui v153
  let c0_i32_64 : BitVec 32 := 0#32
  let v155 : BitVec 1 := Scalar.cmpi .slt c2_i32 c0_i32_64
  let v156 : BitVec 32 := Scalar.extui v155
  let v157 : BitVec 32 := Scalar.subi v154 v156
  let v158 : BitVec 1 := Scalar.cmpi .ne v152 v157
  let v159 : BitVec 32 := Scalar.remsi v18 c2_i32
  let c0_i32_65 : BitVec 32 := 0#32
  let v160 : BitVec 1 := Scalar.cmpi .ne v159 c0_i32_65
  let v161 : BitVec 1 := Scalar.andi v158 v160
  let v147 : BitVec 32 := Scalar.divsi v18 c2_i32
  let c1_i32_66 : BitVec 32 := 1#32
  let v162 : BitVec 32 := Scalar.subi v147 c1_i32_66
  let v163 : BitVec 32 := Scalar.select v161 v162 v147
  let v164 : BitVec 32 := Scalar.subi v163 c0_i32_68
  let c1_i32_69 : BitVec 32 := 1#32
  let v166 : BitVec 32 := Scalar.divsi v164 c1_i32_69
  let v167 : BitVec 32 := Scalar.muli v166 c1_i32_69
  let v168 : BitVec 32 := Scalar.addi c0_i32_68 v167
  let c1_i32_71 : BitVec 32 := 1#32
  let arg13 : BitVec 32 := Scf.iv v168 c1_i32_71 k0_t2
  let v295 : BitVec 32 := Scalar.muli c2_i32_140 arg13
  let c1_i32_141 : BitVec 32 := 1#32
  let v296 : BitVec 32 := Scalar.addi v295 c1_i32_141
  let c0_i32_149 : BitVec 32 := 0#32
  let v307 : BitVec 1 := Scalar.cmpi .eq v296 c0_i32_149
  let c1_i32_150 : BitVec 32 := 1#32
  let v308 : BitVec 32 := Scalar.subi v296 c1_i32_150
  let v309 : BitVec 32 := Scalar.select v307 v18 v308
  let c512_i32_151 : BitVec 32 := 512#32
  let v310 : BitVec 32 := Scalar.muli v309 c512_i32_151
  let v311 : BitVec 32 := v310
  let v313 : Index := Scalar.indexCast v311
  let c0_155 : Index := 0#32
  ![0, v313.toNat, 0]
def k0_cond3 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c2_i32_72 : BitVec 32 := 2#32
  let c0_i32_73 : BitVec 32 := 0#32
  let v169 : BitVec 1 := Scalar.cmpi .eq c2_i32_72 c0_i32_73
  let c1_i32_74 : BitVec 32 := 1#32
  let v170 : BitVec 32 := Scalar.select v169 c1_i32_74 c2_i32_72
  let v171 : BitVec 32 := Scalar.remsi v18 v170
  let c0_i32_76 : BitVec 32 := 0#32
  let v173 : BitVec 1 := Scalar.cmpi .slt v171 c0_i32_76
  let c0_i32_77 : BitVec 32 := 0#32
  let v174 : BitVec 1 := Scalar.cmpi .slt v170 c0_i32_77
  let v175 : BitVec 1 := Scalar.xori v173 v174
  let c0_i32_75 : BitVec 32 := 0#32
  let v172 : BitVec 1 := Scalar.cmpi .ne v171 c0_i32_75
  let v176 : BitVec 1 := Scalar.andi v175 v172
  let v177 : BitVec 32 := Scalar.addi v171 v170
  let v178 : BitVec 32 := Scalar.select v176 v177 v171
  let c1_i32_78 : BitVec 32 := 1#32
  let v179 : BitVec 1 := Scalar.cmpi .eq v178 c1_i32_78
  let v180 : BitVec 32 := Scalar.extui v179
  let c0_i32_79 : BitVec 32 := 0#32
  let v181 : BitVec 1 := Scalar.cmpi .ne v180 c0_i32_79
  v181

def k0_mult11 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_105 : BitVec 32 := 1#32
  let v240 : BitVec 32 := Scalar.subi v18 c1_i32_105
  let c1_i32_106 : BitVec 32 := 1#32
  let v241 : BitVec 32 := Scalar.addi v240 c1_i32_106
  let c1_i32_107 : BitVec 32 := 1#32
  let v242 : BitVec 32 := Scalar.subi v18 c1_i32_107
  let c0_i32_108 : BitVec 32 := 0#32
  let v243 : BitVec 32 := Scalar.maxsi v242 c0_i32_108
  let v244 : BitVec 32 := Scalar.minsi v241 v243
  let c512_i32_109 : BitVec 32 := 512#32
  let v245 : BitVec 32 := Scalar.muli v244 c512_i32_109
  v245
def k0_off11 (i : grid0.Coords) : Fin 3 → Nat :=
  let c0_110 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_105 : BitVec 32 := 1#32
  let v240 : BitVec 32 := Scalar.subi v18 c1_i32_105
  let c1_i32_106 : BitVec 32 := 1#32
  let v241 : BitVec 32 := Scalar.addi v240 c1_i32_106
  let c1_i32_107 : BitVec 32 := 1#32
  let v242 : BitVec 32 := Scalar.subi v18 c1_i32_107
  let c0_i32_108 : BitVec 32 := 0#32
  let v243 : BitVec 32 := Scalar.maxsi v242 c0_i32_108
  let v244 : BitVec 32 := Scalar.minsi v241 v243
  let c512_i32_109 : BitVec 32 := 512#32
  let v245 : BitVec 32 := Scalar.muli v244 c512_i32_109
  let v246 : BitVec 32 := v245
  let v247 : Index := Scalar.indexCast v246
  let c0_111 : Index := 0#32
  ![0, v247.toNat, 0]
def k0_mult12 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_105 : BitVec 32 := 1#32
  let v240 : BitVec 32 := Scalar.subi v18 c1_i32_105
  let c0_i32_113 : BitVec 32 := 0#32
  let v251 : BitVec 1 := Scalar.cmpi .eq v240 c0_i32_113
  let c1_i32_114 : BitVec 32 := 1#32
  let v252 : BitVec 32 := Scalar.subi v240 c1_i32_114
  let v253 : BitVec 32 := Scalar.select v251 v18 v252
  let c512_i32_115 : BitVec 32 := 512#32
  let v254 : BitVec 32 := Scalar.muli v253 c512_i32_115
  v254
def k0_off12 (i : grid0.Coords) : Fin 3 → Nat :=
  let c0_118 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_105 : BitVec 32 := 1#32
  let v240 : BitVec 32 := Scalar.subi v18 c1_i32_105
  let c0_i32_113 : BitVec 32 := 0#32
  let v251 : BitVec 1 := Scalar.cmpi .eq v240 c0_i32_113
  let c1_i32_114 : BitVec 32 := 1#32
  let v252 : BitVec 32 := Scalar.subi v240 c1_i32_114
  let v253 : BitVec 32 := Scalar.select v251 v18 v252
  let c512_i32_115 : BitVec 32 := 512#32
  let v254 : BitVec 32 := Scalar.muli v253 c512_i32_115
  let v255 : BitVec 32 := v254
  let v257 : Index := Scalar.indexCast v255
  let c0_119 : Index := 0#32
  ![0, v257.toNat, 0]
def k0_mult13 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_80 : BitVec 32 := 0#32
  let v182 : BitVec 1 := Scalar.cmpi .eq v18 c0_i32_80
  let c1_i32_81 : BitVec 32 := 1#32
  let v183 : BitVec 32 := Scalar.subi v18 c1_i32_81
  let v184 : BitVec 32 := Scalar.select v182 v18 v183
  let c512_i32_82 : BitVec 32 := 512#32
  let v185 : BitVec 32 := Scalar.muli v184 c512_i32_82
  v185
def k0_off13 (i : grid0.Coords) : Fin 3 → Nat :=
  let c0_87 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_80 : BitVec 32 := 0#32
  let v182 : BitVec 1 := Scalar.cmpi .eq v18 c0_i32_80
  let c1_i32_81 : BitVec 32 := 1#32
  let v183 : BitVec 32 := Scalar.subi v18 c1_i32_81
  let v184 : BitVec 32 := Scalar.select v182 v18 v183
  let c512_i32_82 : BitVec 32 := 512#32
  let v185 : BitVec 32 := Scalar.muli v184 c512_i32_82
  let v186 : BitVec 32 := v185
  let v189 : Index := Scalar.indexCast v186
  let c0_88 : Index := 0#32
  ![0, v189.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some ((8⁻¹ * (Real.log 2)⁻¹ : ℝ) : EReal)
  | _ => none
-- ==== ReferenceIdeal.lean ====
abbrev S2x8192x8x2x64 : Shape := ⟨5, ![2, 8192, 8, 2, 64]⟩
abbrev S2x8192x8x128 : Shape := ⟨4, ![2, 8192, 8, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩
abbrev S2x8192x1024 : Shape := ⟨3, ![2, 8192, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .i32⟩
  | .hbm, ⟨26, _⟩ => ⟨S2x8x2x8192x8192, .f32⟩
  | .hbm, ⟨27, _⟩ => ⟨S_, .f32⟩
  | .hbm, ⟨28, _⟩ => ⟨S2x8x2x8192x8192, .f32⟩
  | .hbm, ⟨29, _⟩ => ⟨S2x8x2x8192x8192, .f32⟩
  | .hbm, ⟨30, _⟩ => ⟨S_, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S1x8192, .i32⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S8192x8192, .i32⟩
  | .hbm, ⟨69, _⟩ => ⟨S8192x8192, .i32⟩
  | .hbm, ⟨70, _⟩ => ⟨S8192x8192, .i1⟩
  | .hbm, ⟨71, _⟩ => ⟨S_, .f32⟩
  | .hbm, ⟨72, _⟩ => ⟨S_, .f32⟩
  | .hbm, ⟨73, _⟩ => ⟨S2x8x2x8192x8192, .i1⟩
  | .hbm, ⟨74, _⟩ => ⟨S2x8x2x8192x8192, .f32⟩
  | .hbm, ⟨75, _⟩ => ⟨S2x8x2x8192x8192, .f32⟩
  | .hbm, ⟨76, _⟩ => ⟨S_, .f32⟩
  | .hbm, ⟨77, _⟩ => ⟨S2x8x2x8192, .f32⟩
  | .hbm, ⟨78, _⟩ => ⟨S_, .f32⟩
  | .hbm, ⟨79, _⟩ => ⟨S2x8x2x8192, .f32⟩
  | .hbm, ⟨80, _⟩ => ⟨S2x8x2x8192, .f32⟩
  | .hbm, ⟨81, _⟩ => ⟨S2x8x2x8192x1, .f32⟩
  | .hbm, ⟨82, _⟩ => ⟨S2x8x2x8192x8192, .f32⟩
  | .hbm, ⟨83, _⟩ => ⟨S2x8x2x8192x8192, .f32⟩
  | .hbm, ⟨84, _⟩ => ⟨S2x8x2x8192x8192, .f32⟩
  | .hbm, ⟨85, _⟩ => ⟨S_, .f32⟩
  | .hbm, ⟨86, _⟩ => ⟨S2x8x2x8192, .f32⟩
  | .hbm, ⟨87, _⟩ => ⟨S2x8x2x8192x1, .f32⟩
  | .hbm, ⟨88, _⟩ => ⟨S2x8x2x8192x8192, .f32⟩
  | .hbm, ⟨89, _⟩ => ⟨S2x8x2x8192x8192, .f32⟩
  | .hbm, ⟨90, _⟩ => ⟨S2x8x1x8192x8192, .f32⟩
  | .hbm, ⟨91, _⟩ => ⟨S2x8x8192x8192, .f32⟩
  | .hbm, ⟨92, _⟩ => ⟨S2x8x1x8192x8192, .f32⟩
  | .hbm, ⟨93, _⟩ => ⟨S2x8x8192x8192, .f32⟩
  | .hbm, ⟨94, _⟩ => ⟨S2x8x8192x8192, .f32⟩
  | .hbm, ⟨95, _⟩ => ⟨S2x8x8192x8192, .f32⟩
  | .hbm, ⟨96, _⟩ => ⟨S2x8x8192x8192, .f32⟩
  | .hbm, ⟨97, _⟩ => ⟨S2x8x128x8192, .f32⟩
  | .hbm, ⟨98, _⟩ => ⟨S2x8192x8x128, .f32⟩
  | .hbm, ⟨99, _⟩ => ⟨S2x8192x8x128, .f32⟩
  | .hbm, ⟨100, _⟩ => ⟨S_, .f32⟩
  | .hbm, ⟨101, _⟩ => ⟨S2x8192x8, .f32⟩
  | .hbm, ⟨102, _⟩ => ⟨S2x8192x8x1, .f32⟩
  | .hbm, ⟨103, _⟩ => ⟨S_, .f32⟩
  | .hbm, ⟨104, _⟩ => ⟨S2x8192x8x1, .f32⟩
  | .hbm, ⟨105, _⟩ => ⟨S2x8192x8x1, .f32⟩
  | .hbm, ⟨106, _⟩ => ⟨S_, .f32⟩
  | .hbm, ⟨107, _⟩ => ⟨S2x8192x8x1, .f32⟩
  | .hbm, ⟨108, _⟩ => ⟨S2x8192x8x1, .f32⟩
  | .hbm, ⟨109, _⟩ => ⟨S2x8192x8x1, .f32⟩
  | .hbm, ⟨110, _⟩ => ⟨S2x8192x8x128, .f32⟩
  | .hbm, ⟨111, _⟩ => ⟨S2x8192x8x128, .f32⟩
  | .hbm, ⟨112, _⟩ => ⟨S128, .f32⟩
  | .hbm, ⟨113, _⟩ => ⟨S1x1x1x128, .f32⟩
  | .hbm, ⟨114, _⟩ => ⟨S2x8192x8x128, .f32⟩
  | .hbm, ⟨115, _⟩ => ⟨S2x8192x8x128, .f32⟩
  | .hbm, ⟨116, _⟩ => ⟨S_, .f32⟩
  | .hbm, ⟨117, _⟩ => ⟨S2x8192x8x128, .f32⟩
  | .hbm, ⟨118, _⟩ => ⟨S2x8192x8x128, .f32⟩
  | .hbm, ⟨119, _⟩ => ⟨S2x8192x1024, .f32⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_4 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v28 : Ref sig .tc := ⟨.hbm, 75, rfl⟩
abbrev main_cst_5 : Ref sig .tc := ⟨.hbm, 76, rfl⟩
abbrev main_v29 : Ref sig .tc := ⟨.hbm, 77, rfl⟩
abbrev main_cst_6 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_7 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_8 : Ref sig .tc := ⟨.hbm, 100, rfl⟩
abbrev main_v50 : Ref sig .tc := ⟨.hbm, 101, rfl⟩
abbrev main_v51 : Ref sig .tc := ⟨.hbm, 102, rfl⟩
abbrev main_cst_9 : Ref sig .tc := ⟨.hbm, 103, rfl⟩
abbrev main_v52 : Ref sig .tc := ⟨.hbm, 104, rfl⟩
abbrev main_v53 : Ref sig .tc := ⟨.hbm, 105, rfl⟩
abbrev main_cst_10 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_11 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩

abbrev nD : Nat := 1
abbrev τ : Topo := Topo.v7x

variable {F : FTy → Type} [FloatOps F]
-- ==== Mixed.lean ====
abbrev S2x8192x1024 : Shape := ⟨3, ![2, 8192, 1024]⟩
abbrev S2x9216 : Shape := ⟨2, ![2, 9216]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x1024x1024 : Shape := ⟨3, ![1, 1024, 1024]⟩
abbrev S2x1024 : Shape := ⟨2, ![2, 1024]⟩
abbrev S2x1x1024 : Shape := ⟨3, ![2, 1, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S1024x1024 : Shape := ⟨2, ![1024, 1024]⟩
abbrev S1x512x1024 : Shape := ⟨3, ![1, 512, 1024]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1x512 : Shape := ⟨2, ![1, 512]⟩
abbrev S1x512x1 : Shape := ⟨3, ![1, 512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 41
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x9216, .f32⟩
  | .hbm, ⟨3, _⟩ => ⟨S2x6x1024, .f32⟩
  | .hbm, ⟨4, _⟩ => ⟨S2x2x1024x5632, .f32⟩
  | .hbm, ⟨5, _⟩ => ⟨S2x2x2816x1024, .f32⟩
  | .hbm, ⟨6, _⟩ => ⟨S1x1024x1024, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S1x6x1024, .f32⟩
  | .hbm, ⟨26, _⟩ => ⟨S6x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S2x2x1024x5632, .bf16⟩
  | .hbm, ⟨34, _⟩ => ⟨S2x2x2816x1024, .bf16⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024x2816, .bf16⟩
  | .local _ .vmem, ⟨17, _⟩ => ⟨S1x1x1024x2816, .bf16⟩
  | .local _ .vmem, ⟨18, _⟩ => ⟨S1x1x2816x1024, .bf16⟩
  | .local _ .vmem, ⟨19, _⟩ => ⟨S1x512x1024, .f32⟩
  | .local _ .vmem, ⟨20, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c1_i32_1 : BitVec 32 := 1#32
  let c0_i32_2 : BitVec 32 := 0#32
  ![c1_i32.toNat, c1_i32_0.toNat, c0_i32.toNat, c1_i32_1.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixedRefIdeal.lean ====
abbrev S2x8192x1024 : Shape := ⟨3, ![2, 8192, 1024]⟩
abbrev S2x9216 : Shape := ⟨2, ![2, 9216]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x1024x1024 : Shape := ⟨3, ![1, 1024, 1024]⟩
abbrev S2x1x9216 : Shape := ⟨3, ![2, 1, 9216]⟩
abbrev S2x1x1024 : Shape := ⟨3, ![2, 1, 1024]⟩
abbrev S1x6x1024 : Shape := ⟨3, ![1, 6, 1024]⟩
abbrev S6x1024 : Shape := ⟨2, ![6, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x9216, .f32⟩
  | .hbm, ⟨3, _⟩ => ⟨S2x6x1024, .f32⟩
  | .hbm, ⟨4, _⟩ => ⟨S2x2x1024x5632, .f32⟩
  | .hbm, ⟨5, _⟩ => ⟨S2x2x2816x1024, .f32⟩
  | .hbm, ⟨6, _⟩ => ⟨S1x1024x1024, .f32⟩
  | .hbm, ⟨7, _⟩ => ⟨S2x1x9216, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S1x6x1024, .f32⟩
  | .hbm, ⟨18, _⟩ => ⟨S6x1024, .f32⟩
  | .hbm, ⟨19, _⟩ => ⟨S1024x1024, .f32⟩
  | .hbm, ⟨20, _⟩ => ⟨S2x8192x1024, .f32⟩
  | .hbm, ⟨21, _⟩ => ⟨S1x1024, .f32⟩
  | .hbm, ⟨22, _⟩ => ⟨S1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S1x1024, .f32⟩
  | .hbm, ⟨43, _⟩ => ⟨S1024, .f32⟩
  | .hbm, ⟨44, _⟩ => ⟨S2x8192x1024, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S_, .f32⟩
  | .hbm, ⟨68, _⟩ => ⟨S2x1x1024, .f32⟩
  | .hbm, ⟨69, _⟩ => ⟨S2x1x1024, .f32⟩
  | .hbm, ⟨70, _⟩ => ⟨S1x1x1024x5632, .f32⟩
  | .hbm, ⟨71, _⟩ => ⟨S1024x5632, .f32⟩
  | .hbm, ⟨72, _⟩ => ⟨S1x1x2816x1024, .f32⟩
  | .hbm, ⟨73, _⟩ => ⟨S2816x1024, .f32⟩
  | .hbm, ⟨74, _⟩ => ⟨S2x8192x5632, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S_, .f32⟩
  | .hbm, ⟨80, _⟩ => ⟨S2x8192x2816, .f32⟩
  | .hbm, ⟨81, _⟩ => ⟨S2x8192x2816, .f32⟩
  | .hbm, ⟨82, _⟩ => ⟨S_, .f32⟩
  | .hbm, ⟨83, _⟩ => ⟨S2x8192x2816, .f32⟩
  | .hbm, ⟨84, _⟩ => ⟨S2x8192x2816, .f32⟩
  | .hbm, ⟨85, _⟩ => ⟨S2x8192x2816, .f32⟩
  | .hbm, ⟨86, _⟩ => ⟨S2x8192x2816, .f32⟩
  | .hbm, ⟨87, _⟩ => ⟨S2x8192x1024, .f32⟩
  | .hbm, ⟨88, _⟩ => ⟨S1x1024, .f32⟩
  | .hbm, ⟨89, _⟩ => ⟨S1024, .f32⟩
  | .hbm, ⟨90, _⟩ => ⟨S2x8192x1024, .f32⟩
  | .hbm, ⟨91, _⟩ => ⟨S_, .f32⟩
  | .hbm, ⟨92, _⟩ => ⟨S2x8192, .f32⟩
  | .hbm, ⟨93, _⟩ => ⟨S2x8192x1, .f32⟩
  | .hbm, ⟨94, _⟩ => ⟨S_, .f32⟩
  | .hbm, ⟨95, _⟩ => ⟨S2x8192x1, .f32⟩
  | .hbm, ⟨96, _⟩ => ⟨S2x8192x1, .f32⟩
  | .hbm, ⟨97, _⟩ => ⟨S_, .f32⟩
  | .hbm, ⟨98, _⟩ => ⟨S2x8192x1, .f32⟩
  | .hbm, ⟨99, _⟩ => ⟨S2x8192x1, .f32⟩
  | .hbm, ⟨100, _⟩ => ⟨S2x8192x1, .f32⟩
  | .hbm, ⟨101, _⟩ => ⟨S2x8192x1024, .f32⟩
  | .hbm, ⟨102, _⟩ => ⟨S2x8192x1024, .f32⟩
  | .hbm, ⟨103, _⟩ => ⟨S1x1x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Plain.lean ====
abbrev S2x8192x1024 : Shape := ⟨3, ![2, 8192, 1024]⟩
abbrev S2x9216 : Shape := ⟨2, ![2, 9216]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S2x1024 : Shape := ⟨2, ![2, 1024]⟩
abbrev S2x1x1024 : Shape := ⟨3, ![2, 1, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S1x512x1024 : Shape := ⟨3, ![1, 512, 1024]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S1x512 : Shape := ⟨2, ![1, 512]⟩
abbrev S1x512x1 : Shape := ⟨3, ![1, 512, 1]⟩
abbrev S512x1024 : Shape := ⟨2, ![512, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 34
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S2x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S1x6x1024, .f32⟩
  | .hbm, ⟨24, _⟩ => ⟨S6x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2x2x1024x5632, .bf16⟩
  | .hbm, ⟨32, _⟩ => ⟨S2x2x2816x1024, .bf16⟩
  | .hbm, ⟨33, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x1x1024x2816, .bf16⟩
  | .local _ .vmem, ⟨11, _⟩ => ⟨S1x1x1024x2816, .bf16⟩
  | .local _ .vmem, ⟨12, _⟩ => ⟨S1x1x2816x1024, .bf16⟩
  | .local _ .vmem, ⟨13, _⟩ => ⟨S1x512x1024, .f32⟩
  | .local _ .vmem, ⟨14, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c1_i32 : BitVec 32 := 1#32
  let c0_i32_2 : BitVec 32 := 0#32
  ![c0_i32.toNat, c0_i32_0.toNat, c0_i32_1.toNat, c1_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PlainRefIdeal.lean ====
abbrev S2x8192x1024 : Shape := ⟨3, ![2, 8192, 1024]⟩
abbrev S2x9216 : Shape := ⟨2, ![2, 9216]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S2x1x9216 : Shape := ⟨3, ![2, 1, 9216]⟩
abbrev S2x1x1024 : Shape := ⟨3, ![2, 1, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S2x1x9216, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1x6x1024, .f32⟩
  | .hbm, ⟨16, _⟩ => ⟨S6x1024, .f32⟩
  | .hbm, ⟨17, _⟩ => ⟨S1x1024, .f32⟩
  | .hbm, ⟨18, _⟩ => ⟨S1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S1x1x1024x5632, .f32⟩
  | .hbm, ⟨46, _⟩ => ⟨S1024x5632, .f32⟩
  | .hbm, ⟨47, _⟩ => ⟨S1x1x2816x1024, .f32⟩
  | .hbm, ⟨48, _⟩ => ⟨S2816x1024, .f32⟩
  | .hbm, ⟨49, _⟩ => ⟨S2x8192x5632, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S_, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2x8192x1024, .f32⟩
  | .hbm, ⟨63, _⟩ => ⟨S1x1024, .f32⟩
  | .hbm, ⟨64, _⟩ => ⟨S1024, .f32⟩
  | .hbm, ⟨65, _⟩ => ⟨S2x8192x1024, .f32⟩
  | .hbm, ⟨66, _⟩ => ⟨S_, .f32⟩
  | .hbm, ⟨67, _⟩ => ⟨S2x8192, .f32⟩
  | .hbm, ⟨68, _⟩ => ⟨S2x8192x1, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x1, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== KeyValue.lean ====
abbrev S2x8192x1024 : Shape := ⟨3, ![2, 8192, 1024]⟩
abbrev S2x2048 : Shape := ⟨2, ![2, 2048]⟩
abbrev S1024 : Shape := ⟨1, ![1024]⟩
abbrev S1024x2048 : Shape := ⟨2, ![1024, 2048]⟩
abbrev S8192 : Shape := ⟨1, ![8192]⟩
abbrev S2x1024 : Shape := ⟨2, ![2, 1024]⟩
abbrev S2x1x1024 : Shape := ⟨3, ![2, 1, 1024]⟩
abbrev S1x1024 : Shape := ⟨2, ![1, 1024]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S1x512x1024 : Shape := ⟨3, ![1, 512, 1024]⟩
abbrev S1x1x1024 : Shape := ⟨3, ![1, 1, 1024]⟩
abbrev S512x16 : Shape := ⟨2, ![512, 16]⟩
abbrev S1x512 : Shape := ⟨2, ![1, 512]⟩
abbrev S1x512x1 : Shape := ⟨3, ![1, 512, 1]⟩
abbrev S512x1024 : Shape := ⟨2, ![512, 1024]⟩
abbrev S512x2048 : Shape := ⟨2, ![512, 2048]⟩
abbrev S16x384 : Shape := ⟨2, ![16, 384]⟩
abbrev S512x384 : Shape := ⟨2, ![512, 384]⟩
abbrev S1x128 : Shape := ⟨2, ![1, 128]⟩
abbrev S512x128 : Shape := ⟨2, ![512, 128]⟩

abbrev nBuf : Space → Nat
  | .hbm => 35
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x2048, .f32⟩
  | .hbm, ⟨2, _⟩ => ⟨S1024, .f32⟩
  | .hbm, ⟨3, _⟩ => ⟨S1024x2048, .f32⟩
  | .hbm, ⟨4, _⟩ => ⟨S8192, .i32⟩
  | .hbm, ⟨5, _⟩ => ⟨S2x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S1x1024, .f32⟩
  | .hbm, ⟨10, _⟩ => ⟨S1024x2048, .bf16⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8192, .f32⟩
  | .hbm, ⟨23, _⟩ => ⟨S8192x1, .f32⟩
  | .hbm, ⟨24, _⟩ => ⟨S1x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x16, .f32⟩
  | .hbm, ⟨31, _⟩ => ⟨S2x8192x1024, .f32⟩
  | .hbm, ⟨32, _⟩ => ⟨S2x8192x1024, .f32⟩
  | .hbm, ⟨33, _⟩ => ⟨S2x8192x1024, .bf16⟩
  | .hbm, ⟨34, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S512x16, .f32⟩
  | .local _ .vmem, ⟨9, _⟩ => ⟨S512x16, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v24_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KeyValueRefIdeal.lean ====
abbrev S2x8192x1024 : Shape := ⟨3, ![2, 8192, 1024]⟩
abbrev S2x2048 : Shape := ⟨2, ![2, 2048]⟩
abbrev S1024 : Shape := ⟨1, ![1024]⟩
abbrev S1024x2048 : Shape := ⟨2, ![1024, 2048]⟩
abbrev S8192 : Shape := ⟨1, ![8192]⟩
abbrev S2x1x2048 : Shape := ⟨3, ![2, 1, 2048]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x8x2x64 : Shape := ⟨5, ![2, 8192, 8, 2, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x1x8 : Shape := ⟨5, ![1, 8192, 1, 1, 8]⟩
abbrev S2x8192x8x2x8 : Shape := ⟨5, ![2, 8192, 8, 2, 8]⟩
abbrev S2x8192x8x2x48 : Shape := ⟨5, ![2, 8192, 8, 2, 48]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2048, .f32⟩
  | .hbm, ⟨2, _⟩ => ⟨S1024, .f32⟩
  | .hbm, ⟨3, _⟩ => ⟨S1024x2048, .f32⟩
  | .hbm, ⟨4, _⟩ => ⟨S8192, .i32⟩
  | .hbm, ⟨5, _⟩ => ⟨S2x1x2048, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x2048, .f32⟩
  | .hbm, ⟨32, _⟩ => ⟨S2x8192x1024, .f32⟩
  | .hbm, ⟨33, _⟩ => ⟨S2x8192x8x2x64, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8192, .f32⟩
  | .hbm, ⟨46, _⟩ => ⟨S8192x1, .f32⟩
  | .hbm, ⟨47, _⟩ => ⟨S1x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S1x8192x1x1x8, .f32⟩
  | .hbm, ⟨53, _⟩ => ⟨S8192x8, .f32⟩
  | .hbm, ⟨54, _⟩ => ⟨S1x8192x1x1x8, .f32⟩
  | .hbm, ⟨55, _⟩ => ⟨S2x8192x8x2x8, .f32⟩
  | .hbm, ⟨56, _⟩ => ⟨S2x8192x8x2x8, .f32⟩
  | .hbm, ⟨57, _⟩ => ⟨S2x8192x8x2x8, .f32⟩
  | .hbm, ⟨58, _⟩ => ⟨S2x8192x8x2x8, .f32⟩
  | .hbm, ⟨59, _⟩ => ⟨S2x8192x8x2x8, .f32⟩
  | .hbm, ⟨60, _⟩ => ⟨S2x8192x8x2x8, .f32⟩
  | .hbm, ⟨61, _⟩ => ⟨S2x8192x8x2x8, .f32⟩
  | .hbm, ⟨62, _⟩ => ⟨S2x8192x8x2x8, .f32⟩
  | .hbm, ⟨63, _⟩ => ⟨S2x8192x8x2x8, .f32⟩
  | .hbm, ⟨64, _⟩ => ⟨S2x8192x8x2x8, .f32⟩
  | .hbm, ⟨65, _⟩ => ⟨S2x8192x8x2x8, .f32⟩
  | .hbm, ⟨66, _⟩ => ⟨S2x8192x8x2x8, .f32⟩
  | .hbm, ⟨67, _⟩ => ⟨S2x8192x8x2x48, .f32⟩
  | .hbm, ⟨68, _⟩ => ⟨S2x8192x8x2x64, .f32⟩
  | .hbm, ⟨69, _⟩ => ⟨S2x8192x1024, .f32⟩
  | .hbm, ⟨70, _⟩ => ⟨S2x8192x1024, .f32⟩
  | .hbm, ⟨71, _⟩ => ⟨S2x8192x1024, .bf16⟩
  | .hbm, ⟨72, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Query.lean ====
abbrev S2x8192x1024 : Shape := ⟨3, ![2, 8192, 1024]⟩
abbrev S2x9216 : Shape := ⟨2, ![2, 9216]⟩
abbrev S2x6x1024 : Shape := ⟨3, ![2, 6, 1024]⟩
abbrev S1x1024x1024 : Shape := ⟨3, ![1, 1024, 1024]⟩
abbrev S8192 : Shape := ⟨1, ![8192]⟩
abbrev S2x1024 : Shape := ⟨2, ![2, 1024]⟩
abbrev S2x1x1024 : Shape := ⟨3, ![2, 1, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S1024x1024 : Shape := ⟨2, ![1024, 1024]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S1x512x1024 : Shape := ⟨3, ![1, 512, 1024]⟩
abbrev S1x1x1024 : Shape := ⟨3, ![1, 1, 1024]⟩
abbrev S512x16 : Shape := ⟨2, ![512, 16]⟩
abbrev S1x512 : Shape := ⟨2, ![1, 512]⟩
abbrev S1x512x1 : Shape := ⟨3, ![1, 512, 1]⟩
abbrev S512x1024 : Shape := ⟨2, ![512, 1024]⟩
abbrev S16x384 : Shape := ⟨2, ![16, 384]⟩
abbrev S512x384 : Shape := ⟨2, ![512, 384]⟩
abbrev S1x128 : Shape := ⟨2, ![1, 128]⟩
abbrev S512x128 : Shape := ⟨2, ![512, 128]⟩

abbrev nBuf : Space → Nat
  | .hbm => 51
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x6x1024, .f32⟩
  | .hbm, ⟨3, _⟩ => ⟨S1x1024x1024, .f32⟩
  | .hbm, ⟨4, _⟩ => ⟨S8192, .i32⟩
  | .hbm, ⟨5, _⟩ => ⟨S2x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S1x6x1024, .f32⟩
  | .hbm, ⟨24, _⟩ => ⟨S6x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8192, .f32⟩
  | .hbm, ⟨42, _⟩ => ⟨S8192x1, .f32⟩
  | .hbm, ⟨43, _⟩ => ⟨S1x8, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x16, .f32⟩
  | .hbm, ⟨50, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S512x16, .f32⟩
  | .local _ .vmem, ⟨9, _⟩ => ⟨S512x16, .f32⟩
  | .local _ .vmem, ⟨10, _⟩ => ⟨S1x512x1024, .f32⟩
  | .local _ .vmem, ⟨11, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QueryRefIdeal.lean ====
abbrev S2x8192x1024 : Shape := ⟨3, ![2, 8192, 1024]⟩
abbrev S2x9216 : Shape := ⟨2, ![2, 9216]⟩
abbrev S2x6x1024 : Shape := ⟨3, ![2, 6, 1024]⟩
abbrev S1x1024x1024 : Shape := ⟨3, ![1, 1024, 1024]⟩
abbrev S2x1x9216 : Shape := ⟨3, ![2, 1, 9216]⟩
abbrev S2x1x1024 : Shape := ⟨3, ![2, 1, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x1024 : Shape := ⟨2, ![1024, 1024]⟩
abbrev S2x8192x8x2x64 : Shape := ⟨5, ![2, 8192, 8, 2, 64]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x1x8 : Shape := ⟨5, ![1, 8192, 1, 1, 8]⟩
abbrev S2x8192x8x2x8 : Shape := ⟨5, ![2, 8192, 8, 2, 8]⟩
abbrev S2x8192x8x2x48 : Shape := ⟨5, ![2, 8192, 8, 2, 48]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x6x1024, .f32⟩
  | .hbm, ⟨3, _⟩ => ⟨S1x1024x1024, .f32⟩
  | .hbm, ⟨4, _⟩ => ⟨S2x1x9216, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S1x6x1024, .f32⟩
  | .hbm, ⟨15, _⟩ => ⟨S6x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S1024x1024, .f32⟩
  | .hbm, ⟨42, _⟩ => ⟨S2x8192x1024, .f32⟩
  | .hbm, ⟨43, _⟩ => ⟨S2x8192x8x2x64, .f32⟩
  | .hbm, ⟨44, _⟩ => ⟨S8192, .i32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8192, .f32⟩
  | .hbm, ⟨57, _⟩ => ⟨S8192x1, .f32⟩
  | .hbm, ⟨58, _⟩ => ⟨S1x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S1x8192x1x1x8, .f32⟩
  | .hbm, ⟨64, _⟩ => ⟨S8192x8, .f32⟩
  | .hbm, ⟨65, _⟩ => ⟨S1x8192x1x1x8, .f32⟩
  | .hbm, ⟨66, _⟩ => ⟨S2x8192x8x2x8, .f32⟩
  | .hbm, ⟨67, _⟩ => ⟨S2x8192x8x2x8, .f32⟩
  | .hbm, ⟨68, _⟩ => ⟨S2x8192x8x2x8, .f32⟩
  | .hbm, ⟨69, _⟩ => ⟨S2x8192x8x2x8, .f32⟩
  | .hbm, ⟨70, _⟩ => ⟨S2x8192x8x2x8, .f32⟩
  | .hbm, ⟨71, _⟩ => ⟨S2x8192x8x2x8, .f32⟩
  | .hbm, ⟨72, _⟩ => ⟨S2x8192x8x2x8, .f32⟩
  | .hbm, ⟨73, _⟩ => ⟨S2x8192x8x2x8, .f32⟩
  | .hbm, ⟨74, _⟩ => ⟨S2x8192x8x2x8, .f32⟩
  | .hbm, ⟨75, _⟩ => ⟨S2x8192x8x2x8, .f32⟩
  | .hbm, ⟨76, _⟩ => ⟨S2x8192x8x2x8, .f32⟩
  | .hbm, ⟨77, _⟩ => ⟨S2x8192x8x2x8, .f32⟩
  | .hbm, ⟨78, _⟩ => ⟨S2x8192x8x2x48, .f32⟩
  | .hbm, ⟨79, _⟩ => ⟨S2x8192x8x2x64, .f32⟩
  | .hbm, ⟨80, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩

abbrev nD : Nat := 1
abbrev τ : Topo := Topo.v7x

variable {F : FTy → Type} [FloatOps F]
-- ==== Proof.Words.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.Pipeline.Covers
public import Idealize.ShloMosaic.Lib.LoopRemainder

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The words of the program in closed form -/

theorem trips_all : ∀ t : Fin grid0.N, (k0_t1_loop (grid0.coords t)).trips = (grid0.coords t 2).val / 2 := by decide +kernel
theorem off1_all : ∀ t : Fin grid0.N, k0_off1 (grid0.coords t) = ![0, 512 * (grid0.coords t 2).val, 0] := by decide +kernel
theorem off2_all : ∀ t : Fin grid0.N, k0_off2 (grid0.coords t) = ![0, 0, 0] := by decide +kernel
theorem off3_all : ∀ t : Fin grid0.N, ∀ k : Fin (k0_t1_loop (grid0.coords t)).trips,
    k0_off3 (grid0.coords t) k = ![0, 512 * (2 * k.val + 1), 0] := by decide +kernel
theorem off4_all : ∀ t : Fin grid0.N, ∀ k : Fin (k0_t1_loop (grid0.coords t)).trips,
    k0_off4 (grid0.coords t) k = ![0, 512 * (if k.val = 0 then (grid0.coords t 2).val else 2 * k.val - 1), 0] := by decide +kernel
theorem off5_all : ∀ t : Fin grid0.N, ∀ k : Fin (k0_t1_loop (grid0.coords t)).trips,
    k0_off5 (grid0.coords t) k = ![0, 512 * (min (2 * k.val + 2) ((grid0.coords t 2).val - 1)), 0] := by decide +kernel
theorem off6_all : ∀ t : Fin grid0.N, ∀ k : Fin (k0_t1_loop (grid0.coords t)).trips,
    k0_off6 (grid0.coords t) k = ![0, 512 * (2 * k.val), 0] := by decide +kernel
theorem cond1_all : ∀ t : Fin grid0.N, ∀ k : Fin (k0_t1_loop (grid0.coords t)).trips, k0_cond1 (grid0.coords t) k = 1#1 := by decide +kernel
theorem cond3_all : ∀ t : Fin grid0.N, k0_cond3 (grid0.coords t) = 1#1 ↔ (grid0.coords t 2).val % 2 = 1 := by decide +kernel
theorem off11_all : ∀ t : Fin grid0.N, k0_cond3 (grid0.coords t) = 1#1 → k0_off11 (grid0.coords t) = ![0, 512 * ((grid0.coords t 2).val - 1), 0] := by decide +kernel
theorem off12_all : ∀ t : Fin grid0.N, k0_cond3 (grid0.coords t) = 1#1 → k0_off12 (grid0.coords t) = ![0, 512 * (if (grid0.coords t 2).val = 1 then 1 else (grid0.coords t 2).val - 2), 0] := by decide +kernel
theorem off13_all : ∀ t : Fin grid0.N, k0_off13 (grid0.coords t) = ![0, 512 * ((grid0.coords t 2).val - 1), 0] := by decide +kernel

/-- The number of key tiles before the query block's own. -/
abbrev nOf (i : grid0.Coords) : ℕ := (i 2).val

theorem trips_eq (i : grid0.Coords) : (k0_t1_loop i).trips = nOf i / 2 := by
  obtain ⟨t, rfl⟩ := grid0.coords_surjective i; exact trips_all t
theorem off1_eq (i : grid0.Coords) : k0_off1 i = ![0, 512 * nOf i, 0] := by
  obtain ⟨t, rfl⟩ := grid0.coords_surjective i; exact off1_all t
theorem off2_eq (i : grid0.Coords) : k0_off2 i = ![0, 0, 0] := by
  obtain ⟨t, rfl⟩ := grid0.coords_surjective i; exact off2_all t
theorem off3_eq (i : grid0.Coords) (k : Fin (k0_t1_loop i).trips) : k0_off3 i k = ![0, 512 * (2 * k.val + 1), 0] := by
  obtain ⟨t, rfl⟩ := grid0.coords_surjective i; exact off3_all t k
theorem off4_eq (i : grid0.Coords) (k : Fin (k0_t1_loop i).trips) : k0_off4 i k = ![0, 512 * (if k.val = 0 then nOf i else 2 * k.val - 1), 0] := by
  obtain ⟨t, rfl⟩ := grid0.coords_surjective i; exact off4_all t k
theorem off5_eq (i : grid0.Coords) (k : Fin (k0_t1_loop i).trips) : k0_off5 i k = ![0, 512 * (min (2 * k.val + 2) (nOf i - 1)), 0] := by
  obtain ⟨t, rfl⟩ := grid0.coords_surjective i; exact off5_all t k
theorem off6_eq (i : grid0.Coords) (k : Fin (k0_t1_loop i).trips) : k0_off6 i k = ![0, 512 * (2 * k.val), 0] := by
  obtain ⟨t, rfl⟩ := grid0.coords_surjective i; exact off6_all t k
theorem cond1_eq (i : grid0.Coords) (k : Fin (k0_t1_loop i).trips) : k0_cond1 i k = 1#1 := by
  obtain ⟨t, rfl⟩ := grid0.coords_surjective i; exact cond1_all t k
theorem off11_eq (i : grid0.Coords) (h : k0_cond3 i = 1#1) : k0_off11 i = ![0, 512 * (nOf i - 1), 0] := by
  obtain ⟨t, rfl⟩ := grid0.coords_surjective i; exact off11_all t h
theorem off12_eq (i : grid0.Coords) (h : k0_cond3 i = 1#1) : k0_off12 i = ![0, 512 * (if nOf i = 1 then 1 else nOf i - 2), 0] := by
  obtain ⟨t, rfl⟩ := grid0.coords_surjective i; exact off12_all t h
theorem off13_eq (i : grid0.Coords) : k0_off13 i = ![0, 512 * (nOf i - 1), 0] := by
  obtain ⟨t, rfl⟩ := grid0.coords_surjective i; exact off13_all t
theorem cond3_iff (i : grid0.Coords) : k0_cond3 i = 1#1 ↔ nOf i % 2 = 1 := by
  obtain ⟨t, rfl⟩ := grid0.coords_surjective i; exact cond3_all t

theorem nOf_lt (i : grid0.Coords) : nOf i < 16 := (i 2).isLt

end Cert.KernelIdeal.Att

end
-- ==== Proof.Trip.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Words
public import Idealize.ShloMosaic.Lib.Tactic
public import Idealize.ShloMosaic.Lib.Pipeline.Covers
public import Idealize.ShloMosaic.Lib.LoopRemainder

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the four scratch arrays hold between two steps of the online softmax: the running row maxima, the
    accumulator (values and row sums side by side), the pending weights and the pending scores (in slot 0, or in
    slot 1 after an odd number of steps). -/
structure St (F : FTy → Type) where
  mx : Vec F S1024x128 .f32
  acc : Vec F S1024x256 .f32
  wt : Vec F S1024x512 .bf16
  sc : Vec F S1x1024x512 .f32

/-- One step: the pending scores become weights, the weights that were pending meet their values, and the next
    key tile's scores become pending. -/
def St.step (qs : FVec F S1024x128 .bf16) (kt vt : Vec F S1x512x128 .bf16) (x : St F) : St F where
  mx := k0_pay50 (k0_pay11 x.sc x.mx)
  acc := k0_pay51 (k0_pay9 x.wt vt) (k0_pay13 x.sc x.mx) x.acc
  wt := k0_pay52 (k0_pay12 x.sc x.mx)
  sc := k0_pay53 (k0_pay8 qs kt)

/-- The rectangle a whole scratch array is read through, and the slots of the score scratch. -/
abbrev rM : LoadRect S1024x128 := (Rect.unit (s := S1024x128) ![0, 0] S1024x128.size inb_S1024x128_S1024x128_0_0).toLoadRect
abbrev rA : LoadRect S1024x256 := (Rect.unit (s := S1024x256) ![0, 0] S1024x256.size inb_S1024x256_S1024x256_0_0).toLoadRect
abbrev rP : LoadRect S1024x512 := (Rect.unit (s := S1024x512) ![0, 0] S1024x512.size inb_S1024x512_S1024x512_0_0).toLoadRect
abbrev rS : LoadRect S2x1024x512 := (Rect.unit (s := S2x1024x512) ![0, 0, 0] S1x1024x512.size inb_S2x1024x512_S1x1024x512_0_0_0).toLoadRect

/-- A load through the rectangle written last reads what was written. -/
theorem readAt_head {κ : Kind} {sp : Space} {s : Shape} {e : EltTy} (v : View sig κ sp s e) (f : v.ty.Contents (Elt F)) (r : Rect s)
    (w : r.shape.Idx → Elt F e) (L : List (View.Piece (Elt F) s e)) :
    v.readAt (Elt F) r.toLoadRect (v.writes (Elt F) f (⟨r, w⟩ :: L)) = w :=
  funext fun j => View.read_writes_cons_emb v f r w L j

/-- The scratch arrays hold the state `x`, its scores in slot 0. -/
structure Held (arg9 : Memref sig .tc .vmem S1024x128 .f32) (arg10 : Memref sig .tc .vmem S1024x256 .f32)
    (arg11 : Memref sig .tc .vmem S1024x512 .bf16) (arg12 : Memref sig .tc .vmem S2x1024x512 .f32)
    (f9 : BufTy.Contents (Elt F) arg9.view.ty) (f10 : BufTy.Contents (Elt F) arg10.view.ty)
    (f11 : BufTy.Contents (Elt F) arg11.view.ty) (f12 : BufTy.Contents (Elt F) arg12.view.ty) (x : St F) : Prop where
  mx : arg9.view.readAt (Elt F) rM f9 = x.mx
  acc : arg10.view.readAt (Elt F) rA f10 = x.acc
  wt : arg11.view.readAt (Elt F) rP f11 = x.wt
  sc : arg12.view.readAt (Elt F) rS f12 = x.sc

theorem tile_inb (j : ℕ) : ∀ a, (![0, 512 * (j % 16), 0] : Fin 3 → ℕ) a + S1x512x128.size a ≤ S1x8192x128.size a := by
  intro a
  have hj : j % 16 < 16 := Nat.mod_lt _ (by norm_num)
  fin_cases a <;> simp [S1x512x128, S1x8192x128] <;> omega

/-- Key or value tile `j`: rows `512 j` to `512 j + 511` (the index wraps at 16, the number of tiles). -/
def tile (x : Vec F S1x8192x128 .bf16) (j : ℕ) : Vec F S1x512x128 .bf16 :=
  fun y => x ((Rect.unit (s := S1x8192x128) ![0, 512 * (j % 16), 0] S1x512x128.size (tile_inb j)).toLoadRect.idx y)

/-- A load of 512 rows at tile `j`'s offset is tile `j` of what the staging buffer holds. -/
theorem tile_load (arg4 : Memref sig .tc .vmem S1x8192x128 .bf16) (f4 : BufTy.Contents (Elt F) arg4.view.ty) (off : Fin 3 → ℕ)
    (h : ∀ a, off a + S1x512x128.size a ≤ S1x8192x128.size a) (j : ℕ) (hj : j < 16) (e : off = ![0, 512 * j, 0]) :
    arg4.view.readAt (Elt F) (Rect.unit (s := S1x8192x128) off S1x512x128.size h).toLoadRect f4 = tile (arg4.view.read (Elt F) f4) j := by
  have hm : j % 16 = j := Nat.mod_eq_of_lt hj
  have e' : off = ![0, 512 * (j % 16), 0] := by rw [hm]; exact e
  subst e'
  rfl

/-- The second step of a pair spells its payloads apart; they are the first step's. -/
theorem pay54_eq : k0_pay54 (F := F) = k0_pay50 (F := F) := rfl
theorem pay5_eq : k0_pay5 (F := F) = k0_pay11 (F := F) := rfl
theorem pay56_eq : k0_pay56 (F := F) = k0_pay52 (F := F) := rfl
theorem pay6_eq : k0_pay6 (F := F) = k0_pay12 (F := F) := rfl
theorem pay57_eq : k0_pay57 (F := F) = k0_pay53 (F := F) := rfl
theorem pay2_eq : k0_pay2 (F := F) = k0_pay8 (F := F) := rfl
theorem pay3_eq : k0_pay3 (F := F) = k0_pay9 (F := F) := rfl
theorem pay55_eq (pv : FVec F S1024x256 .f32) (s : Vec F S1x1024x512 .f32) (m : Vec F S1024x128 .f32) (a : Vec F S1024x256 .f32) :
    k0_pay55 pv (k0_pay7 s m) a = k0_pay51 pv (k0_pay13 s m) a := rfl

/-- The state after `s` steps from `x`, with `n` the number of key tiles before the query block's own: step `s`
    takes up the values of the tile whose weights are pending (the own tile's first) and the scores of tile `s + 1`
    (of the last one again where there is none). -/
def St.after (n : ℕ) (qs : FVec F S1024x128 .bf16) (kx vx : Vec F S1x8192x128 .bf16) (x : St F) : ℕ → St F
  | 0 => x
  | s + 1 => (St.after n qs kx vx x s).step qs (tile kx (min (s + 1) (n - 1))) (tile vx (if s = 0 then n else s - 1))

set_option maxHeartbeats 2000000 in
/-- One trip of the kernel's loop is one pair of steps. -/
theorem trip (c : Dev nD) (i : grid0.Coords) (arg3 : Memref sig .tc .vmem S1x512x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x128 .f32) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .bf16) (harg11 : arg11.IsWhole) (arg12 : Memref sig .tc .vmem S2x1024x512 .f32) (harg12 : arg12.IsWhole) (v18 : BitVec 32) (v29 : FVec F S1024x128 .bf16) (w2 v144 : BitVec 32) (v158 : BitVec 1)
    (f4 : BufTy.Contents (Elt F) arg4.view.ty) (f5 : BufTy.Contents (Elt F) arg5.view.ty) (f9 : BufTy.Contents (Elt F) arg9.view.ty) (f10 : BufTy.Contents (Elt F) arg10.view.ty) (f11 : BufTy.Contents (Elt F) arg11.view.ty) (f12 : BufTy.Contents (Elt F) arg12.view.ty)
    (x₀ : St F)
    (k : Fin (k0_t1_loop i).trips)
    (hx : Held arg9 arg10 arg11 arg12 f9 f10 f11 f12 (St.after (nOf i) v29 (arg4.view.read (Elt F) f4) (arg5.view.read (Elt F) f5) x₀ (2 * k.val))) (E : Set ℕ) :
    (iprop((arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢
      wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 v18 v29 w2 v144 v158 k PUnit.unit)
        (fun _ => iprop((arg4.view.loc (c : Thread nD τ) ↦[arg4.view.set]{fullShare} f4) ∗ (arg5.view.loc (c : Thread nD τ) ↦[arg5.view.set]{fullShare} f5) ∗ ∃ g9 g10 g11 g12, (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)
          ∗ ⌜Held arg9 arg10 arg11 arg12 g9 g10 g11 g12 (St.after (nOf i) v29 (arg4.view.read (Elt F) f4) (arg5.view.read (Elt F) f5) x₀ (2 * k.val + 2))⌝)) := by
  obtain ⟨h9, h10, h11, h12⟩ := hx
  unfold k0_t1_body
  simp only [k0_part1_eq_skeleton, k0_part2_eq_skeleton]
  iintro ⟨H4, H5, H9, H10, H11, H12⟩
  have h1 := cond1_eq i k
  have hn := nOf_lt i
  have hk : 2 * k.val + 1 < nOf i := by have := k.isLt; have e := trips_eq i; omega
  have o3 := tile_load arg4 f4 (k0_off3 i k) (k0_off3_inb i k) (min (2 * k.val + 1) (nOf i - 1)) (by omega) ((off3_eq i k).trans (by rw [Nat.min_eq_left (by omega)]))
  have o4 := tile_load arg5 f5 (k0_off4 i k) (k0_off4_inb i k) (if 2 * k.val = 0 then nOf i else 2 * k.val - 1) (by split <;> omega) ((off4_eq i k).trans (by simp))
  have o5 := tile_load arg4 f4 (k0_off5 i k) (k0_off5_inb i k h1) (min (2 * k.val + 1 + 1) (nOf i - 1)) (by omega) (off5_eq i k)
  have o6 := tile_load arg5 f5 (k0_off6 i k) (k0_off6_inb i k h1) (if 2 * k.val + 1 = 0 then nOf i else 2 * k.val + 1 - 1) (by simp; omega) ((off6_eq i k).trans (by simp))
  sl_exec
  sl_step
  isplitl [H4]; · iexact H4
  isplitl [H5]; · iexact H5
  iexists _, _, _, _
  isplitl [H9]; · iexact H9
  isplitl [H10]; · iexact H10
  isplitl [H11]; · iexact H11
  isplitl [H12]; · iexact H12
  ipureintro
  refine ⟨(readAt_head _ _ _ _ _).trans ?_, (readAt_head _ _ _ _ _).trans ?_, (readAt_head _ _ _ _ _).trans ?_, (readAt_head _ _ _ _ _).trans ?_⟩
  all_goals sl_unfold_run_names
  all_goals try simp only [View.readCov_cons_toLoadRect]
  all_goals rfl
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Trip
public import Idealize.ShloMosaic.Lib.Tactic
public import Idealize.ShloMosaic.Lib.Pipeline.Covers
public import Idealize.ShloMosaic.Lib.LoopRemainder

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem readWhole3 (arg : Memref sig .tc .vmem S1x512x128 .f32) (f : BufTy.Contents (Elt F) arg.view.ty) :
    arg.view.readAt (Elt F) (Rect.unit (s := S1x512x128) ![0, 0, 0] S1x512x128.size inb_S1x512x128_S1x512x128_0_0_0).toLoadRect f = arg.view.read (Elt F) f := by
  funext y
  show arg.view.read (Elt F) f _ = _
  congr 1
  funext a; fin_cases a <;> exact Fin.ext (by simp [Rect.unit, Rect.toLoadRect, LoadRect.idx, LoadRect.off])
theorem readWhole6 (arg : Memref sig .tc .vmem S4x64 .f32) (f : BufTy.Contents (Elt F) arg.view.ty) :
    arg.view.readAt (Elt F) (Rect.unit (s := S4x64) ![0, 0] S4x64.size inb_S4x64_S4x64_0_0).toLoadRect f = arg.view.read (Elt F) f := by
  funext y
  show arg.view.read (Elt F) f _ = _
  congr 1
  funext a; fin_cases a <;> exact Fin.ext (by simp [Rect.unit, Rect.toLoadRect, LoadRect.idx, LoadRect.off])
theorem readWhole8 (arg : Memref sig .tc .vmem S1x512x128 .f32) (f : BufTy.Contents (Elt F) arg.view.ty) :
    arg.view.readAt (Elt F) (Rect.unit (s := S1x512x128) ![0, 0, 0] S1x512x128.size inb_S1x512x128_S1x512x128_0_0_0).toLoadRect f = arg.view.read (Elt F) f := by
  funext y
  show arg.view.read (Elt F) f _ = _
  congr 1
  funext a; fin_cases a <;> exact Fin.ext (by simp [Rect.unit, Rect.toLoadRect, LoadRect.idx, LoadRect.off])
theorem readWhole7 (arg : Memref sig .tc .vmem S1x128 .f32) (f : BufTy.Contents (Elt F) arg.view.ty) :
    arg.view.readAt (Elt F) (Rect.unit (s := S1x128) ![0, 0] S1x128.size inb_S1x128_S1x128_0_0).toLoadRect f = arg.view.read (Elt F) f := by
  funext y
  show arg.view.read (Elt F) f _ = _
  congr 1
  funext a; fin_cases a <;> exact Fin.ext (by simp [Rect.unit, Rect.toLoadRect, LoadRect.idx, LoadRect.off])

/-- The two stacked query blocks, the first half of the lanes in the upper rows, the second in the lower. -/
abbrev qsOf (x0 : Vec F S1x512x128 .f32) : FVec F S1024x128 .bf16 := k0_pay32 x0

/-- The state before the first step: the own tile `ko` has been scored under its mask and turned to weights, the
    accumulator is zero, and the scores of tile 0 are pending. -/
def St.init (qs : FVec F S1024x128 .bf16) (ko k0 : Vec F S1x512x128 .bf16) : St F where
  mx := k0_pay48 (k0_pay37 qs ko) (k0_pay42 (iota .tc S1024x512 32 [1] iota_S1024x512_d1_w32) 64#32 k0_pay39 k0_pay40 k0_pay41) (k0_pay43 (iota .tc S1024x512 32 [0] iota_S1024x512_d0_w32)) 64#32
    (k0_pay44 (iota .tc S1024x512 32 [0] iota_S1024x512_d0_w32)) (k0_pay45 (iota .tc S1024x512 32 [0] iota_S1024x512_d0_w32)) (Scalar.extui (Scalar.cmpi .sgt 64#32 0#32)) 0#32 (k0_pay34 k0_pay33)
  acc := k0_pay35
  wt := k0_pay49 (k0_pay37 qs ko) (k0_pay42 (iota .tc S1024x512 32 [1] iota_S1024x512_d1_w32) 64#32 k0_pay39 k0_pay40 k0_pay41) (k0_pay43 (iota .tc S1024x512 32 [0] iota_S1024x512_d0_w32)) 64#32
    (k0_pay44 (iota .tc S1024x512 32 [0] iota_S1024x512_d0_w32)) (k0_pay45 (iota .tc S1024x512 32 [0] iota_S1024x512_d0_w32)) (Scalar.extui (Scalar.cmpi .sgt 64#32 0#32)) 0#32 (k0_pay34 k0_pay33)
  sc := k0_pay38 qs k0

/-- The state after `s` steps of a grid point whose own tile is `n`. -/
def St.run (n : ℕ) (x0 : Vec F S1x512x128 .f32) (x1 x2 : Vec F S1x8192x128 .bf16) (s : ℕ) : St F :=
  St.after n (qsOf x0) x1 x2 (St.init (qsOf x0) (tile x1 n) (tile x1 0)) s

/-- The block a grid point writes. -/
def blockOf (n : ℕ) (x0 : Vec F S1x512x128 .f32) (x1 x2 : Vec F S1x8192x128 .bf16) (x3 : Vec F S4x64 .f32) (x4 : Vec F S1x128 .f32) :
    Vec F S1x512x128 .f32 :=
  k0_pay1 (k0_pay71 (St.run n x0 x1 x2 n).acc (St.run n x0 x1 x2 n).wt (k0_pay70 (tile x2 (n - 1))) x3 x4)

set_option maxHeartbeats 4000000 in
theorem kernelRun (c : Dev nD) (i : grid0.Coords) (arg3 : Memref sig .tc .vmem S1x512x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x512x128 .f32) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .bf16) (harg11 : arg11.IsWhole) (arg12 : Memref sig .tc .vmem S2x1024x512 .f32) (harg12 : arg12.IsWhole)
    (x0 : Vec F S1x512x128 .f32) (x1 x2 : Vec F S1x8192x128 .bf16) (x3 : Vec F S4x64 .f32) (x4 : Vec F S1x128 .f32) (E : Set ℕ) (K : PUnit → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOf (nOf i) x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩)) : sProp 𝕄)
      ⊢ wp frame (wpE (defs₀ (F := F)) Variants.none (c : Thread nD τ) none) E (cc0_attn i arg3 harg3 arg4 harg4 arg5 harg5 arg6 harg6 arg7 harg7 arg8 harg8 arg9 harg9 arg10 harg10 arg11 harg11 arg12 harg12) K := by
  simp only [cc0_attn_eq_skeleton]; unfold cc0_attn_skel
  simp only [k0_part5_eq_skeleton, k0_part6_eq_skeleton, k0_part7_eq_skeleton, k0_part8_eq_skeleton, k0_part9_eq_skeleton, k0_part10_eq_skeleton, k0_part11_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  have hn := nOf_lt i
  have o1 := tile_load arg4 f4 (k0_off1 i) (k0_off1_inb i) (nOf i) (by omega) (off1_eq i)
  have o2 := tile_load arg4 f4 (k0_off2 i) (k0_off2_inb i) 0 (by omega) (off2_eq i)
  have o13 := tile_load arg5 f5 (k0_off13 i) (k0_off13_inb i) (nOf i - 1) (by omega) (off13_eq i)
  have e3 := (readWhole3 arg3 f3).trans hf3
  have e6 := (readWhole6 arg6 f6).trans hf6
  have e7 := (readWhole7 arg7 f7).trans hf7
  subst hf4 hf5
  sl_exec
  sl_for (fun k (_ : PUnit) => iprop((arg4.view.loc (c : Thread nD τ) ↦[arg4.view.set]{fullShare} f4) ∗ (arg5.view.loc (c : Thread nD τ) ↦[arg5.view.set]{fullShare} f5) ∗ ∃ g9 g10 g11 g12, (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)
      ∗ ⌜Held arg9 arg10 arg11 arg12 g9 g10 g11 g12 (St.run (nOf i) x0 (arg4.view.read (Elt F) f4) (arg5.view.read (Elt F) f5) (2 * k))⌝)) $$ [H4 H5 H9 H10 H11 H12]
  · intro k acc
    iintro ⟨H4, H5, %g9, %g10, %g11, %g12, H9, H10, H11, H12, %hx⟩
    iapply (trip c i arg3 harg3 arg4 harg4 arg5 harg5 arg6 harg6 arg7 harg7 arg8 harg8 arg9 harg9 arg10 harg10 arg11 harg11 arg12 harg12 _ _ _ _ _ f4 f5 g9 g10 g11 g12 _ k hx E)
    isplitl [H4]; · iexact H4
    isplitl [H5]; · iexact H5
    isplitl [H9]; · iexact H9
    isplitl [H10]; · iexact H10
    isplitl [H11]; · iexact H11
    iexact H12
  · isplitl [H4]; · iexact H4
    isplitl [H5]; · iexact H5
    iexists _, _, _, _
    isplitl [H9]; · iexact H9
    isplitl [H10]; · iexact H10
    isplitl [H11]; · iexact H11
    isplitl [H12]; · iexact H12
    ipureintro
    refine ⟨(readAt_head _ _ _ _ _).trans ?_, (readAt_head _ _ _ _ _).trans ?_, (readAt_head _ _ _ _ _).trans ?_, (readAt_head _ _ _ _ _).trans ?_⟩
    all_goals (sl_unfold_run_names; try simp only [View.readCov_cons_toLoadRect])
    all_goals rfl
  · iintro %acc ⟨H4, H5, %g9, %g10, %g11, %g12, H9, H10, H11, H12, %hx⟩
    have he : St.run (nOf i) x0 (arg4.view.read (Elt F) f4) (arg5.view.read (Elt F) f5) (2 * (k0_t1_loop i).trips) = St.run (nOf i) x0 (arg4.view.read (Elt F) f4) (arg5.view.read (Elt F) f5) (2 * (nOf i / 2)) := by rw [trips_eq]
    rw [he] at hx
    obtain ⟨h9, h10, h11, h12⟩ := hx
    by_cases h3 : k0_cond3 i = 1#1
    · have hodd : 2 * (nOf i / 2) + 1 = nOf i := by have := (cond3_iff i).mp h3; omega
      have o11 := tile_load arg4 f4 (k0_off11 i) (k0_off11_inb i h3) (min (2 * (nOf i / 2) + 1) (nOf i - 1)) (by omega) ((off11_eq i h3).trans (by rw [hodd, Nat.min_eq_right (by omega)]))
      have o12 := tile_load arg5 f5 (k0_off12 i) (k0_off12_inb i h3) (if 2 * (nOf i / 2) = 0 then nOf i else 2 * (nOf i / 2) - 1) (by split <;> omega)
        ((off12_eq i h3).trans (by congr 2; have : nOf i = 1 ∨ 3 ≤ nOf i := by omega
                                   rcases this with h | h
                                   · simp [h]
                                   · rw [if_neg (by omega), if_neg (by omega)]; congr 1; omega))
      have hs : St.run (nOf i) x0 (arg4.view.read (Elt F) f4) (arg5.view.read (Elt F) f5) (nOf i) = St.run (nOf i) x0 (arg4.view.read (Elt F) f4) (arg5.view.read (Elt F) f5) (2 * (nOf i / 2) + 1) := by rw [hodd]
      sl_exec
      sl_step
      iapply Hk
      isplitl [H3]; · iexists f3; isplitr; · ipureintro; exact hf3
                      iexact H3
      isplitl [H4]; · iexists f4; isplitr; · ipureintro; rfl
                      iexact H4
      isplitl [H5]; · iexists f5; isplitr; · ipureintro; rfl
                      iexact H5
      isplitl [H6]; · iexists f6; isplitr; · ipureintro; exact hf6
                      iexact H6
      isplitl [H7]; · iexists f7; isplitr; · ipureintro; exact hf7
                      iexact H7
      isplitl [H8]
      · iexists _
        isplitr; swap; · iexact H8
        · ipureintro
          refine (readWhole8 arg8 _).symm.trans ((readAt_head _ _ _ _ _).trans ?_)
          unfold blockOf
          rw [hs]
          sl_unfold_run_names; try simp only [View.readCov_cons_toLoadRect]
          rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      iexists _, _; isplitr; swap; · iexact H12
      ipureintro; rfl
    · have heven : 2 * (nOf i / 2) = nOf i := by have := (cond3_iff i).not.mp h3; omega
      rw [heven] at h9 h10 h11 h12
      sl_exec
      sl_step
      iapply Hk
      isplitl [H3]; · iexists f3; isplitr; · ipureintro; exact hf3
                      iexact H3
      isplitl [H4]; · iexists f4; isplitr; · ipureintro; rfl
                      iexact H4
      isplitl [H5]; · iexists f5; isplitr; · ipureintro; rfl
                      iexact H5
      isplitl [H6]; · iexists f6; isplitr; · ipureintro; exact hf6
                      iexact H6
      isplitl [H7]; · iexists f7; isplitr; · ipureintro; exact hf7
                      iexact H7
      isplitl [H8]
      · iexists _
        isplitr; swap; · iexact H8
        · ipureintro
          refine (readWhole8 arg8 _).symm.trans ((readAt_head _ _ _ _ _).trans ?_)
          sl_unfold_run_names; try simp only [View.readCov_cons_toLoadRect]
          rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      iexists _, _; isplitr; swap; · iexact H12
      ipureintro; rfl

end Cert.KernelIdeal.Att

end
-- ==== Proof.FrameIdeal.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Run
public import Idealize.ShloMosaic.Lib.Claim
public import Idealize.ShloMosaic.Lib.Tactic
public import Idealize.ShloMosaic.Lib.Pipeline.Covers
public import Idealize.ShloMosaic.Lib.LoopRemainder

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-! ## The staging and scratch buffers the body runs on -/

abbrev ms0_0 (t : Fin cfg0.N) : Memref sig .tc .vmem S1x512x128 .f32 := win0_0.stage (cfg0.slots t 0)
abbrev ms0_1 (t : Fin cfg0.N) : Memref sig .tc .vmem S1x8192x128 .bf16 := win0_1.stage (cfg0.slots t 1)
abbrev ms0_2 (t : Fin cfg0.N) : Memref sig .tc .vmem S1x8192x128 .bf16 := win0_2.stage (cfg0.slots t 2)
abbrev ms0_3 (t : Fin cfg0.N) : Memref sig .tc .vmem S4x64 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1x512x128 .f32 := win0_5.stage (cfg0.slots t 5)
abbrev scM0_0 : Memref sig .tc .vmem S1024x128 .f32 := Memref.whole cc0_scratch0
abbrev scM0_1 : Memref sig .tc .vmem S1024x256 .f32 := Memref.whole cc0_scratch1
abbrev scM0_2 : Memref sig .tc .vmem S1024x512 .bf16 := Memref.whole cc0_scratch2
abbrev scM0_3 : Memref sig .tc .vmem S2x1024x512 .f32 := Memref.whole cc0_scratch3

/-- The region's invariant: the four scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The proof data -/

/-- What a grid point leaves in its output block. -/
def outBlk (c : Dev nD) (t : Fin cfg0.N) : Vec F S1x512x128 .f32 :=
  blockOf (nOf (grid0.coords t)) (iblk m c 0 t) (iblk m c 1 t) (iblk m c 2 t) (iblk m c 3 t) (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outBlk
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution of the program ends, with each array at the folded contents of its blocks and every semaphore
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.Reference.lean ====
module

public import proofs.«01_k».proof.Proof.Gen.ReferenceIdeal
public import Idealize.ShloMosaic.Lib.Claim
public import Idealize.ShloMosaic.Lib.StableHlo
public import Idealize.ShloMosaic.Lib.StableHlo.RunRead

/-!
The reference's run: `main` is one straight line of host operations (the functions it calls
written out in place), so each buffer ends at its operation of the earlier buffers.
-/

@[expose] public section

set_option maxRecDepth 16384

noncomputable section

namespace Cert.ReferenceIdeal.Att

open Cert.ReferenceIdeal Cert.ReferenceIdeal.Facts₀ Cert.ReferenceIdeal.Facts
open Idealize.ShloMosaic Idealize.ShloMosaic.StableHlo Idealize.ShloMosaic.TcCoe Idealize.SL.Sem

variable {F : FTy → Type} [FloatOps F]

/-- The operations of `main`, in order. -/
def ops : List (HloOp τ sig (Elt F)) := [
  StableHlo.reshape main_arg3 main_v0 (rfl : (.f32 : EltTy) = .f32) shapeCasts_S1x4x64_S4x64,
  StableHlo.unary main_v0 main_v1 ((extractStridedSlice S1x64 ![0, 0] · slices_S4x64_S1x64_0_0) : (⟨S4x64, .f32⟩ : BufTy).Contents (Elt F) → (⟨S1x64, .f32⟩ : BufTy).Contents (Elt F)),
  StableHlo.reshape main_v1 main_v2 (rfl : (.f32 : EltTy) = .f32) shapeCasts_S1x64_S64,
  StableHlo.unary main_v0 main_v3 ((extractStridedSlice S1x64 ![1, 0] · slices_S4x64_S1x64_1_0) : (⟨S4x64, .f32⟩ : BufTy).Contents (Elt F) → (⟨S1x64, .f32⟩ : BufTy).Contents (Elt F)),
  StableHlo.reshape main_v3 main_v4 (rfl : (.f32 : EltTy) = .f32) shapeCasts_S1x64_S64,
  StableHlo.binary main_v2 main_v4 main_v5 (mulf : (⟨S64, .f32⟩ : BufTy).Contents (Elt F) → (⟨S64, .f32⟩ : BufTy).Contents (Elt F) → (⟨S64, .f32⟩ : BufTy).Contents (Elt F)),
  StableHlo.nullary main_cst (constant S_ .f32 0x00000000#32),
  StableHlo.binary main_v5 main_cst main_v6 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
  StableHlo.unary main_v6 main_v7 (Host.exp : (⟨S_, .f32⟩ : BufTy).Contents (Elt F) → (⟨S_, .f32⟩ : BufTy).Contents (Elt F)),
  StableHlo.unary main_v0 main_v8 ((extractStridedSlice S1x64 ![2, 0] · slices_S4x64_S1x64_2_0) : (⟨S4x64, .f32⟩ : BufTy).Contents (Elt F) → (⟨S1x64, .f32⟩ : BufTy).Contents (Elt F)),
  StableHlo.reshape main_v8 main_v9 (rfl : (.f32 : EltTy) = .f32) shapeCasts_S1x64_S64,
  StableHlo.unary main_v0 main_v10 ((extractStridedSlice S1x64 ![3, 0] · slices_S4x64_S1x64_3_0) : (⟨S4x64, .f32⟩ : BufTy).Contents (Elt F) → (⟨S1x64, .f32⟩ : BufTy).Contents (Elt F)),
  StableHlo.reshape main_v10 main_v11 (rfl : (.f32 : EltTy) = .f32) shapeCasts_S1x64_S64,
  StableHlo.binary main_v9 main_v11 main_v12 (mulf : (⟨S64, .f32⟩ : BufTy).Contents (Elt F) → (⟨S64, .f32⟩ : BufTy).Contents (Elt F) → (⟨S64, .f32⟩ : BufTy).Contents (Elt F)),
  StableHlo.nullary main_cst_0 (constant S_ .f32 0x00000000#32),
  StableHlo.binary main_v12 main_cst_0 main_v13 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
  StableHlo.unary main_v13 main_v14 (Host.exp : (⟨S_, .f32⟩ : BufTy).Contents (Elt F) → (⟨S_, .f32⟩ : BufTy).Contents (Elt F)),
  StableHlo.binary main_v7 main_v14 main_v15 (subf : (⟨S_, .f32⟩ : BufTy).Contents (Elt F) → (⟨S_, .f32⟩ : BufTy).Contents (Elt F) → (⟨S_, .f32⟩ : BufTy).Contents (Elt F)),
  StableHlo.nullary main_cst_1 (constant S_ .f32 0x3EB60549#32),
  StableHlo.binary main_v15 main_cst_1 main_v16 (addf : (⟨S_, .f32⟩ : BufTy).Contents (Elt F) → (⟨S_, .f32⟩ : BufTy).Contents (Elt F) → (⟨S_, .f32⟩ : BufTy).Contents (Elt F)),
  StableHlo.nullary main_v17 (iotaInDim S8192 32 0),
  StableHlo.binary main_arg0 main_arg1 main_v18 ((fun l r => Host.dotGeneral dot_S2x8192x8x2x64_S2x8192x8x2x64_S2x8x2x8192x8192_4_4_1_1_023_023 none l r) : (⟨S2x8192x8x2x64, .f32⟩ : BufTy).Contents (Elt F) → (⟨S2x8192x8x2x64, .f32⟩ : BufTy).Contents (Elt F) → (⟨S2x8x2x8192x8192, .f32⟩ : BufTy).Contents (Elt F)),
  StableHlo.nullary main_cst_2 (constant S_ .f32 0x3E000000#32),
  StableHlo.unary main_cst_2 main_v19 (broadcastInDim S2x8x2x8192x8192 ![] bcast_S_S2x8x2x8192x8192 : (⟨S_, .f32⟩ : BufTy).Contents (Elt F) → (⟨S2x8x2x8192x8192, .f32⟩ : BufTy).Contents (Elt F)),
  StableHlo.binary main_v18 main_v19 main_v20 (mulf : (⟨S2x8x2x8192x8192, .f32⟩ : BufTy).Contents (Elt F) → (⟨S2x8x2x8192x8192, .f32⟩ : BufTy).Contents (Elt F) → (⟨S2x8x2x8192x8192, .f32⟩ : BufTy).Contents (Elt F)),
  StableHlo.nullary main_c (constantI S_ 32 64#32),
  StableHlo.TRef.unary ((.of main_c) : StableHlo.TRef sig ⟨S_, .i32⟩) (.of main_call0_v0) id,
  StableHlo.TRef.unary (.of main_call0_v0) (.of main_call0_v1) (broadcastInDim S8192 ![] bcast_S_S8192),
  StableHlo.TRef.binary ((.of main_v17) : StableHlo.TRef sig ⟨S8192, .i32⟩) (.of main_call0_v1) (.of main_call0_v2) Host.divsi,
  StableHlo.TRef.unary ((.of main_v17) : StableHlo.TRef sig ⟨S8192, .i32⟩) (.of main_call0_v3) signi,
  StableHlo.TRef.unary (.of main_call0_v0) (.of main_call0_v4) signi,
  StableHlo.TRef.unary (.of main_call0_v4) (.of main_call0_v5) (broadcastInDim S8192 ![] bcast_S_S8192),
  StableHlo.TRef.binary (.of main_call0_v3) (.of main_call0_v5) (.of main_call0_v6) (cmpi .ne),
  StableHlo.TRef.unary (.of main_call0_v0) (.of main_call0_v7) (broadcastInDim S8192 ![] bcast_S_S8192),
  StableHlo.TRef.binary ((.of main_v17) : StableHlo.TRef sig ⟨S8192, .i32⟩) (.of main_call0_v7) (.of main_call0_v8) Host.remsi,
  StableHlo.TRef.nullary (.of main_call0_c) (constantI S_ 32 0#32),
  StableHlo.TRef.unary (.of main_call0_c) (.of main_call0_v9) (broadcastInDim S8192 ![] bcast_S_S8192),
  StableHlo.TRef.binary (.of main_call0_v8) (.of main_call0_v9) (.of main_call0_v10) (cmpi .ne),
  StableHlo.TRef.binary (.of main_call0_v6) (.of main_call0_v10) (.of main_call0_v11) andi,
  StableHlo.TRef.nullary (.of main_call0_c_0) (constantI S_ 32 1#32),
  StableHlo.TRef.unary (.of main_call0_c_0) (.of main_call0_v12) (broadcastInDim S8192 ![] bcast_S_S8192),
  StableHlo.TRef.binary (.of main_call0_v2) (.of main_call0_v12) (.of main_call0_v13) subi,
  StableHlo.TRef.ternary ((.of main_call0_v11) : StableHlo.TRef sig ⟨S8192, .i1⟩) ((.of main_call0_v13) : StableHlo.TRef sig ⟨S8192, .i32⟩) ((.of main_call0_v2) : StableHlo.TRef sig ⟨S8192, .i32⟩) (.of main_v21) select,
  StableHlo.unary main_v21 main_v22 (broadcastInDim S1x8192 ![1] bcast_S8192_S1x8192_1 : (⟨S8192, .i32⟩ : BufTy).Contents (Elt F) → (⟨S1x8192, .i32⟩ : BufTy).Contents (Elt F)),
  StableHlo.nullary main_c_3 (constantI S_ 32 64#32),
  StableHlo.TRef.unary ((.of main_c_3) : StableHlo.TRef sig ⟨S_, .i32⟩) (.of main_call1_v0) id,
  StableHlo.TRef.unary (.of main_call1_v0) (.of main_call1_v1) (broadcastInDim S8192 ![] bcast_S_S8192),
  StableHlo.TRef.binary ((.of main_v17) : StableHlo.TRef sig ⟨S8192, .i32⟩) (.of main_call1_v1) (.of main_call1_v2) Host.divsi,
  StableHlo.TRef.unary ((.of main_v17) : StableHlo.TRef sig ⟨S8192, .i32⟩) (.of main_call1_v3) signi,
  StableHlo.TRef.unary (.of main_call1_v0) (.of main_call1_v4) signi,
  StableHlo.TRef.unary (.of main_call1_v4) (.of main_call1_v5) (broadcastInDim S8192 ![] bcast_S_S8192),
  StableHlo.TRef.binary (.of main_call1_v3) (.of main_call1_v5) (.of main_call1_v6) (cmpi .ne),
  StableHlo.TRef.unary (.of main_call1_v0) (.of main_call1_v7) (broadcastInDim S8192 ![] bcast_S_S8192),
  StableHlo.TRef.binary ((.of main_v17) : StableHlo.TRef sig ⟨S8192, .i32⟩) (.of main_call1_v7) (.of main_call1_v8) Host.remsi,
  StableHlo.TRef.nullary (.of main_call1_c) (constantI S_ 32 0#32),
  StableHlo.TRef.unary (.of main_call1_c) (.of main_call1_v9) (broadcastInDim S8192 ![] bcast_S_S8192),
  StableHlo.TRef.binary (.of main_call1_v8) (.of main_call1_v9) (.of main_call1_v10) (cmpi .ne),
  StableHlo.TRef.binary (.of main_call1_v6) (.of main_call1_v10) (.of main_call1_v11) andi,
  StableHlo.TRef.nullary (.of main_call1_c_0) (constantI S_ 32 1#32),
  StableHlo.TRef.unary (.of main_call1_c_0) (.of main_call1_v12) (broadcastInDim S8192 ![] bcast_S_S8192),
  StableHlo.TRef.binary (.of main_call1_v2) (.of main_call1_v12) (.of main_call1_v13) subi,
  StableHlo.TRef.ternary ((.of main_call1_v11) : StableHlo.TRef sig ⟨S8192, .i1⟩) ((.of main_call1_v13) : StableHlo.TRef sig ⟨S8192, .i32⟩) ((.of main_call1_v2) : StableHlo.TRef sig ⟨S8192, .i32⟩) (.of main_v23) select,
  StableHlo.unary main_v23 main_v24 (broadcastInDim S8192x1 ![0] bcast_S8192_S8192x1_0 : (⟨S8192, .i32⟩ : BufTy).Contents (Elt F) → (⟨S8192x1, .i32⟩ : BufTy).Contents (Elt F)),
  StableHlo.unary main_v22 main_v25 (broadcastInDim S8192x8192 ![0, 1] bcast_S1x8192_S8192x8192_0_1 : (⟨S1x8192, .i32⟩ : BufTy).Contents (Elt F) → (⟨S8192x8192, .i32⟩ : BufTy).Contents (Elt F)),
  StableHlo.unary main_v24 main_v26 (broadcastInDim S8192x8192 ![0, 1] bcast_S8192x1_S8192x8192_0_1 : (⟨S8192x1, .i32⟩ : BufTy).Contents (Elt F) → (⟨S8192x8192, .i32⟩ : BufTy).Contents (Elt F)),
  StableHlo.binary main_v25 main_v26 main_v27 (cmpi .sle : (⟨S8192x8192, .i32⟩ : BufTy).Contents (Elt F) → (⟨S8192x8192, .i32⟩ : BufTy).Contents (Elt F) → (⟨S8192x8192, .i1⟩ : BufTy).Contents (Elt F)),
  StableHlo.nullary main_cst_4 (constant S_ .f32 0xFF800000#32),
  StableHlo.TRef.unary ((.of main_cst_4) : StableHlo.TRef sig ⟨S_, .f32⟩) (.of main_call2_v0) id,
  StableHlo.TRef.unary ((.of main_v27) : StableHlo.TRef sig ⟨S8192x8192, .i1⟩) (.of main_call2_v1) (broadcastInDim S2x8x2x8192x8192 (![3, 4] : Fin S8192x8192.rank → Fin S2x8x2x8192x8192.rank) bcast_S8192x8192_S2x8x2x8192x8192_3_4),
  StableHlo.TRef.unary (.of main_call2_v0) (.of main_call2_v2) (broadcastInDim S2x8x2x8192x8192 ![] bcast_S_S2x8x2x8192x8192),
  StableHlo.TRef.ternary (.of main_call2_v1) ((.of main_v20) : StableHlo.TRef sig ⟨S2x8x2x8192x8192, .f32⟩) (.of main_call2_v2) (.of main_v28) select,
  StableHlo.nullary main_cst_5 (constant S_ .f32 0xFF800000#32),
  StableHlo.binary main_v28 main_cst_5 main_v29 ((fun x v => Host.reduce FloatOps.maximumf x v reducesTo_S2x8x2x8192x8192_S2x8x2x8192_d4 h_S_) : (⟨S2x8x2x8192x8192, .f32⟩ : BufTy).Contents (Elt F) → (⟨S_, .f32⟩ : BufTy).Contents (Elt F) → (⟨S2x8x2x8192, .f32⟩ : BufTy).Contents (Elt F)),
  StableHlo.nullary main_cst_6 (constant S_ .f32 0xFF800000#32),
  StableHlo.unary main_cst_6 main_v30 (broadcastInDim S2x8x2x8192 ![] bcast_S_S2x8x2x8192 : (⟨S_, .f32⟩ : BufTy).Contents (Elt F) → (⟨S2x8x2x8192, .f32⟩ : BufTy).Contents (Elt F)),
  StableHlo.binary main_v30 main_v29 main_v31 (maximumf : (⟨S2x8x2x8192, .f32⟩ : BufTy).Contents (Elt F) → (⟨S2x8x2x8192, .f32⟩ : BufTy).Contents (Elt F) → (⟨S2x8x2x8192, .f32⟩ : BufTy).Contents (Elt F)),
  StableHlo.unary main_v31 main_v32 (broadcastInDim S2x8x2x8192x1 ![0, 1, 2, 3] bcast_S2x8x2x8192_S2x8x2x8192x1_0_1_2_3 : (⟨S2x8x2x8192, .f32⟩ : BufTy).Contents (Elt F) → (⟨S2x8x2x8192x1, .f32⟩ : BufTy).Contents (Elt F)),
  StableHlo.unary main_v32 main_v33 (broadcastInDim S2x8x2x8192x8192 ![0, 1, 2, 3, 4] bcast_S2x8x2x8192x1_S2x8x2x8192x8192_0_1_2_3_4 : (⟨S2x8x2x8192x1, .f32⟩ : BufTy).Contents (Elt F) → (⟨S2x8x2x8192x8192, .f32⟩ : BufTy).Contents (Elt F)),
  StableHlo.binary main_v28 main_v33 main_v34 (subf : (⟨S2x8x2x8192x8192, .f32⟩ : BufTy).Contents (Elt F) → (⟨S2x8x2x8192x8192, .f32⟩ : BufTy).Contents (Elt F) → (⟨S2x8x2x8192x8192, .f32⟩ : BufTy).Contents (Elt F)),
  StableHlo.unary main_v34 main_v35 (Host.exp : (⟨S2x8x2x8192x8192, .f32⟩ : BufTy).Contents (Elt F) → (⟨S2x8x2x8192x8192, .f32⟩ : BufTy).Contents (Elt F)),
  StableHlo.nullary main_cst_7 (constant S_ .f32 0x00000000#32),
  StableHlo.binary main_v35 main_cst_7 main_v36 ((fun x v => Host.reduceAdd x v reducesTo_S2x8x2x8192x8192_S2x8x2x8192_d4 h_S_) : (⟨S2x8x2x8192x8192, .f32⟩ : BufTy).Contents (Elt F) → (⟨S_, .f32⟩ : BufTy).Contents (Elt F) → (⟨S2x8x2x8192, .f32⟩ : BufTy).Contents (Elt F)),
  StableHlo.unary main_v36 main_v37 (broadcastInDim S2x8x2x8192x1 ![0, 1, 2, 3] bcast_S2x8x2x8192_S2x8x2x8192x1_0_1_2_3 : (⟨S2x8x2x8192, .f32⟩ : BufTy).Contents (Elt F) → (⟨S2x8x2x8192x1, .f32⟩ : BufTy).Contents (Elt F)),
  StableHlo.unary main_v37 main_v38 (broadcastInDim S2x8x2x8192x8192 ![0, 1, 2, 3, 4] bcast_S2x8x2x8192x1_S2x8x2x8192x8192_0_1_2_3_4 : (⟨S2x8x2x8192x1, .f32⟩ : BufTy).Contents (Elt F) → (⟨S2x8x2x8192x8192, .f32⟩ : BufTy).Contents (Elt F)),
  StableHlo.binary main_v35 main_v38 main_v39 (Host.divf : (⟨S2x8x2x8192x8192, .f32⟩ : BufTy).Contents (Elt F) → (⟨S2x8x2x8192x8192, .f32⟩ : BufTy).Contents (Elt F) → (⟨S2x8x2x8192x8192, .f32⟩ : BufTy).Contents (Elt F)),
  StableHlo.unary main_v39 main_v40 ((extractStridedSlice S2x8x1x8192x8192 ![0, 0, 0, 0, 0] · slices_S2x8x2x8192x8192_S2x8x1x8192x8192_0_0_0_0_0) : (⟨S2x8x2x8192x8192, .f32⟩ : BufTy).Contents (Elt F) → (⟨S2x8x1x8192x8192, .f32⟩ : BufTy).Contents (Elt F)),
  StableHlo.reshape main_v40 main_v41 (rfl : (.f32 : EltTy) = .f32) shapeCasts_S2x8x1x8192x8192_S2x8x8192x8192,
  StableHlo.unary main_v39 main_v42 ((extractStridedSlice S2x8x1x8192x8192 ![0, 0, 1, 0, 0] · slices_S2x8x2x8192x8192_S2x8x1x8192x8192_0_0_1_0_0) : (⟨S2x8x2x8192x8192, .f32⟩ : BufTy).Contents (Elt F) → (⟨S2x8x1x8192x8192, .f32⟩ : BufTy).Contents (Elt F)),
  StableHlo.reshape main_v42 main_v43 (rfl : (.f32 : EltTy) = .f32) shapeCasts_S2x8x1x8192x8192_S2x8x8192x8192,
  StableHlo.unary main_v16 main_v44 (broadcastInDim S2x8x8192x8192 ![] bcast_S_S2x8x8192x8192 : (⟨S_, .f32⟩ : BufTy).Contents (Elt F) → (⟨S2x8x8192x8192, .f32⟩ : BufTy).Contents (Elt F)),
  StableHlo.binary main_v44 main_v43 main_v45 (mulf : (⟨S2x8x8192x8192, .f32⟩ : BufTy).Contents (Elt F) → (⟨S2x8x8192x8192, .f32⟩ : BufTy).Contents (Elt F) → (⟨S2x8x8192x8192, .f32⟩ : BufTy).Contents (Elt F)),
  StableHlo.binary main_v41 main_v45 main_v46 (subf : (⟨S2x8x8192x8192, .f32⟩ : BufTy).Contents (Elt F) → (⟨S2x8x8192x8192, .f32⟩ : BufTy).Contents (Elt F) → (⟨S2x8x8192x8192, .f32⟩ : BufTy).Contents (Elt F)),
  StableHlo.binary main_arg2 main_v46 main_v47 ((fun l r => Host.dotGeneral dot_S2x8192x8x128_S2x8x8192x8192_S2x8x128x8192_1_3_3_2_02_01 none l r) : (⟨S2x8192x8x128, .f32⟩ : BufTy).Contents (Elt F) → (⟨S2x8x8192x8192, .f32⟩ : BufTy).Contents (Elt F) → (⟨S2x8x128x8192, .f32⟩ : BufTy).Contents (Elt F)),
  StableHlo.unary main_v47 main_v48 ((transpose S2x8192x8x128 [0, 3, 1, 2] · transposes_S2x8x128x8192_S2x8192x8x128_0_3_1_2) : (⟨S2x8x128x8192, .f32⟩ : BufTy).Contents (Elt F) → (⟨S2x8192x8x128, .f32⟩ : BufTy).Contents (Elt F)),
  StableHlo.binary main_v48 main_v48 main_v49 (mulf : (⟨S2x8192x8x128, .f32⟩ : BufTy).Contents (Elt F) → (⟨S2x8192x8x128, .f32⟩ : BufTy).Contents (Elt F) → (⟨S2x8192x8x128, .f32⟩ : BufTy).Contents (Elt F)),
  StableHlo.nullary main_cst_8 (constant S_ .f32 0x00000000#32),
  StableHlo.binary main_v49 main_cst_8 main_v50 ((fun x v => Host.reduceAdd x v reducesTo_S2x8192x8x128_S2x8192x8_d3 h_S_) : (⟨S2x8192x8x128, .f32⟩ : BufTy).Contents (Elt F) → (⟨S_, .f32⟩ : BufTy).Contents (Elt F) → (⟨S2x8192x8, .f32⟩ : BufTy).Contents (Elt F)),
  StableHlo.unary main_v50 main_v51 (broadcastInDim S2x8192x8x1 ![0, 1, 2] bcast_S2x8192x8_S2x8192x8x1_0_1_2 : (⟨S2x8192x8, .f32⟩ : BufTy).Contents (Elt F) → (⟨S2x8192x8x1, .f32⟩ : BufTy).Contents (Elt F)),
  StableHlo.nullary main_cst_9 (constant S_ .f32 0x43000000#32),
  StableHlo.unary main_cst_9 main_v52 (broadcastInDim S2x8192x8x1 ![] bcast_S_S2x8192x8x1 : (⟨S_, .f32⟩ : BufTy).Contents (Elt F) → (⟨S2x8192x8x1, .f32⟩ : BufTy).Contents (Elt F)),
  StableHlo.binary main_v51 main_v52 main_v53 (Host.divf : (⟨S2x8192x8x1, .f32⟩ : BufTy).Contents (Elt F) → (⟨S2x8192x8x1, .f32⟩ : BufTy).Contents (Elt F) → (⟨S2x8192x8x1, .f32⟩ : BufTy).Contents (Elt F)),
  StableHlo.nullary main_cst_10 (constant S_ .f32 0x358637BD#32),
  StableHlo.unary main_cst_10 main_v54 (broadcastInDim S2x8192x8x1 ![] bcast_S_S2x8192x8x1 : (⟨S_, .f32⟩ : BufTy).Contents (Elt F) → (⟨S2x8192x8x1, .f32⟩ : BufTy).Contents (Elt F)),
  StableHlo.binary main_v53 main_v54 main_v55 (addf : (⟨S2x8192x8x1, .f32⟩ : BufTy).Contents (Elt F) → (⟨S2x8192x8x1, .f32⟩ : BufTy).Contents (Elt F) → (⟨S2x8192x8x1, .f32⟩ : BufTy).Contents (Elt F)),
  StableHlo.unary main_v55 main_v56 (Host.rsqrt : (⟨S2x8192x8x1, .f32⟩ : BufTy).Contents (Elt F) → (⟨S2x8192x8x1, .f32⟩ : BufTy).Contents (Elt F)),
  StableHlo.unary main_v56 main_v57 (broadcastInDim S2x8192x8x128 ![0, 1, 2, 3] bcast_S2x8192x8x1_S2x8192x8x128_0_1_2_3 : (⟨S2x8192x8x1, .f32⟩ : BufTy).Contents (Elt F) → (⟨S2x8192x8x128, .f32⟩ : BufTy).Contents (Elt F)),
  StableHlo.binary main_v48 main_v57 main_v58 (mulf : (⟨S2x8192x8x128, .f32⟩ : BufTy).Contents (Elt F) → (⟨S2x8192x8x128, .f32⟩ : BufTy).Contents (Elt F) → (⟨S2x8192x8x128, .f32⟩ : BufTy).Contents (Elt F)),
  StableHlo.reshape main_arg4 main_v59 (rfl : (.f32 : EltTy) = .f32) shapeCasts_S1x128_S128,
  StableHlo.unary main_v59 main_v60 (broadcastInDim S1x1x1x128 ![3] bcast_S128_S1x1x1x128_3 : (⟨S128, .f32⟩ : BufTy).Contents (Elt F) → (⟨S1x1x1x128, .f32⟩ : BufTy).Contents (Elt F)),
  StableHlo.unary main_v60 main_v61 (broadcastInDim S2x8192x8x128 ![0, 1, 2, 3] bcast_S1x1x1x128_S2x8192x8x128_0_1_2_3 : (⟨S1x1x1x128, .f32⟩ : BufTy).Contents (Elt F) → (⟨S2x8192x8x128, .f32⟩ : BufTy).Contents (Elt F)),
  StableHlo.binary main_v58 main_v61 main_v62 (mulf : (⟨S2x8192x8x128, .f32⟩ : BufTy).Contents (Elt F) → (⟨S2x8192x8x128, .f32⟩ : BufTy).Contents (Elt F) → (⟨S2x8192x8x128, .f32⟩ : BufTy).Contents (Elt F)),
  StableHlo.nullary main_cst_11 (constant S_ .f32 0x3F24FD5C#32),
  StableHlo.unary main_cst_11 main_v63 (broadcastInDim S2x8192x8x128 ![] bcast_S_S2x8192x8x128 : (⟨S_, .f32⟩ : BufTy).Contents (Elt F) → (⟨S2x8192x8x128, .f32⟩ : BufTy).Contents (Elt F)),
  StableHlo.binary main_v62 main_v63 main_v64 (mulf : (⟨S2x8192x8x128, .f32⟩ : BufTy).Contents (Elt F) → (⟨S2x8192x8x128, .f32⟩ : BufTy).Contents (Elt F) → (⟨S2x8192x8x128, .f32⟩ : BufTy).Contents (Elt F)),
  StableHlo.reshape main_v64 main_v65 (rfl : (.f32 : EltTy) = .f32) shapeCasts_S2x8192x8x128_S2x8192x1024]

set_option maxHeartbeats 4000000 in
theorem main_eq (d : Dev nD) : main (F := F) d = StableHlo.seq ops := rfl

set_option maxHeartbeats 4000000 in
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_hlo _ _ (ops := ops) (fun d => main_eq d) (by decide) (by decide) (by simp [ops])
    (by intro _ h; (repeat (cases h with | head => rfl | tail _ h => ?_)); exact nomatch h) m ρ

/-- The weight `λ` of the second attention map. -/
def lam (lp : FVec F S1x4x64 .f32) : FVec F S_ .f32 :=
  ((addf) ((subf) ((Host.exp) (Host.reduceAdd ((mulf) (shapeCast S64 (extractStridedSlice S1x64 ![0, 0] (shapeCast S4x64 lp shapeCasts_S1x4x64_S4x64) slices_S4x64_S1x64_0_0) shapeCasts_S1x64_S64) (shapeCast S64 (extractStridedSlice S1x64 ![1, 0] (shapeCast S4x64 lp shapeCasts_S1x4x64_S4x64) slices_S4x64_S1x64_1_0) shapeCasts_S1x64_S64)) ((constant S_ .f32 0x00000000#32)) reducesTo_S64_S_d0 h_S_)) ((Host.exp) (Host.reduceAdd ((mulf) (shapeCast S64 (extractStridedSlice S1x64 ![2, 0] (shapeCast S4x64 lp shapeCasts_S1x4x64_S4x64) slices_S4x64_S1x64_2_0) shapeCasts_S1x64_S64) (shapeCast S64 (extractStridedSlice S1x64 ![3, 0] (shapeCast S4x64 lp shapeCasts_S1x4x64_S4x64) slices_S4x64_S1x64_3_0) shapeCasts_S1x64_S64)) ((constant S_ .f32 0x00000000#32)) reducesTo_S64_S_d0 h_S_))) ((constant S_ .f32 0x3EB60549#32)))

/-- The chunk each position lies in: its number divided by 64, rounded down. -/
def chunk : IVec S8192 32 :=
  (select (andi ((cmpi .ne) (signi ((iotaInDim S8192 32 0))) ((broadcastInDim S8192 ![] bcast_S_S8192) (signi (id ((constantI S_ 32 64#32)))))) ((cmpi .ne) (Host.remsi ((iotaInDim S8192 32 0)) ((broadcastInDim S8192 ![] bcast_S_S8192) (id ((constantI S_ 32 64#32))))) ((broadcastInDim S8192 ![] bcast_S_S8192) ((constantI S_ 32 0#32))))) (subi (Host.divsi ((iotaInDim S8192 32 0)) ((broadcastInDim S8192 ![] bcast_S_S8192) (id ((constantI S_ 32 64#32))))) ((broadcastInDim S8192 ![] bcast_S_S8192) ((constantI S_ 32 1#32)))) (Host.divsi ((iotaInDim S8192 32 0)) ((broadcastInDim S8192 ![] bcast_S_S8192) (id ((constantI S_ 32 64#32))))))

/-- Whether a key is seen by a query: its chunk is not a later one. -/
def seen : IVec S8192x8192 1 :=
  ((cmpi .sle) ((broadcastInDim S8192x8192 ![0, 1] bcast_S1x8192_S8192x8192_0_1) ((broadcastInDim S1x8192 ![1] bcast_S8192_S1x8192_1) chunk)) ((broadcastInDim S8192x8192 ![0, 1] bcast_S8192x1_S8192x8192_0_1) ((broadcastInDim S8192x1 ![0] bcast_S8192_S8192x1_0) chunk)))

/-- The scaled scores. -/
def scores (q : FVec F S2x8192x8x2x64 .f32) (k : FVec F S2x8192x8x2x64 .f32) : FVec F S2x8x2x8192x8192 .f32 :=
  ((mulf) (Host.dotGeneral dot_S2x8192x8x2x64_S2x8192x8x2x64_S2x8x2x8192x8192_4_4_1_1_023_023 none q k) ((broadcastInDim S2x8x2x8192x8192 ![] bcast_S_S2x8x2x8192x8192) ((constant S_ .f32 0x3E000000#32))))

/-- The scores, `-∞` where the key is not seen. -/
def masked (s : FVec F S2x8x2x8192x8192 .f32) : FVec F S2x8x2x8192x8192 .f32 :=
  (select ((broadcastInDim S2x8x2x8192x8192 (![3, 4] : Fin S8192x8192.rank → Fin S2x8x2x8192x8192.rank) bcast_S8192x8192_S2x8x2x8192x8192_3_4) seen) s ((broadcastInDim S2x8x2x8192x8192 ![] bcast_S_S2x8x2x8192x8192) (id ((constant S_ .f32 0xFF800000#32)))))

/-- The largest score of each query. -/
def rowmax (s : FVec F S2x8x2x8192x8192 .f32) : FVec F S2x8x2x8192 .f32 :=
  ((maximumf) ((broadcastInDim S2x8x2x8192 ![] bcast_S_S2x8x2x8192) ((constant S_ .f32 0xFF800000#32))) (Host.reduce FloatOps.maximumf s ((constant S_ .f32 0xFF800000#32)) reducesTo_S2x8x2x8192x8192_S2x8x2x8192_d4 h_S_))

/-- The exponentials of the scores less their largest. -/
def weights (s : FVec F S2x8x2x8192x8192 .f32) : FVec F S2x8x2x8192x8192 .f32 :=
  ((Host.exp) ((subf) s ((broadcastInDim S2x8x2x8192x8192 ![0, 1, 2, 3, 4] bcast_S2x8x2x8192x1_S2x8x2x8192x8192_0_1_2_3_4) ((broadcastInDim S2x8x2x8192x1 ![0, 1, 2, 3] bcast_S2x8x2x8192_S2x8x2x8192x1_0_1_2_3) (rowmax s)))))

/-- The exponentials over their sum. -/
def softmax (w : FVec F S2x8x2x8192x8192 .f32) : FVec F S2x8x2x8192x8192 .f32 :=
  ((Host.divf) w ((broadcastInDim S2x8x2x8192x8192 ![0, 1, 2, 3, 4] bcast_S2x8x2x8192x1_S2x8x2x8192x8192_0_1_2_3_4) ((broadcastInDim S2x8x2x8192x1 ![0, 1, 2, 3] bcast_S2x8x2x8192_S2x8x2x8192x1_0_1_2_3) (Host.reduceAdd w ((constant S_ .f32 0x00000000#32)) reducesTo_S2x8x2x8192x8192_S2x8x2x8192_d4 h_S_))))

/-- The first attention map less `λ` times the second. -/
def mix (l : FVec F S_ .f32) (p : FVec F S2x8x2x8192x8192 .f32) : FVec F S2x8x8192x8192 .f32 :=
  ((subf) (shapeCast S2x8x8192x8192 (extractStridedSlice S2x8x1x8192x8192 ![0, 0, 0, 0, 0] p slices_S2x8x2x8192x8192_S2x8x1x8192x8192_0_0_0_0_0) shapeCasts_S2x8x1x8192x8192_S2x8x8192x8192) ((mulf) ((broadcastInDim S2x8x8192x8192 ![] bcast_S_S2x8x8192x8192) l) (shapeCast S2x8x8192x8192 (extractStridedSlice S2x8x1x8192x8192 ![0, 0, 1, 0, 0] p slices_S2x8x2x8192x8192_S2x8x1x8192x8192_0_0_1_0_0) shapeCasts_S2x8x1x8192x8192_S2x8x8192x8192)))

/-- The attention's output before normalization. -/
def out (v : FVec F S2x8192x8x128 .f32) (a : FVec F S2x8x8192x8192 .f32) : FVec F S2x8192x8x128 .f32 :=
  (transpose S2x8192x8x128 [0, 3, 1, 2] (Host.dotGeneral dot_S2x8192x8x128_S2x8x8192x8192_S2x8x128x8192_1_3_3_2_02_01 none v a) transposes_S2x8x128x8192_S2x8192x8x128_0_3_1_2)

/-- The normalization of each head's output, and the result's layout. -/
def tail (o : FVec F S2x8192x8x128 .f32) (g : FVec F S1x128 .f32) : FVec F S2x8192x1024 .f32 :=
  (shapeCast S2x8192x1024 ((mulf) ((mulf) ((mulf) o ((broadcastInDim S2x8192x8x128 ![0, 1, 2, 3] bcast_S2x8192x8x1_S2x8192x8x128_0_1_2_3) ((Host.rsqrt) ((addf) ((Host.divf) ((broadcastInDim S2x8192x8x1 ![0, 1, 2] bcast_S2x8192x8_S2x8192x8x1_0_1_2) (Host.reduceAdd ((mulf) o o) ((constant S_ .f32 0x00000000#32)) reducesTo_S2x8192x8x128_S2x8192x8_d3 h_S_)) ((broadcastInDim S2x8192x8x1 ![] bcast_S_S2x8192x8x1) ((constant S_ .f32 0x43000000#32)))) ((broadcastInDim S2x8192x8x1 ![] bcast_S_S2x8192x8x1) ((constant S_ .f32 0x358637BD#32))))))) ((broadcastInDim S2x8192x8x128 ![0, 1, 2, 3] bcast_S1x1x1x128_S2x8192x8x128_0_1_2_3) ((broadcastInDim S1x1x1x128 ![3] bcast_S128_S1x1x1x128_3) (shapeCast S128 g shapeCasts_S1x128_S128)))) ((broadcastInDim S2x8192x8x128 ![] bcast_S_S2x8192x8x128) ((constant S_ .f32 0x3F24FD5C#32)))) shapeCasts_S2x8192x8x128_S2x8192x1024)

/-- The buffers the operations write, in order. -/
def written : List (Ref sig .tc) := [main_v0, main_v1, main_v2, main_v3, main_v4, main_v5, main_cst, main_v6, main_v7, main_v8, main_v9, main_v10, main_v11, main_v12, main_cst_0, main_v13, main_v14, main_v15, main_cst_1, main_v16, main_v17, main_v18, main_cst_2, main_v19, main_v20, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v21, main_v22, main_c_3, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v23, main_v24, main_v25, main_v26, main_v27, main_cst_4, main_call2_v0, main_call2_v1, main_call2_v2, main_v28, main_cst_5, main_v29, main_cst_6, main_v30, main_v31, main_v32, main_v33, main_v34, main_v35, main_cst_7, main_v36, main_v37, main_v38, main_v39, main_v40, main_v41, main_v42, main_v43, main_v44, main_v45, main_v46, main_v47, main_v48, main_v49, main_cst_8, main_v50, main_v51, main_cst_9, main_v52, main_v53, main_cst_10, main_v54, main_v55, main_v56, main_v57, main_v58, main_v59, main_v60, main_v61, main_v62, main_cst_11, main_v63, main_v64, main_v65]

theorem writes_eq : (ops (F := F)).map HloOp.writes = written.map fun w => {Proc.devRef (τ := τ) .tc w} := rfl

/-- The reference's result as one function of its arguments. -/
def result (q k : FVec F S2x8192x8x2x64 .f32) (v : FVec F S2x8192x8x128 .f32) (lp : FVec F S1x4x64 .f32) (g : FVec F S1x128 .f32) :
    FVec F S2x8192x1024 .f32 :=
  tail (out v (mix (lam lp) (softmax (weights (masked (scores q k)))))) g

set_option maxHeartbeats 4000000 in
theorem result_eq (V : Valuation τ sig (Elt F)) :
    StableHlo.after ops V (Proc.devRef .tc main_v65)
      = result (V (Proc.devRef .tc main_arg0)) (V (Proc.devRef .tc main_arg1)) (V (Proc.devRef .tc main_arg2))
          (V (Proc.devRef .tc main_arg3)) (V (Proc.devRef .tc main_arg4)) := by
  unfold result tail out mix softmax weights rowmax masked scores seen chunk lam
  after_reads_simp
  rfl

set_option maxHeartbeats 4000000 in
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine θ_run_mono (run m ρ) fun r h => ⟨fun c => ?_, sem_eq_zero_of_no_sems (by decide) r.2⟩
  have harg : ∀ b : Ref sig .tc, b ∉ written →
      r.2.mem ((c.tc : Thread nD τ).loc b) = m ((c.tc : Thread nD τ).loc b) := fun b hb =>
    (h c b).trans (StableHlo.after_unwritten written writes_eq hb _)
  refine ⟨harg _ ?_, harg _ ?_, harg _ ?_, harg _ ?_, harg _ ?_⟩ <;> decide

end Cert.ReferenceIdeal.Att

end
-- ==== Proof.Math.lean ====
module

public import Idealize.ShloMosaic.Lib.IdealHost
public import Idealize.ShloMosaic.PureOps.Ideal.Laws
public import Mathlib.Analysis.SpecialFunctions.Pow.Real

/-!
The arithmetic of attention over the extended reals, apart from either program: largest scores are real, weights
taken against one shift or another give the same quotient, and a sum over the visible keys is a sum tile by tile.
-/

@[expose] public section

set_option maxRecDepth 16384

noncomputable section

namespace Cert.Att

open Idealize.ShloMosaic

/-- The factor a query is scaled by. -/
def scl : EReal := ((8⁻¹ * (Real.log 2)⁻¹ : ℝ) : EReal)

/-- `λ` of the differential attention, from the four vectors it is built from. -/
def lamOf (lp : Fin 4 → Fin 64 → EReal) : EReal :=
  Ideal.exp (∑ x, lp 0 x * lp 1 x) - Ideal.exp (∑ x, lp 2 x * lp 3 x) + Ideal.ofBits FTy.f32 1052116297#32

/-- The normalization of one head's output row `o`, scaled by `g`. -/
def normed (o g : Fin 128 → EReal) (d : Fin 128) : EReal :=
  o d * Ideal.rsqrt (Ideal.div (∑ x, o x * o x) (Ideal.ofBits FTy.f32 1124073472#32) + Ideal.ofBits FTy.f32 897988541#32) * g d * Ideal.ofBits FTy.f32 1059388764#32

theorem neg_inf : Ideal.ofBits FTy.f32 4286578688#32 = (⊥ : EReal) := by
  simp [Ideal.ofBits, Ideal.ieee]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many entries, none `∞` and some real, is real. -/
theorem fold_max_real {N : ℕ} (f : Fin N → EReal) (ht : ∀ c, f c ≠ ⊤) (c₀ : Fin N) (hb : f c₀ ≠ ⊥) (z : EReal) (hz : z ≠ ⊤) :
    ∃ M : ℝ, max z (Finset.fold max ⊥ f Finset.univ) = (M : EReal) := by
  have h1 : Finset.fold max ⊥ f Finset.univ ≠ ⊤ := by
    have : Finset.fold max ⊥ f Finset.univ < ⊤ := (Finset.fold_max_lt _).2 ⟨bot_lt_top, fun c _ => lt_top_iff_ne_top.2 (ht c)⟩
    exact this.ne
  have h2 : f c₀ ≤ Finset.fold max ⊥ f Finset.univ := Finset.le_fold_max _ |>.2 (Or.inr ⟨c₀, Finset.mem_univ _, le_rfl⟩)
  have h3 : max z (Finset.fold max ⊥ f Finset.univ) ≠ ⊤ := by
    rcases max_choice z (Finset.fold max ⊥ f Finset.univ) with h | h <;> rw [h] <;> assumption
  have h4 : max z (Finset.fold max ⊥ f Finset.univ) ≠ ⊥ := by
    intro h
    have : f c₀ ≤ ⊥ := h ▸ h2.trans (le_max_right _ _)
    exact hb (le_bot_iff.1 this)
  exact ⟨_, (EReal.coe_toReal h3 h4).symm⟩

theorem exp2_sub (a b : ℝ) : Ideal.exp2 ((a : EReal) - (b : EReal)) = (((2 : ℝ) ^ (a - b) : ℝ) : EReal) := by
  rw [← EReal.coe_sub]; rfl

theorem exp2_bot_sub (b : ℝ) : Ideal.exp2 ((⊥ : EReal) - (b : EReal)) = ((0 : ℝ) : EReal) := by
  rw [EReal.bot_sub]; rfl

theorem exp_sub (a b : ℝ) : Ideal.exp ((a : EReal) - (b : EReal)) = ((Real.exp (a - b) : ℝ) : EReal) := by
  rw [← EReal.coe_sub]; rfl

theorem exp_bot_sub (b : ℝ) : Ideal.exp ((⊥ : EReal) - (b : EReal)) = ((0 : ℝ) : EReal) := by
  rw [EReal.bot_sub]; rfl

theorem div_real (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- `λ` is real where its vectors are. -/
theorem lamOf_real (lp : Fin 4 → Fin 64 → EReal) (h : ∀ i x, ∃ r : ℝ, lp i x = (r : EReal)) : ∃ r : ℝ, lamOf lp = (r : EReal) := by
  choose f hf using h
  have hb : ∃ r : ℝ, Ideal.ofBits FTy.f32 1052116297#32 = (r : EReal) := by
    simp only [Ideal.ofBits, Ideal.ieee]
    exact ⟨_, rfl⟩
  obtain ⟨b, hb⟩ := hb
  refine ⟨Real.exp (∑ x, f 0 x * f 1 x) - Real.exp (∑ x, f 2 x * f 3 x) + b, ?_⟩
  unfold lamOf
  simp only [hf, ← EReal.coe_mul, ← coe_sum, hb]
  rw [EReal.coe_add, EReal.coe_sub]
  rfl

/-! ### One row, tile by tile -/

/-- The weight of key `c` of the `u`-th tile taken up by a row of own tile `n` at offset `r`, against the shift `M`: the own
    tile comes first, under its mask, then tiles `0` to `n − 1`. -/
def wgt (S : ℕ → ℝ) (n r : ℕ) (M : ℝ) (u c : ℕ) : ℝ :=
  if u = 0 then (if c / 64 ≤ r / 64 then (2 : ℝ) ^ (S (512 * n + c) - M) else 0) else (2 : ℝ) ^ (S (512 * (u - 1) + c) - M)

/-- The key it stands for. -/
def keyOf (n u c : ℕ) : ℕ := 512 * (if u = 0 then n else u - 1) + c

theorem wgt_shift (S : ℕ → ℝ) (n r : ℕ) (M M' : ℝ) (u c : ℕ) : (2 : ℝ) ^ (M - M') * wgt S n r M u c = wgt S n r M' u c := by
  have h (a : ℝ) : (2 : ℝ) ^ (M - M') * (2 : ℝ) ^ (a - M) = (2 : ℝ) ^ (a - M') := by
    rw [← Real.rpow_add (by norm_num)]; congr 1; ring
  unfold wgt
  split
  · split
    · exact h _
    · rw [mul_zero]
  · exact h _

/-- What a row has gathered of `V` from its first `s` tiles. -/
def gath (S V : ℕ → ℝ) (n r : ℕ) (M : ℝ) (s : ℕ) : ℝ :=
  ∑ u ∈ Finset.range s, ∑ c : Fin 512, wgt S n r M u c * V (keyOf n u c)

theorem gath_shift (S V : ℕ → ℝ) (n r : ℕ) (M M' : ℝ) (s : ℕ) : (2 : ℝ) ^ (M - M') * gath S V n r M s = gath S V n r M' s := by
  unfold gath
  simp only [Finset.mul_sum, ← mul_assoc, wgt_shift]

theorem gath_succ (S V : ℕ → ℝ) (n r : ℕ) (M : ℝ) (s : ℕ) :
    gath S V n r M s + ∑ c : Fin 512, wgt S n r M s c * V (keyOf n s c) = gath S V n r M (s + 1) := by
  unfold gath
  rw [Finset.sum_range_succ]

theorem sum_tiles (g : ℕ → ℝ) (m : ℕ) : ∑ κ ∈ Finset.range (512 * m), g κ = ∑ t ∈ Finset.range m, ∑ c : Fin 512, g (512 * t + c) := by
  induction m with
  | zero => simp
  | succ m ih =>
    rw [Nat.mul_succ, Finset.sum_range_add, ih, Finset.sum_range_succ (fun t => ∑ c : Fin 512, g (512 * t + c)) m,
      Fin.sum_univ_eq_sum_range (fun c => g (512 * m + c))]

/-- What a query sees of `V`, key by key. -/
def seenSum (S' V : ℕ → ℝ) (i : ℕ) : ℝ := ∑ κ : Fin 8192, if (κ : ℕ) / 64 ≤ i / 64 then Real.exp (S' κ) * V κ else 0

theorem gath_eq (S S' V : ℕ → ℝ) (hS : ∀ κ, (2 : ℝ) ^ S κ = Real.exp (S' κ)) (n r : ℕ) (hn : n < 16) (hr : r < 512) :
    gath S V n r 0 (n + 1) = seenSum S' V (512 * n + r) := by
  unfold seenSum
  rw [Fin.sum_univ_eq_sum_range (fun κ => if κ / 64 ≤ (512 * n + r) / 64 then Real.exp (S' κ) * V κ else 0)]
  rw [← Finset.sum_subset (s₁ := Finset.range (512 * (n + 1))) (Finset.range_subset_range.2 (by omega))
    (fun κ _ h => if_neg (by rw [Finset.mem_range] at h; omega)), sum_tiles]
  unfold gath
  rw [Finset.sum_range_succ', Finset.sum_range_succ]
  congr 1
  · refine Finset.sum_congr rfl fun t ht => Finset.sum_congr rfl fun c _ => ?_
    have := Finset.mem_range.1 ht
    have hc := c.2
    rw [if_pos (by omega)]
    simp only [wgt, keyOf, Nat.add_one_ne_zero, if_false, sub_zero, Nat.add_sub_cancel, hS]
  · refine Finset.sum_congr rfl fun c _ => ?_
    have hc := c.2
    simp only [wgt, keyOf, if_true, sub_zero, hS]
    by_cases h : (c : ℕ) / 64 ≤ r / 64
    · rw [if_pos h, if_pos (by omega)]
    · rw [if_neg h, if_neg (by omega), zero_mul]

theorem seenSum_pos (S' : ℕ → ℝ) (i : ℕ) (hi : i < 8192) : 0 < seenSum S' (fun _ => 1) i := by
  unfold seenSum
  refine Finset.sum_pos' (fun κ _ => ?_) ⟨⟨i, hi⟩, Finset.mem_univ _, ?_⟩
  · split
    · rw [mul_one]; exact (Real.exp_pos _).le
    · exact le_rfl
  · rw [if_pos le_rfl, mul_one]; exact Real.exp_pos _

/-- The quotient a row ends with does not depend on the shift. -/
theorem gath_div (S S' V : ℕ → ℝ) (hS : ∀ κ, (2 : ℝ) ^ S κ = Real.exp (S' κ)) (n r : ℕ) (hn : n < 16) (hr : r < 512) (M : ℝ) :
    Ideal.div (gath S V n r M (n + 1) : ℝ) (gath S (fun _ => 1) n r M (n + 1) : ℝ)
      = ((seenSum S' V (512 * n + r) / seenSum S' (fun _ => 1) (512 * n + r) : ℝ) : EReal) := by
  have hp := seenSum_pos S' (512 * n + r) (by omega)
  have h2 : (0 : ℝ) < (2 : ℝ) ^ (0 - M) := Real.rpow_pos_of_pos (by norm_num) _
  rw [← gath_shift S V n r 0 M, ← gath_shift S (fun _ => 1) n r 0 M, gath_eq S S' V hS n r hn hr, gath_eq S S' _ hS n r hn hr,
    div_real _ _ (mul_pos h2 hp).ne', mul_div_mul_left _ _ h2.ne']

/-! ### The softmax of the reference -/

/-- A query's largest visible score is real. -/
theorem ref_max (S' : ℕ → ℝ) (i : ℕ) (hi : i < 8192) :
    ∃ M : ℝ, max ⊥ (Finset.fold max ⊥ (fun κ : Fin 8192 => if (κ : ℕ) / 64 ≤ i / 64 then ((S' κ : ℝ) : EReal) else ⊥) Finset.univ) = (M : EReal) := by
  refine fold_max_real _ (fun c => ?_) ⟨i, hi⟩ ?_ ⊥ (by simp)
  · split <;> simp
  · rw [if_pos le_rfl]; simp

theorem ref_weight (S' : ℕ → ℝ) (i : ℕ) (M : ℝ) (κ : ℕ) :
    Ideal.exp ((if κ / 64 ≤ i / 64 then ((S' κ : ℝ) : EReal) else ⊥) - (M : EReal))
      = ((Real.exp (-M) * (if κ / 64 ≤ i / 64 then Real.exp (S' κ) else 0) : ℝ) : EReal) := by
  split
  · rw [exp_sub, ← Real.exp_add]; congr 2; ring
  · rw [exp_bot_sub, mul_zero]

/-- The reference's sum over keys of the values by the difference of two softmaxes is the difference of two quotients. -/
theorem ref_row (S₀ S₁ V : ℕ → ℝ) (i : ℕ) (hi : i < 8192) (M₀ M₁ l : ℝ) :
    ∑ κ : Fin 8192, ((V κ : ℝ) : EReal)
        * (Ideal.div ((Real.exp (-M₀) * (if (κ : ℕ) / 64 ≤ i / 64 then Real.exp (S₀ κ) else 0) : ℝ) : EReal)
              (∑ κ : Fin 8192, ((Real.exp (-M₀) * (if (κ : ℕ) / 64 ≤ i / 64 then Real.exp (S₀ κ) else 0) : ℝ) : EReal))
          - (l : EReal) * Ideal.div ((Real.exp (-M₁) * (if (κ : ℕ) / 64 ≤ i / 64 then Real.exp (S₁ κ) else 0) : ℝ) : EReal)
              (∑ κ : Fin 8192, ((Real.exp (-M₁) * (if (κ : ℕ) / 64 ≤ i / 64 then Real.exp (S₁ κ) else 0) : ℝ) : EReal)))
      = ((seenSum S₀ V i / seenSum S₀ (fun _ => 1) i : ℝ) : EReal) - (l : EReal) * ((seenSum S₁ V i / seenSum S₁ (fun _ => 1) i : ℝ) : EReal) := by
  have hd (S : ℕ → ℝ) (M : ℝ) : ∑ κ : Fin 8192, (Real.exp (-M) * (if (κ : ℕ) / 64 ≤ i / 64 then Real.exp (S κ) else 0))
      = Real.exp (-M) * seenSum S (fun _ => 1) i := by
    unfold seenSum
    rw [Finset.mul_sum]
    simp only [mul_one]
  have hp (S : ℕ → ℝ) (M : ℝ) : Real.exp (-M) * seenSum S (fun _ => 1) i ≠ 0 := (mul_pos (Real.exp_pos _) (seenSum_pos S i hi)).ne'
  simp only [← coe_sum, hd, div_real _ _ (hp _ _), ← EReal.coe_mul, ← EReal.coe_sub]
  congr 1
  have he (M : ℝ) : Real.exp (-M) ≠ 0 := (Real.exp_pos _).ne'
  simp only [mul_div_mul_left _ _ (he _), mul_sub, Finset.sum_sub_distrib]
  unfold seenSum
  rw [Finset.sum_div, Finset.sum_div, Finset.mul_sum]
  congr 1
  · refine Finset.sum_congr rfl fun κ _ => ?_
    split <;> ring
  · refine Finset.sum_congr rfl fun κ _ => ?_
    split <;> ring

end Cert.Att

end
-- ==== Proof.Payloads.lean ====
module

public import proofs.«01_k».proof.Proof.Run
public import proofs.«01_k».proof.Proof.Math
public import Idealize.ShloMosaic.Lib.Pointwise
public import Idealize.ShloMosaic.Lib.IdealHost
public import Idealize.ShloMosaic.PureOps.Ideal.Laws

/-!
What each stage of the kernel's body computes over the extended reals, at an index.
-/

@[expose] public section

set_option maxRecDepth 16384

noncomputable section

namespace Cert.KernelIdeal.Att

open Cert.KernelIdeal Cert.KernelIdeal.Gen
open Idealize.ShloMosaic
open Cert.Att

/-- Whether a key of the own tile is visible to a stacked row: its chunk of 64 is not a later one. -/
abbrev Vis (R c : ℕ) : Prop := c / 64 ≤ (R % 512) / 64

theorem pay8_apply (qs : FVec Ideal S1024x128 .bf16) (kt : Vec Ideal S1x512x128 .bf16) (R : Fin 1024) (c : Fin 512) :
    k0_pay8 (F := Ideal) qs kt (ix2 R c) = ∑ l : Fin 128, qs (ix2 R l) * kt (ix3 (0 : Fin 1) c l) := by
  pointwise [k0_pay8]

theorem pay37_apply (qs : FVec Ideal S1024x128 .bf16) (kt : Vec Ideal S1x512x128 .bf16) (R : Fin 1024) (c : Fin 512) :
    k0_pay37 (F := Ideal) qs kt (ix2 R c) = ∑ l : Fin 128, qs (ix2 R l) * kt (ix3 (0 : Fin 1) c l) := by
  pointwise [k0_pay37]

theorem pay38_apply (qs : FVec Ideal S1024x128 .bf16) (kt : Vec Ideal S1x512x128 .bf16) (R : Fin 1024) (c : Fin 512) :
    k0_pay38 (F := Ideal) qs kt (ix3 (0 : Fin 1) R c) = ∑ l : Fin 128, qs (ix2 R l) * kt (ix3 (0 : Fin 1) c l) := by
  pointwise [k0_pay38]

theorem pay9_apply (wt : Vec Ideal S1024x512 .bf16) (vt : Vec Ideal S1x512x128 .bf16) (R : Fin 1024) (d : Fin 256) :
    k0_pay9 (F := Ideal) wt vt (ix2 R d)
      = ∑ c : Fin 512, wt (ix2 R c) * (if h : (d : ℕ) < 128 then vt (ix3 (0 : Fin 1) c ⟨d, h⟩) else 1) := by
  pointwise [k0_pay9]

theorem pay11_apply (s : Vec Ideal S1x1024x512 .f32) (mx : Vec Ideal S1024x128 .f32) (R : Fin 1024) (l : Fin 128) :
    k0_pay11 (F := Ideal) s mx (ix2 R l) = max (mx (ix2 R l)) (Finset.fold max ⊥ (fun c : Fin 512 => s (ix3 (0 : Fin 1) R c)) Finset.univ) := by
  pointwise [k0_pay11, k0_pay10]
  rw [neg_inf]

theorem pay12_apply (s : Vec Ideal S1x1024x512 .f32) (mx : Vec Ideal S1024x128 .f32) (R : Fin 1024) (c : Fin 512) (M : EReal)
    (hM : ∀ l, k0_pay11 (F := Ideal) s mx (ix2 R l) = M) :
    k0_pay52 (k0_pay12 (F := Ideal) s mx) (ix2 R c) = Ideal.exp2 (s (ix3 (0 : Fin 1) R c) - M) := by
  pointwise [k0_pay12, k0_pay10, k0_pay52]
  simp only [hM, dite_eq_ite, ite_self]
  rfl

theorem pay13_apply (s : Vec Ideal S1x1024x512 .f32) (mx : Vec Ideal S1024x128 .f32) (R : Fin 1024) (l : Fin 128) :
    k0_pay13 (F := Ideal) s mx (ix2 R l) = Ideal.exp2 (mx (ix2 R l) - k0_pay11 (F := Ideal) s mx (ix2 R l)) := by
  pointwise [k0_pay13]
  rfl

theorem pay50_apply (mx : Vec Ideal S1024x128 .f32) (R : Fin 1024) (l : Fin 128) :
    k0_pay50 (F := Ideal) mx (ix2 R l) = mx (ix2 R l) := by
  pointwise [k0_pay50]

theorem pay51_apply (pv : FVec Ideal S1024x256 .f32) (al : FVec Ideal S1024x128 .f32) (acc : Vec Ideal S1024x256 .f32) (R : Fin 1024) (d : Fin 256)
    (a : EReal) (ha : ∀ l, al (ix2 R l) = a) :
    k0_pay51 (F := Ideal) pv al acc (ix2 R d) = a * (acc (ix2 R d) + pv (ix2 R d)) := by
  pointwise [k0_pay51]
  simp only [ha, dite_eq_ite, ite_self]

theorem pay53_apply (s : FVec Ideal S1024x512 .f32) (R : Fin 1024) (c : Fin 512) :
    k0_pay53 (F := Ideal) s (ix3 (0 : Fin 1) R c) = s (ix2 R c) := by
  pointwise [k0_pay53]

theorem pay35_apply (R : Fin 1024) (d : Fin 256) : k0_pay35 (F := Ideal) (ix2 R d) = 0 := by
  pointwise [k0_pay35]

theorem pay1_apply (o : FVec Ideal S512x128 .f32) (r : Fin 512) (d : Fin 128) :
    k0_pay1 (F := Ideal) o (ix3 (0 : Fin 1) r d) = o (ix2 r d) := by
  pointwise [k0_pay1]

theorem pay70_apply (v : Vec Ideal S1x512x128 .bf16) (r : Fin 512) (d : Fin 128) :
    k0_pay70 (F := Ideal) v (ix2 r d) = v (ix3 (0 : Fin 1) r d) := by
  pointwise [k0_pay70]

theorem lane_lt (l : Fin 128) : IntOp.cmpi CmpIPredicate.slt (BitVec.ofNat 32 (l : ℕ)) 64#32 = if (l : ℕ) < 64 then 1#1 else 0#1 := by
  revert l; decide

theorem pay32_apply (x : Vec Ideal S1x512x128 .f32) (R : Fin 1024) (l : Fin 128) :
    qsOf (F := Ideal) x (ix2 R l) = if h : (R : ℕ) < 512 then (if (l : ℕ) < 64 then x (ix3 (0 : Fin 1) ⟨R, h⟩ l) * scl else 0)
      else (if (l : ℕ) < 64 then 0 else x (ix3 (0 : Fin 1) ⟨R - 512, by omega⟩ l) * scl) := by
  have hs : Named.named (F := Ideal) κ "scale" (φ := .f32) 1043900987#32 = scl := rfl
  unfold qsOf
  pointwise [k0_pay32]
  simp only [lane_lt, hs]
  by_cases hl : (l : ℕ) < 64 <;> simp [hl, Scalar.select]

/-- The own tile's key index as a chunk number, in the words the kernel computes it by. -/
theorem pay42_apply (R : Fin 1024) (c : Fin 512) :
    k0_pay42 (iota .tc S1024x512 32 [1] iota_S1024x512_d1_w32) 64#32 k0_pay39 k0_pay40 k0_pay41 (ix2 R c) = BitVec.ofNat 32 ((c : ℕ) / 64) := by
  pointwise [k0_pay42, k0_pay39, k0_pay40, k0_pay41]
  revert c; clear R; decide +kernel

theorem pay43_apply (R : Fin 1024) (c : Fin 512) :
    k0_pay43 (iota .tc S1024x512 32 [0] iota_S1024x512_d0_w32) (ix2 R c) = BitVec.ofNat 32 ((R : ℕ) % 512) := by
  pointwise [k0_pay43]
  revert R; clear c; decide +kernel

theorem chunk_le (a b : Fin 8) : IntOp.cmpi CmpIPredicate.sle (BitVec.ofNat 32 (a : ℕ)) (BitVec.ofNat 32 (b : ℕ)) = if (a : ℕ) ≤ b then 1#1 else 0#1 := by
  revert a b; decide +kernel

theorem row_chunk (r : Fin 512) :
    Scalar.select
      (IntOp.andi
        (IntOp.cmpi CmpIPredicate.ne
          (IntOp.subi (Scalar.extui (IntOp.cmpi CmpIPredicate.sgt (BitVec.ofNat 32 (r : ℕ)) 0#32) : BitVec 32)
            (Scalar.extui (IntOp.cmpi CmpIPredicate.slt (BitVec.ofNat 32 (r : ℕ)) 0#32) : BitVec 32))
          (Scalar.subi (Scalar.extui (Scalar.cmpi CmpIPredicate.sgt 64#32 0#32) : BitVec 32) (Scalar.extui (Scalar.cmpi CmpIPredicate.slt 64#32 0#32) : BitVec 32)))
        (IntOp.cmpi CmpIPredicate.ne (IntOp.remsi ArithUnit.vector (BitVec.ofNat 32 (r : ℕ)) 64#32) 0#32))
      (IntOp.subi (IntOp.divsi ArithUnit.vector (BitVec.ofNat 32 (r : ℕ)) 64#32) 1#32)
      (IntOp.divsi ArithUnit.vector (BitVec.ofNat 32 (r : ℕ)) 64#32) = BitVec.ofNat 32 ((r : ℕ) / 64) := by
  revert r; decide +kernel

/-- The own tile's scores where the key is visible, `-∞` where it is not. -/
theorem pay46_apply (s : FVec Ideal S1024x512 .f32) (R : Fin 1024) (c : Fin 512) :
    k0_pay46 s (k0_pay42 (iota .tc S1024x512 32 [1] iota_S1024x512_d1_w32) 64#32 k0_pay39 k0_pay40 k0_pay41) (k0_pay43 (iota .tc S1024x512 32 [0] iota_S1024x512_d0_w32)) 64#32
    (k0_pay44 (iota .tc S1024x512 32 [0] iota_S1024x512_d0_w32)) (k0_pay45 (iota .tc S1024x512 32 [0] iota_S1024x512_d0_w32)) (Scalar.extui (Scalar.cmpi .sgt 64#32 0#32)) 0#32 (ix2 R c)
      = if Vis R c then s (ix2 R c) else ⊥ := by
  have hm : Named.named (F := Ideal) κ "mask" (φ := .f32) 4048155338#32 = (⊥ : EReal) := rfl
  have e1 := chunk_le ⟨(c : ℕ) / 64, by omega⟩ ⟨((R : ℕ) % 512) / 64, by omega⟩
  have e2 := row_chunk ⟨(R : ℕ) % 512, by omega⟩
  pointwise [k0_pay46, k0_pay44, k0_pay45]
  rw [pay42_apply, pay43_apply, hm]
  dsimp only at e1 e2
  refine (congrArg (fun z => Scalar.select (IntOp.cmpi CmpIPredicate.sle (BitVec.ofNat 32 ((c : ℕ) / 64)) z) (s (ix2 R c)) (⊥ : EReal)) e2).trans ?_
  rw [e1]
  by_cases h : Vis R c
  · rw [if_pos h, if_pos h]; rfl
  · rw [if_neg h, if_neg h]; rfl

/-- The own tile's largest visible score, by row. -/
def ownMax (qs : FVec Ideal S1024x128 .bf16) (ko : Vec Ideal S1x512x128 .bf16) (R : Fin 1024) : EReal :=
  max ⊥ (Finset.fold max ⊥ (fun c : Fin 512 => if Vis R c then ∑ l : Fin 128, qs (ix2 R l) * ko (ix3 (0 : Fin 1) c l) else ⊥) Finset.univ)

theorem init_mx (qs : FVec Ideal S1024x128 .bf16) (ko k0 : Vec Ideal S1x512x128 .bf16) (R : Fin 1024) (l : Fin 128) :
    (St.init qs ko k0).mx (ix2 R l) = ownMax qs ko R := by
  have hm : Named.named (F := Ideal) κ "mask" (φ := .f32) 4048155338#32 = (⊥ : EReal) := rfl
  unfold St.init ownMax
  pointwise [k0_pay48, k0_pay47, k0_pay34, k0_pay33]
  rw [hm, neg_inf]
  simp only [fun c => (pay46_apply (k0_pay37 qs ko) R c).trans (by rw [pay37_apply])]

theorem init_wt (qs : FVec Ideal S1024x128 .bf16) (ko k0 : Vec Ideal S1x512x128 .bf16) (R : Fin 1024) (c : Fin 512) :
    (St.init qs ko k0).wt (ix2 R c)
      = Ideal.exp2 ((if Vis R c then ∑ l : Fin 128, qs (ix2 R l) * ko (ix3 (0 : Fin 1) c l) else ⊥) - ownMax qs ko R) := by
  have hm : Named.named (F := Ideal) κ "mask" (φ := .f32) 4048155338#32 = (⊥ : EReal) := rfl
  unfold St.init ownMax
  pointwise [k0_pay49, k0_pay47, k0_pay34, k0_pay33]
  simp only [dite_eq_ite, ite_self]
  rw [hm, neg_inf]
  simp only [fun c => (pay46_apply (k0_pay37 qs ko) R c).trans (by rw [pay37_apply])]
  rfl

theorem init_acc (qs : FVec Ideal S1024x128 .bf16) (ko k0 : Vec Ideal S1x512x128 .bf16) (R : Fin 1024) (d : Fin 256) :
    (St.init qs ko k0).acc (ix2 R d) = 0 := pay35_apply R d

theorem init_sc (qs : FVec Ideal S1024x128 .bf16) (ko k0 : Vec Ideal S1x512x128 .bf16) (R : Fin 1024) (c : Fin 512) :
    (St.init qs ko k0).sc (ix3 (0 : Fin 1) R c) = ∑ l : Fin 128, qs (ix2 R l) * k0 (ix3 (0 : Fin 1) c l) := pay38_apply qs k0 R c

/-- One step's quantities, row by row. -/
def stepMax (x : St Ideal) (R : Fin 1024) (m : EReal) : EReal :=
  max m (Finset.fold max ⊥ (fun c : Fin 512 => x.sc (ix3 (0 : Fin 1) R c)) Finset.univ)

theorem step_mx (qs : FVec Ideal S1024x128 .bf16) (kt vt : Vec Ideal S1x512x128 .bf16) (x : St Ideal) (R : Fin 1024) (m : EReal) (hm : ∀ l, x.mx (ix2 R l) = m)
    (l : Fin 128) : (x.step qs kt vt).mx (ix2 R l) = stepMax x R m := by
  unfold St.step stepMax
  dsimp only
  rw [pay50_apply, pay11_apply, hm]

theorem step_wt (qs : FVec Ideal S1024x128 .bf16) (kt vt : Vec Ideal S1x512x128 .bf16) (x : St Ideal) (R : Fin 1024) (m : EReal) (hm : ∀ l, x.mx (ix2 R l) = m)
    (c : Fin 512) : (x.step qs kt vt).wt (ix2 R c) = Ideal.exp2 (x.sc (ix3 (0 : Fin 1) R c) - stepMax x R m) := by
  unfold St.step
  exact pay12_apply _ _ _ _ _ fun l => by rw [pay11_apply, hm]; rfl

theorem step_acc (qs : FVec Ideal S1024x128 .bf16) (kt vt : Vec Ideal S1x512x128 .bf16) (x : St Ideal) (R : Fin 1024) (m : EReal) (hm : ∀ l, x.mx (ix2 R l) = m)
    (d : Fin 256) : (x.step qs kt vt).acc (ix2 R d) = Ideal.exp2 (m - stepMax x R m)
      * (x.acc (ix2 R d) + ∑ c : Fin 512, x.wt (ix2 R c) * (if h : (d : ℕ) < 128 then vt (ix3 (0 : Fin 1) c ⟨d, h⟩) else 1)) := by
  unfold St.step
  dsimp only
  rw [pay51_apply _ _ _ _ _ (Ideal.exp2 (m - stepMax x R m)) fun l => by rw [pay13_apply, pay11_apply, hm]; rfl, pay9_apply]

theorem step_sc (qs : FVec Ideal S1024x128 .bf16) (kt vt : Vec Ideal S1x512x128 .bf16) (x : St Ideal) (R : Fin 1024) (c : Fin 512) :
    (x.step qs kt vt).sc (ix3 (0 : Fin 1) R c) = ∑ l : Fin 128, qs (ix2 R l) * kt (ix3 (0 : Fin 1) c l) := by
  unfold St.step
  dsimp only
  rw [pay53_apply, pay8_apply]

/-- What a stacked row has accumulated once its last weights have met their values. -/
def total (acc : Vec Ideal S1024x256 .f32) (wt : Vec Ideal S1024x512 .bf16) (v : FVec Ideal S512x128 .bf16) (R : Fin 1024) (d : Fin 256) : EReal :=
  acc (ix2 R d) + ∑ c : Fin 512, wt (ix2 R c) * (if h : (d : ℕ) < 128 then v (ix2 c ⟨d, h⟩) else 1)

theorem pay71_apply (acc : Vec Ideal S1024x256 .f32) (wt : Vec Ideal S1024x512 .bf16) (v : FVec Ideal S512x128 .bf16) (lp : Vec Ideal S4x64 .f32) (g : Vec Ideal S1x128 .f32)
    (r : Fin 512) (d : Fin 128) : k0_pay71 (F := Ideal) acc wt v lp g (ix2 r d)
      = normed (fun d => Ideal.div (total acc wt v ⟨r, by omega⟩ ⟨d, by omega⟩) (total acc wt v ⟨r, by omega⟩ ⟨128 + d, by omega⟩)
          - lamOf (fun i x => lp (ix2 i x)) * Ideal.div (total acc wt v ⟨512 + r, by omega⟩ ⟨d, by omega⟩) (total acc wt v ⟨512 + r, by omega⟩ ⟨128 + d, by omega⟩))
        (fun d => g (ix2 0 d)) d := by
  have hl (d : Fin 128) : ¬ 128 + (d : ℕ) < 128 := by omega
  pointwise [k0_pay71]
  simp only [normed, total, lamOf, Fin.is_lt, hl, dite_true, dite_false, mul_one, Fin.eta]

end Cert.KernelIdeal.Att

end
-- ==== Proof.Rows.lean ====
module

public import proofs.«01_k».proof.Proof.Payloads

/-!
One row of the kernel's walk over the key tiles: after every step the running maximum is real, and the pending weights and
the accumulator are the ones taken against it.
-/

@[expose] public section

set_option maxRecDepth 16384

noncomputable section

namespace Cert.KernelIdeal.Att

open Cert.KernelIdeal Cert.KernelIdeal.Gen
open Idealize.ShloMosaic
open Cert.Att

theorem tile_apply (x : Vec Ideal S1x8192x128 .bf16) (j : ℕ) (hj : j < 16) (c : Fin 512) (l : Fin 128) :
    tile x j (ix3 (0 : Fin 1) c l) = x (ix3 (0 : Fin 1) ⟨512 * j + c, by omega⟩ l) := by
  unfold tile
  refine congrArg x (funext fun a => Fin.ext ?_)
  have hm : j % 16 = j := Nat.mod_eq_of_lt hj
  match a with
  | 0 => rfl
  | 1 => show 512 * (j % 16) + 1 * (c : ℕ) = 512 * j + c; omega
  | 2 => show 0 + 1 * (l : ℕ) = l; omega

/-- The values with the ones beside them that sum the weights. -/
def ext (V : ℕ → Fin 128 → ℝ) (d : Fin 256) (κ : ℕ) : ℝ := if h : (d : ℕ) < 128 then V κ ⟨d, h⟩ else 1

section Row

variable (n : ℕ) (hn : n < 16) (x0 : Vec Ideal S1x512x128 .f32) (x1 x2 : Vec Ideal S1x8192x128 .bf16) (R : Fin 1024)
  (S : ℕ → ℝ) (V : ℕ → Fin 128 → ℝ)
  (hS : ∀ κ : Fin 8192, ∑ l : Fin 128, qsOf x0 (ix2 R l) * x1 (ix3 (0 : Fin 1) κ l) = ((S κ : ℝ) : EReal))
  (hV : ∀ (κ : Fin 8192) (d : Fin 128), x2 (ix3 (0 : Fin 1) κ d) = ((V κ d : ℝ) : EReal))

/-- What holds of the row after `s` steps. -/
structure RowAt (x : St Ideal) (s : ℕ) (M : ℝ) : Prop where
  mx : ∀ l, x.mx (ix2 R l) = (M : EReal)
  wt : ∀ c : Fin 512, x.wt (ix2 R c) = ((wgt S n ((R : ℕ) % 512) M s c : ℝ) : EReal)
  acc : ∀ d : Fin 256, x.acc (ix2 R d) = ((gath S (ext V d) n ((R : ℕ) % 512) M s : ℝ) : EReal)
  sc : ∀ c : Fin 512, x.sc (ix3 (0 : Fin 1) R c) = ((S (512 * min s (n - 1) + c) : ℝ) : EReal)

include hS in
theorem score_tile (j : ℕ) (hj : j < 16) (c : Fin 512) :
    ∑ l : Fin 128, qsOf x0 (ix2 R l) * tile x1 j (ix3 (0 : Fin 1) c l) = ((S (512 * j + c) : ℝ) : EReal) := by
  simp only [tile_apply x1 j hj]
  exact hS ⟨512 * j + c, by omega⟩

include hV in
theorem value_tile (j : ℕ) (hj : j < 16) (c : Fin 512) (d : Fin 256) :
    (if h : (d : ℕ) < 128 then tile x2 j (ix3 (0 : Fin 1) c ⟨d, h⟩) else (1 : EReal)) = ((ext V d (512 * j + c) : ℝ) : EReal) := by
  unfold ext
  split
  · rw [tile_apply x2 j hj]; exact hV ⟨512 * j + c, by omega⟩ _
  · rfl

include hV in
/-- The weights of the `s`-th tile taken up, met with its values. -/
theorem gathered (x : St Ideal) (s : ℕ) (M : ℝ) (j : ℕ) (hj : j < 16) (hjs : j = if s = 0 then n else s - 1)
    (hw : ∀ c : Fin 512, x.wt (ix2 R c) = ((wgt S n ((R : ℕ) % 512) M s c : ℝ) : EReal))
    (ha : ∀ d : Fin 256, x.acc (ix2 R d) = ((gath S (ext V d) n ((R : ℕ) % 512) M s : ℝ) : EReal)) (d : Fin 256) :
    x.acc (ix2 R d) + ∑ c : Fin 512, x.wt (ix2 R c) * (if h : (d : ℕ) < 128 then tile x2 j (ix3 (0 : Fin 1) c ⟨d, h⟩) else (1 : EReal))
      = ((gath S (ext V d) n ((R : ℕ) % 512) M (s + 1) : ℝ) : EReal) := by
  simp only [hw, ha, value_tile x2 V hV j hj, ← EReal.coe_mul, ← coe_sum, ← EReal.coe_add]
  rw [← gath_succ]
  subst hjs
  rfl

include hn hS hV in
theorem row_init : ∃ M, RowAt n R S V (St.run n x0 x1 x2 0) 0 M := by
  have hf : ∀ c : Fin 512, (if Vis R c then ∑ l : Fin 128, qsOf x0 (ix2 R l) * tile x1 n (ix3 (0 : Fin 1) c l) else ⊥)
      = if Vis R c then ((S (512 * n + c) : ℝ) : EReal) else ⊥ := fun c => by
    rw [score_tile x0 x1 R S hS n hn c]
  obtain ⟨M, hM⟩ : ∃ M : ℝ, ownMax (qsOf x0) (tile x1 n) R = (M : EReal) := by
    unfold ownMax
    simp only [hf]
    refine fold_max_real _ (fun c => ?_) ⟨(R : ℕ) % 512, by omega⟩ ?_ ⊥ (by simp)
    · split <;> simp
    · rw [if_pos le_rfl]; simp
  refine ⟨M, fun l => (init_mx _ _ _ R l).trans hM, fun c => ?_, fun d => ?_, fun c => ?_⟩
  · refine (init_wt _ _ _ R c).trans ?_
    rw [hM, hf]
    unfold wgt
    rw [if_pos rfl]
    by_cases h : Vis R c
    · rw [if_pos h, if_pos h, exp2_sub]
    · rw [if_neg h, if_neg h, exp2_bot_sub]
  · refine (init_acc _ _ _ R d).trans ?_
    unfold gath
    simp
  · refine (init_sc _ _ _ R c).trans ?_
    rw [score_tile x0 x1 R S hS 0 (by omega) c]
    simp

include hn hS hV in
theorem row_step (s : ℕ) (hs : s < n) (M : ℝ) (h : RowAt n R S V (St.run n x0 x1 x2 s) s M) :
    ∃ M', RowAt n R S V (St.run n x0 x1 x2 (s + 1)) (s + 1) M' := by
  have hmin : min s (n - 1) = s := by omega
  obtain ⟨M', hM'⟩ : ∃ M' : ℝ, stepMax (St.run n x0 x1 x2 s) R (M : EReal) = (M' : EReal) := by
    unfold stepMax
    simp only [h.sc]
    exact fold_max_real _ (fun c => by simp) ⟨0, by omega⟩ (by simp) _ (by simp)
  refine ⟨M', fun l => ?_, fun c => ?_, fun d => ?_, fun c => ?_⟩
  · exact (step_mx _ _ _ _ R _ h.mx l).trans hM'
  · refine (step_wt _ _ _ _ R _ h.mx c).trans ?_
    rw [hM', h.sc, exp2_sub, hmin]
    unfold wgt
    rw [if_neg (by omega), Nat.add_sub_cancel]
  · refine (step_acc _ _ _ _ R _ h.mx d).trans ?_
    rw [hM', exp2_sub, gathered n x2 R S V hV _ s M _ (by split <;> omega) rfl h.wt h.acc d, ← EReal.coe_mul, gath_shift]
  · refine (step_sc _ _ _ _ R c).trans ?_
    exact score_tile x0 x1 R S hS (min (s + 1) (n - 1)) (by omega) c

include hn hS hV in
theorem row_at (s : ℕ) (hs : s ≤ n) : ∃ M, RowAt n R S V (St.run n x0 x1 x2 s) s M := by
  induction s with
  | zero => exact row_init n hn x0 x1 x2 R S V hS hV
  | succ s ih =>
    obtain ⟨M, h⟩ := ih (by omega)
    exact row_step n hn x0 x1 x2 R S V hS hV s (by omega) M h

include hn hS hV in
/-- What the row has accumulated at the end, over every tile it sees. -/
theorem row_total : ∃ M : ℝ, ∀ d : Fin 256,
    total (St.run n x0 x1 x2 n).acc (St.run n x0 x1 x2 n).wt (k0_pay70 (tile x2 (n - 1))) R d
      = ((gath S (ext V d) n ((R : ℕ) % 512) M (n + 1) : ℝ) : EReal) := by
  obtain ⟨M, h⟩ := row_at n hn x0 x1 x2 R S V hS hV n le_rfl
  refine ⟨M, fun d => ?_⟩
  unfold total
  simp only [pay70_apply]
  exact gathered n x2 R S V hV _ n M (n - 1) (by omega) (by split <;> omega) h.wt h.acc d

include hn hS hV in
/-- The row's output: its values weighed by the softmax of the scores it sees. -/
theorem row_div (S' : ℕ → ℝ) (hS' : ∀ κ, (2 : ℝ) ^ S κ = Real.exp (S' κ)) (d : Fin 128) :
    Ideal.div (total (St.run n x0 x1 x2 n).acc (St.run n x0 x1 x2 n).wt (k0_pay70 (tile x2 (n - 1))) R ⟨d, by omega⟩)
        (total (St.run n x0 x1 x2 n).acc (St.run n x0 x1 x2 n).wt (k0_pay70 (tile x2 (n - 1))) R ⟨128 + d, by omega⟩)
      = ((seenSum S' (fun κ => V κ d) (512 * n + (R : ℕ) % 512) / seenSum S' (fun _ => 1) (512 * n + (R : ℕ) % 512) : ℝ) : EReal) := by
  obtain ⟨M, h⟩ := row_total n hn x0 x1 x2 R S V hS hV
  have e1 : ext V ⟨(d : ℕ), by omega⟩ = fun κ => V κ d := funext fun κ => dif_pos d.2
  have e2 : ext V ⟨128 + (d : ℕ), by omega⟩ = fun _ => 1 := funext fun κ => dif_neg (show ¬ 128 + (d : ℕ) < 128 by omega)
  rw [h, h, e1, e2]
  exact gath_div S S' _ hS' n _ hn (by omega) M

end Row

end Cert.KernelIdeal.Att

end
-- ==== Proof.RefVals.lean ====
module

public import proofs.«01_k».proof.Proof.Reference
public import proofs.«01_k».proof.Proof.Math
public import Idealize.ShloMosaic.Lib.Pointwise
public import Idealize.ShloMosaic.Lib.IdealHost
public import Idealize.ShloMosaic.PureOps.Ideal.Laws

/-!
What each stage of the reference computes over the extended reals, at an index.
-/

@[expose] public section

set_option maxRecDepth 16384

noncomputable section

namespace Cert.ReferenceIdeal.Att

open Cert.ReferenceIdeal Cert.ReferenceIdeal.Gen
open Idealize.ShloMosaic
open Cert.Att

theorem lam_apply (lp : FVec Ideal S1x4x64 .f32) : lam (F := Ideal) lp = fun _ => lamOf (fun i x => lp (ix3 (0 : Fin 1) i x)) := by
  funext j
  pointwise [lam]
  rfl

set_option maxHeartbeats 2000000 in
theorem chunk_apply (i : Fin 8192) : chunk (ix1 i) = BitVec.ofNat 32 ((i : ℕ) / 64) := by
  pointwise [chunk]
  show Scalar.select
      (IntOp.andi
        (IntOp.cmpi CmpIPredicate.ne
          (if BitVec.ofNat 32 (i : ℕ) = 0 then 0 else if (BitVec.ofNat 32 (i : ℕ)).msb = true then -1 else 1)
          (if 64#32 = 0 then 0 else if (64#32).msb = true then -1 else 1))
        (IntOp.cmpi CmpIPredicate.ne (IntOp.remsi ArithUnit.host (BitVec.ofNat 32 (i : ℕ)) 64#32) 0#32))
      (IntOp.subi (IntOp.divsi ArithUnit.host (BitVec.ofNat 32 (i : ℕ)) 64#32) 1#32)
      (IntOp.divsi ArithUnit.host (BitVec.ofNat 32 (i : ℕ)) 64#32) = BitVec.ofNat 32 ((i : ℕ) / 64)
  revert i
  decide +kernel

theorem chunk_le (a b : Fin 128) : IntOp.cmpi CmpIPredicate.sle (BitVec.ofNat 32 (a : ℕ)) (BitVec.ofNat 32 (b : ℕ)) = if (a : ℕ) ≤ b then 1#1 else 0#1 := by
  revert a b; decide +kernel

theorem seen_apply (i κ : Fin 8192) : seen (ix2 i κ) = if (κ : ℕ) / 64 ≤ (i : ℕ) / 64 then 1#1 else 0#1 := by
  pointwise [seen]
  rw [chunk_apply, chunk_apply]
  exact chunk_le ⟨(κ : ℕ) / 64, by omega⟩ ⟨(i : ℕ) / 64, by omega⟩

theorem scores_apply (q k : FVec Ideal S2x8192x8x2x64 .f32) (b : Fin 2) (h : Fin 8) (c : Fin 2) (i κ : Fin 8192) :
    scores (F := Ideal) q k (ix5 b h c i κ) = (∑ l : Fin 64, q (ix5 b i h c l) * k (ix5 b κ h c l)) * Ideal.ofBits FTy.f32 0x3E000000#32 := by
  pointwise [scores]

theorem masked_apply (s : FVec Ideal S2x8x2x8192x8192 .f32) (b : Fin 2) (h : Fin 8) (c : Fin 2) (i κ : Fin 8192) :
    masked (F := Ideal) s (ix5 b h c i κ) = if (κ : ℕ) / 64 ≤ (i : ℕ) / 64 then s (ix5 b h c i κ) else ⊥ := by
  pointwise [masked]
  rw [seen_apply]
  by_cases hs : (κ : ℕ) / 64 ≤ (i : ℕ) / 64
  · rw [if_pos hs, if_pos hs]; rfl
  · rw [if_neg hs, if_neg hs]; exact neg_inf

/-- A maximum taken along the last of five axes. -/
theorem reduce_last {a b c d e : ℕ} {u : Shape} (x : (⟨5, ![a, b, c, d, e]⟩ : Shape).Idx → EReal) (init : u.Idx → EReal)
    (h' : (⟨5, ![a, b, c, d, e]⟩ : Shape).ReducesTo [4] (⟨4, ![a, b, c, d]⟩ : Shape))
    (h : (⟨5, ![a, b, c, d, e]⟩ : Shape).Reduces [4] (⟨4, ![a, b, c, d]⟩ : Shape)) (hu : 0 < u.numel)
    (i : Fin a) (j : Fin b) (k : Fin c) (l : Fin d) :
    Host.reduce (FloatOps.maximumf (F := Ideal) (φ := .f32)) x init h' hu (ix4 i j k l)
      = Finset.fold max (init (Shape.Idx.first hu)) (fun m : Fin e => x (ix5 i j k l m)) Finset.univ := by
  refine (Host.reduce_eq_fold_single (max : EReal → EReal → EReal) x init h' h hu _).trans ?_
  refine congrArg (fun f => Finset.fold max (init (Shape.Idx.first hu)) f Finset.univ) (funext fun m => congrArg x ?_)
  funext t
  fin_cases t <;> rfl

theorem reduces_last : S2x8x2x8192x8192.Reduces [4] S2x8x2x8192 := by decide

theorem rowmax_reduce (s : FVec Ideal S2x8x2x8192x8192 .f32) (b : Fin 2) (h : Fin 8) (c : Fin 2) (i : Fin 8192) (init : S_.Idx → EReal) :
    Host.reduce (FloatOps.maximumf (F := Ideal) (φ := .f32)) s init reducesTo_S2x8x2x8192x8192_S2x8x2x8192_d4 h_S_ (ix4 b h c i)
      = Finset.fold max (init (Shape.Idx.first h_S_)) (fun κ : Fin 8192 => s (ix5 b h c i κ)) Finset.univ := by
  rw [reduce_last s _ reducesTo_S2x8x2x8192x8192_S2x8x2x8192_d4 reduces_last h_S_ b h c i]

theorem fold_init (f : Fin 8192 → EReal) :
    Finset.fold max (constant (F := Ideal) S_ .f32 0xFF800000#32 (Shape.Idx.first h_S_)) f Finset.univ = Finset.fold max ⊥ f Finset.univ :=
  congrArg (fun z => Finset.fold max z f Finset.univ) neg_inf

theorem max_at {s : Shape} (x y : FVec Ideal s .f32) (j : s.Idx) : maximumf x y j = max (x j) (y j) := rfl

theorem splat_neg_inf (j : S2x8x2x8192.Idx) : broadcastInDim S2x8x2x8192 ![] bcast_S_S2x8x2x8192 (constant (F := Ideal) S_ .f32 0xFF800000#32) j = (⊥ : EReal) :=
  neg_inf

theorem rowmax_apply (s : FVec Ideal S2x8x2x8192x8192 .f32) (b : Fin 2) (h : Fin 8) (c : Fin 2) (i : Fin 8192) :
    rowmax (F := Ideal) s (ix4 b h c i) = max ⊥ (Finset.fold max ⊥ (fun κ : Fin 8192 => s (ix5 b h c i κ)) Finset.univ) := by
  unfold rowmax
  rw [max_at, splat_neg_inf, rowmax_reduce, fold_init]

theorem weights_apply (s : FVec Ideal S2x8x2x8192x8192 .f32) (b : Fin 2) (h : Fin 8) (c : Fin 2) (i κ : Fin 8192) :
    weights (F := Ideal) s (ix5 b h c i κ) = Ideal.exp (s (ix5 b h c i κ) - rowmax (F := Ideal) s (ix4 b h c i)) := by
  pointwise [weights]

theorem softmax_apply (w : FVec Ideal S2x8x2x8192x8192 .f32) (b : Fin 2) (h : Fin 8) (c : Fin 2) (i κ : Fin 8192) :
    softmax (F := Ideal) w (ix5 b h c i κ) = Ideal.div (w (ix5 b h c i κ)) (∑ κ, w (ix5 b h c i κ)) := by
  pointwise [softmax]

theorem mix_apply (l : FVec Ideal S_ .f32) (l₀ : EReal) (hl : l = fun _ => l₀) (p : FVec Ideal S2x8x2x8192x8192 .f32) (b : Fin 2) (h : Fin 8) (i κ : Fin 8192) :
    mix (F := Ideal) l p (ix4 b h i κ) = p (ix5 b h 0 i κ) - l₀ * p (ix5 b h 1 i κ) := by
  subst hl
  pointwise [mix]

theorem out_apply (v : FVec Ideal S2x8192x8x128 .f32) (a : FVec Ideal S2x8x8192x8192 .f32) (b : Fin 2) (i : Fin 8192) (h : Fin 8) (d : Fin 128) :
    out (F := Ideal) v a (ix4 b i h d) = ∑ κ : Fin 8192, v (ix4 b κ h d) * a (ix4 b h i κ) := by
  pointwise [out]

theorem tail_apply (o : FVec Ideal S2x8192x8x128 .f32) (g : FVec Ideal S1x128 .f32) (b : Fin 2) (i : Fin 8192) (h : Fin 8) (d : Fin 128) :
    tail (F := Ideal) o g (ix3 b i ⟨128 * h + d, by omega⟩) = normed (fun d => o (ix4 b i h d)) (fun d => g (ix2 0 d)) d := by
  pointwise [tail]
  rfl

end Cert.ReferenceIdeal.Att

end
-- ==== Proof.BlockValue.lean ====
module

public import proofs.«01_k».proof.Proof.Rows
public import proofs.«01_k».proof.Proof.RefVals

/-!
A block of the kernel's result, from the blocks of its inputs, is the same block of the reference's result, where the
queries, keys, values and `λ`'s vectors are real.
-/

@[expose] public section

set_option maxRecDepth 16384

noncomputable section

namespace Cert.Att

open Idealize.ShloMosaic
open Cert.KernelIdeal (S1x512x128 S1x8192x128 S4x64)
open Cert.ReferenceIdeal (S2x8192x8x2x64 S2x8192x8x128 S1x4x64 S1x128 S2x8192x1024)
open Cert.KernelIdeal.Att (qsOf blockOf total St.run pay32_apply pay1_apply pay71_apply row_div)
open Cert.ReferenceIdeal.Att (result scores masked weights rowmax softmax mix out tail lam scores_apply masked_apply weights_apply rowmax_apply softmax_apply mix_apply
  out_apply tail_apply lam_apply)

theorem eighth : Ideal.ofBits FTy.f32 0x3E000000#32 = ((8⁻¹ : ℝ) : EReal) := by
  simp [Ideal.ofBits, Ideal.ieee]
  rw [← EReal.coe_mul]
  norm_num

theorem sum_halves (f : Fin 128 → EReal) : ∑ l, f l = ∑ l : Fin 64, f ⟨l, by omega⟩ + ∑ l : Fin 64, f ⟨64 + l, by omega⟩ :=
  Fin.sum_univ_add (a := 64) (b := 64) f

theorem two_rpow (a : ℝ) : (2 : ℝ) ^ (a * (8⁻¹ * (Real.log 2)⁻¹)) = Real.exp (a * 8⁻¹) := by
  have h : Real.log 2 ≠ 0 := (Real.log_pos (by norm_num)).ne'
  rw [Real.rpow_def_of_pos (by norm_num)]
  congr 1
  field_simp

section

variable (q k : FVec Ideal S2x8192x8x2x64 .f32) (v : FVec Ideal S2x8192x8x128 .f32) (lp : FVec Ideal S1x4x64 .f32) (g : FVec Ideal S1x128 .f32)
  (qr kr : S2x8192x8x2x64.Idx → ℝ) (vr : S2x8192x8x128.Idx → ℝ)
  (hq : ∀ j, q j = ((qr j : ℝ) : EReal)) (hk : ∀ j, k j = ((kr j : ℝ) : EReal)) (hv : ∀ j, v j = ((vr j : ℝ) : EReal))
  (b : Fin 2) (h : Fin 8)

/-- The product of a query and a key of one half, unscaled. -/
def dotr (i : Fin 8192) (c : Fin 2) (κ : ℕ) : ℝ :=
  if hκ : κ < 8192 then ∑ l : Fin 64, qr (ix5 b i h c l) * kr (ix5 b ⟨κ, hκ⟩ h c l) else 0

/-- The values of one head. -/
def valr (κ : ℕ) (d : Fin 128) : ℝ := if hκ : κ < 8192 then vr (ix4 b ⟨κ, hκ⟩ h d) else 0

include hq hk in
theorem ref_masked (i κ : Fin 8192) (c : Fin 2) :
    masked (F := Ideal) (scores q k) (ix5 b h c i κ)
      = if (κ : ℕ) / 64 ≤ (i : ℕ) / 64 then ((dotr qr kr b h i c κ * 8⁻¹ : ℝ) : EReal) else ⊥ := by
  rw [masked_apply, scores_apply, eighth]
  simp only [hq, hk, ← EReal.coe_mul, ← coe_sum]
  unfold dotr
  rw [dif_pos κ.2]

include hq hk in
theorem ref_weights (i : Fin 8192) (c : Fin 2) : ∃ M : ℝ, ∀ κ : Fin 8192,
    weights (F := Ideal) (masked (scores q k)) (ix5 b h c i κ)
      = ((Real.exp (-M) * (if (κ : ℕ) / 64 ≤ (i : ℕ) / 64 then Real.exp (dotr qr kr b h i c κ * 8⁻¹) else 0) : ℝ) : EReal) := by
  obtain ⟨M, hM⟩ := ref_max (fun κ => dotr qr kr b h i c κ * 8⁻¹) i i.2
  refine ⟨M, fun κ => ?_⟩
  rw [weights_apply, rowmax_apply]
  simp only [ref_masked q k qr kr hq hk b h]
  rw [hM]
  exact ref_weight (fun κ => dotr qr kr b h i c κ * 8⁻¹) i M κ

/-- One half's output at a query: its values weighed by the softmax of the scores it sees. -/
def half (i : Fin 8192) (c : Fin 2) (d : Fin 128) : ℝ :=
  seenSum (fun κ => dotr qr kr b h i c κ * 8⁻¹) (fun κ => valr vr b h κ d) i / seenSum (fun κ => dotr qr kr b h i c κ * 8⁻¹) (fun _ => 1) i

include hq hk hv in
theorem ref_out (l : ℝ) (hl : lamOf (fun i x => lp (ix3 (0 : Fin 1) i x)) = ((l : ℝ) : EReal)) (i : Fin 8192) (d : Fin 128) :
    out (F := Ideal) v (mix (lam lp) (softmax (weights (masked (scores q k))))) (ix4 b i h d)
      = ((half qr kr vr b h i 0 d : ℝ) : EReal) - (l : EReal) * ((half qr kr vr b h i 1 d : ℝ) : EReal) := by
  obtain ⟨M₀, h₀⟩ := ref_weights q k qr kr hq hk b h i 0
  obtain ⟨M₁, h₁⟩ := ref_weights q k qr kr hq hk b h i 1
  rw [out_apply]
  simp only [mix_apply _ (l : EReal) ((lam_apply lp).trans (funext fun _ => hl)), softmax_apply, h₀, h₁]
  have hvr (κ : Fin 8192) : v (ix4 b κ h d) = ((valr vr b h κ d : ℝ) : EReal) := by
    rw [hv]; unfold valr; rw [dif_pos κ.2]
  simp only [hvr]
  exact ref_row (fun κ => dotr qr kr b h i 0 κ * 8⁻¹) (fun κ => dotr qr kr b h i 1 κ * 8⁻¹) (fun κ => valr vr b h κ d) i i.2 M₀ M₁ l

theorem lane_lt (c : Fin 2) (l : Fin 64) : 64 * (c : ℕ) + l < 128 := by omega
theorem row_lt {n : ℕ} (hn : n < 16) (r : Fin 512) : 512 * n + (r : ℕ) < 8192 := by omega
theorem col_lt (h : Fin 8) (d : Fin 128) : 128 * (h : ℕ) + d < 1024 := by omega

variable (n : ℕ) (hn : n < 16) (x0 : Vec Ideal S1x512x128 .f32) (x1 x2 : Vec Ideal S1x8192x128 .bf16) (x3 : Vec Ideal S4x64 .f32) (x4 : Vec Ideal S1x128 .f32)
  (hx0 : ∀ (r : Fin 512) (c : Fin 2) (l : Fin 64), x0 (ix3 (0 : Fin 1) r ⟨64 * c + l, lane_lt c l⟩) = q (ix5 b ⟨512 * n + r, row_lt hn r⟩ h c l))
  (hx1 : ∀ (κ : Fin 8192) (c : Fin 2) (l : Fin 64), x1 (ix3 (0 : Fin 1) κ ⟨64 * c + l, lane_lt c l⟩) = k (ix5 b κ h c l))
  (hx2 : ∀ (κ : Fin 8192) (d : Fin 128), x2 (ix3 (0 : Fin 1) κ d) = v (ix4 b κ h d))
  (hx3 : ∀ (i : Fin 4) (x : Fin 64), x3 (ix2 i x) = lp (ix3 (0 : Fin 1) i x))
  (hx4 : ∀ d : Fin 128, x4 (ix2 (0 : Fin 1) d) = g (ix2 (0 : Fin 1) d))

include hq hk hx0 hx1 in
theorem score_low (r : Fin 512) (κ : Fin 8192) :
    ∑ l : Fin 128, qsOf x0 (ix2 ⟨r, by omega⟩ l) * x1 (ix3 (0 : Fin 1) κ l)
      = ((dotr qr kr b h ⟨512 * n + r, by omega⟩ 0 κ * (8⁻¹ * (Real.log 2)⁻¹) : ℝ) : EReal) := by
  have e1 (l : Fin 64) : qsOf x0 (ix2 ⟨r, by omega⟩ ⟨l, by omega⟩) * x1 (ix3 (0 : Fin 1) κ ⟨l, by omega⟩)
      = ((qr (ix5 b ⟨512 * n + r, by omega⟩ h 0 l) * kr (ix5 b κ h 0 l) * (8⁻¹ * (Real.log 2)⁻¹) : ℝ) : EReal) := by
    have a := hx0 r 0 l
    have a' := hx1 κ 0 l
    simp only [Fin.val_zero, mul_zero, zero_add] at a a'
    rw [pay32_apply, dif_pos (show (r : ℕ) < 512 from r.2), if_pos (show (l : ℕ) < 64 from l.2), a', hk]
    simp only [Fin.eta]
    rw [a, hq]
    unfold scl
    rw [← EReal.coe_mul, ← EReal.coe_mul]
    congr 1
    ring
  have e2 (l : Fin 64) : qsOf x0 (ix2 ⟨r, by omega⟩ ⟨64 + l, by omega⟩) * x1 (ix3 (0 : Fin 1) κ ⟨64 + l, by omega⟩) = 0 := by
    rw [pay32_apply, dif_pos (show (r : ℕ) < 512 from r.2), if_neg (show ¬ 64 + (l : ℕ) < 64 by omega), zero_mul]
  rw [sum_halves]
  simp only [e1, e2, Finset.sum_const_zero, add_zero, ← coe_sum]
  unfold dotr
  rw [dif_pos κ.2, Finset.sum_mul]

include hq hk hx0 hx1 in
theorem score_high (r : Fin 512) (κ : Fin 8192) :
    ∑ l : Fin 128, qsOf x0 (ix2 ⟨512 + r, by omega⟩ l) * x1 (ix3 (0 : Fin 1) κ l)
      = ((dotr qr kr b h ⟨512 * n + r, by omega⟩ 1 κ * (8⁻¹ * (Real.log 2)⁻¹) : ℝ) : EReal) := by
  have e1 (l : Fin 64) : qsOf x0 (ix2 ⟨512 + r, by omega⟩ ⟨l, by omega⟩) * x1 (ix3 (0 : Fin 1) κ ⟨l, by omega⟩) = 0 := by
    rw [pay32_apply, dif_neg (show ¬ 512 + (r : ℕ) < 512 by omega), if_pos (show (l : ℕ) < 64 from l.2), zero_mul]
  have e2 (l : Fin 64) : qsOf x0 (ix2 ⟨512 + r, by omega⟩ ⟨64 + l, by omega⟩) * x1 (ix3 (0 : Fin 1) κ ⟨64 + l, by omega⟩)
      = ((qr (ix5 b ⟨512 * n + r, by omega⟩ h 1 l) * kr (ix5 b κ h 1 l) * (8⁻¹ * (Real.log 2)⁻¹) : ℝ) : EReal) := by
    have a := hx0 r 1 l
    have a' := hx1 κ 1 l
    simp only [Fin.val_one, mul_one] at a a'
    rw [pay32_apply, dif_neg (show ¬ 512 + (r : ℕ) < 512 by omega), if_neg (show ¬ 64 + (l : ℕ) < 64 by omega), a', hk]
    simp only [Nat.add_sub_cancel_left, Fin.eta]
    rw [a, hq]
    unfold scl
    rw [← EReal.coe_mul, ← EReal.coe_mul]
    congr 1
    ring
  rw [sum_halves]
  simp only [e1, e2, Finset.sum_const_zero, zero_add, ← coe_sum]
  unfold dotr
  rw [dif_pos κ.2, Finset.sum_mul]

include hn hq hk hv hx0 hx1 hx2 hx3 hx4 in
/-- The kernel's block against the reference's. -/
theorem block_eq (l : ℝ) (hl : lamOf (fun i x => lp (ix3 (0 : Fin 1) i x)) = ((l : ℝ) : EReal)) (r : Fin 512) (d : Fin 128) :
    blockOf n x0 x1 x2 x3 x4 (ix3 (0 : Fin 1) r d) = result q k v lp g (ix3 b ⟨512 * n + r, row_lt hn r⟩ ⟨128 * h + d, col_lt h d⟩) := by
  have hV : ∀ (κ : Fin 8192) (d : Fin 128), x2 (ix3 (0 : Fin 1) κ d) = ((valr vr b h κ d : ℝ) : EReal) := fun κ d => by
    rw [hx2, hv]; unfold valr; rw [dif_pos κ.2]
  have d0 (d : Fin 128) := row_div n hn x0 x1 x2 ⟨r, by omega⟩ _ (valr vr b h)
    (score_low q k qr kr hq hk b h n hn x0 x1 hx0 hx1 r) hV _ (fun κ => two_rpow _) d
  have d1 (d : Fin 128) := row_div n hn x0 x1 x2 ⟨512 + r, by omega⟩ _ (valr vr b h)
    (score_high q k qr kr hq hk b h n hn x0 x1 hx0 hx1 r) hV _ (fun κ => two_rpow _) d
  have m0 : 512 * n + (r : ℕ) % 512 = 512 * n + r := by omega
  have m1 : 512 * n + (512 + (r : ℕ)) % 512 = 512 * n + r := by omega
  simp only [m0] at d0
  simp only [m1] at d1
  unfold blockOf result
  rw [pay1_apply, pay71_apply, tail_apply]
  simp only [d0, d1, hx3, hx4, hl, ref_out q k v lp qr kr vr hq hk hv b h l hl]
  rfl

end

end Cert.Att

end
-- ==== Proof.ArrayValue.lean ====
module

public import proofs.«01_k».proof.Proof.FrameIdeal
public import proofs.«01_k».proof.Proof.BlockValue
public import Idealize.ShloMosaic.Lib.Pipeline.Value
public import Idealize.ShloMosaic.Lib.Pipeline.ValueKit
public import Idealize.ShloMosaic.Lib.Pipeline.Covers
public import Idealize.ShloMosaic.Lib.StableHlo.RunRead

/-!
The kernel's result array: what the host operations hand the kernel, which block of it each grid point reads, and the
result's blocks put together.
-/

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ### What the kernel is handed -/

theorem V_v0 (c : Dev nD) : V m c main_v0 = shapeCast S2x8192x1024 (m ((c : Thread nD τ).loc main_arg0)) shapeCasts_S2x8192x8x2x64_S2x8192x1024 := by
  unfold V; after_reads_simp; rfl
theorem V_v2 (c : Dev nD) : V m c main_v2 = (truncf (F := Ideal) .bf16 (shapeCast S2x8192x1024 (m ((c : Thread nD τ).loc main_arg1)) shapeCasts_S2x8192x8x2x64_S2x8192x1024) bitsLt_bf16_f32 : FVec Ideal S2x8192x1024 .bf16) := by
  unfold V; after_reads_simp; rfl
theorem V_v4 (c : Dev nD) : V m c main_v4 = (truncf (F := Ideal) .bf16 (shapeCast S2x8192x1024 (m ((c : Thread nD τ).loc main_arg2)) shapeCasts_S2x8192x8x128_S2x8192x1024) bitsLt_bf16_f32 : FVec Ideal S2x8192x1024 .bf16) := by
  unfold V; after_reads_simp; rfl
theorem V_v5 (c : Dev nD) : V m c main_v5 = shapeCast S4x64 (m ((c : Thread nD τ).loc main_arg3)) shapeCasts_S1x4x64_S4x64 := by
  unfold V; after_reads_simp; rfl
theorem V_v7 (c : Dev nD) : V m c main_v7 = shapeCast S1x128 (shapeCast S128 (m ((c : Thread nD τ).loc main_arg4)) shapeCasts_S1x128_S128) shapeCasts_S128_S1x128 := by
  unfold V; after_reads_simp; rfl

theorem cast_qk (x : FVec Ideal S2x8192x8x2x64 .f32) (b : Fin 2) (i : Fin 8192) (h : Fin 8) (c : Fin 2) (l : Fin 64) :
    shapeCast S2x8192x1024 x shapeCasts_S2x8192x8x2x64_S2x8192x1024 (ix3 b i ⟨128 * h + (64 * c + l), by omega⟩) = x (ix5 b i h c l) := by
  pointwise []

theorem cast_v (x : FVec Ideal S2x8192x8x128 .f32) (b : Fin 2) (i : Fin 8192) (h : Fin 8) (d : Fin 128) :
    shapeCast S2x8192x1024 x shapeCasts_S2x8192x8x128_S2x8192x1024 (ix3 b i ⟨128 * h + d, by omega⟩) = x (ix4 b i h d) := by
  pointwise []

theorem cast_lp (x : FVec Ideal S1x4x64 .f32) (i : Fin 4) (l : Fin 64) :
    shapeCast S4x64 x shapeCasts_S1x4x64_S4x64 (ix2 i l) = x (ix3 (0 : Fin 1) i l) := by
  pointwise []

theorem cast_g (x : FVec Ideal S1x128 .f32) (d : Fin 128) :
    shapeCast S1x128 (shapeCast S128 x shapeCasts_S1x128_S128) shapeCasts_S128_S1x128 (ix2 (0 : Fin 1) d) = x (ix2 (0 : Fin 1) d) := by
  pointwise []

theorem trunc_at {s : Shape} (x : FVec Ideal s .f32) (j : s.Idx) : truncf (F := Ideal) .bf16 x bitsLt_bf16_f32 j = x j := rfl

/-! ### Which block a grid point reads -/

theorem index0 : ∀ t : Fin grid0.N, cc0_transform_0 (grid0.coords t) = ![(grid0.coords t 0).val, (grid0.coords t 2).val, (grid0.coords t 1).val] := by decide +kernel
theorem index1 : ∀ t : Fin grid0.N, cc0_transform_1 (grid0.coords t) = ![(grid0.coords t 0).val, 0, (grid0.coords t 1).val] := by decide +kernel
theorem index2 : ∀ t : Fin grid0.N, cc0_transform_2 (grid0.coords t) = ![(grid0.coords t 0).val, 0, (grid0.coords t 1).val] := by decide +kernel
theorem index3 : ∀ t : Fin grid0.N, cc0_transform_3 (grid0.coords t) = ![0, 0] := by decide +kernel
theorem index4 : ∀ t : Fin grid0.N, cc0_transform_4 (grid0.coords t) = ![0, 0] := by decide +kernel
theorem index5 : ∀ t : Fin grid0.N, cc0_transform_5 (grid0.coords t) = ![(grid0.coords t 0).val, (grid0.coords t 2).val, (grid0.coords t 1).val] := by decide +kernel

/-- The batch entry, head and query block of a grid point. -/
abbrev bAt (t : Fin cfg0.N) : Fin 2 := ⟨(grid0.coords t 0).val, (grid0.coords t 0).isLt⟩
abbrev hAt (t : Fin cfg0.N) : Fin 8 := ⟨(grid0.coords t 1).val, (grid0.coords t 1).isLt⟩
theorem nAt_lt (t : Fin cfg0.N) : nOf (grid0.coords t) < 16 := (grid0.coords t 2).isLt

theorem emb0 (t : Fin cfg0.N) (r : Fin 512) (l : Fin 128) :
    (win0_0.rect t).emb (ix3 (0 : Fin 1) r l)
      = ix3 (bAt t) ⟨512 * nOf (grid0.coords t) + r, by have := nAt_lt t; omega⟩ ⟨128 * (hAt t : ℕ) + l, by have := (hAt t).isLt; omega⟩ := by
  have e := index0 t
  funext a
  refine Fin.ext ((win0_0.rect_emb_val t _ a).trans ?_)
  show cc0_transform_0 (grid0.coords t) a * S1x512x128.size a + _ = _
  rw [e]
  match a with
  | 0 => show (grid0.coords t 0).val * 1 + 0 = (grid0.coords t 0).val; omega
  | 1 => show (grid0.coords t 2).val * 512 + r.val = 512 * (grid0.coords t 2).val + r.val; omega
  | 2 => show (grid0.coords t 1).val * 128 + l.val = 128 * (grid0.coords t 1).val + l.val; omega

theorem emb5 (t : Fin cfg0.N) (r : Fin 512) (l : Fin 128) :
    (win0_5.rect t).emb (ix3 (0 : Fin 1) r l)
      = ix3 (bAt t) ⟨512 * nOf (grid0.coords t) + r, by have := nAt_lt t; omega⟩ ⟨128 * (hAt t : ℕ) + l, by have := (hAt t).isLt; omega⟩ := by
  have e := index5 t
  funext a
  refine Fin.ext ((win0_5.rect_emb_val t _ a).trans ?_)
  show cc0_transform_5 (grid0.coords t) a * S1x512x128.size a + _ = _
  rw [e]
  match a with
  | 0 => show (grid0.coords t 0).val * 1 + 0 = (grid0.coords t 0).val; omega
  | 1 => show (grid0.coords t 2).val * 512 + r.val = 512 * (grid0.coords t 2).val + r.val; omega
  | 2 => show (grid0.coords t 1).val * 128 + l.val = 128 * (grid0.coords t 1).val + l.val; omega

theorem emb1 (t : Fin cfg0.N) (κ : Fin 8192) (l : Fin 128) :
    (win0_1.rect t).emb (ix3 (0 : Fin 1) κ l) = ix3 (bAt t) κ ⟨128 * (hAt t : ℕ) + l, by have := (hAt t).isLt; omega⟩ := by
  have e := index1 t
  funext a
  refine Fin.ext ((win0_1.rect_emb_val t _ a).trans ?_)
  show cc0_transform_1 (grid0.coords t) a * S1x8192x128.size a + _ = _
  rw [e]
  match a with
  | 0 => show (grid0.coords t 0).val * 1 + 0 = (grid0.coords t 0).val; omega
  | 1 => show 0 * 8192 + κ.val = κ.val; omega
  | 2 => show (grid0.coords t 1).val * 128 + l.val = 128 * (grid0.coords t 1).val + l.val; omega

theorem emb2 (t : Fin cfg0.N) (κ : Fin 8192) (l : Fin 128) :
    (win0_2.rect t).emb (ix3 (0 : Fin 1) κ l) = ix3 (bAt t) κ ⟨128 * (hAt t : ℕ) + l, by have := (hAt t).isLt; omega⟩ := by
  have e := index2 t
  funext a
  refine Fin.ext ((win0_2.rect_emb_val t _ a).trans ?_)
  show cc0_transform_2 (grid0.coords t) a * S1x8192x128.size a + _ = _
  rw [e]
  match a with
  | 0 => show (grid0.coords t 0).val * 1 + 0 = (grid0.coords t 0).val; omega
  | 1 => show 0 * 8192 + κ.val = κ.val; omega
  | 2 => show (grid0.coords t 1).val * 128 + l.val = 128 * (grid0.coords t 1).val + l.val; omega

theorem emb3 (t : Fin cfg0.N) (i : Fin 4) (l : Fin 64) : (win0_3.rect t).emb (ix2 i l) = ix2 i l := by
  have e := index3 t
  funext a
  refine Fin.ext ((win0_3.rect_emb_val t _ a).trans ?_)
  show cc0_transform_3 (grid0.coords t) a * S4x64.size a + _ = _
  rw [e]
  match a with
  | 0 => show 0 * 4 + i.val = i.val; omega
  | 1 => show 0 * 64 + l.val = l.val; omega

theorem emb4 (t : Fin cfg0.N) (d : Fin 128) : (win0_4.rect t).emb (ix2 (0 : Fin 1) d) = ix2 (0 : Fin 1) d := by
  have e := index4 t
  funext a
  refine Fin.ext ((win0_4.rect_emb_val t _ a).trans ?_)
  show cc0_transform_4 (grid0.coords t) a * S1x128.size a + _ = _
  rw [e]
  match a with
  | 0 => show 0 * 1 + 0 = 0; omega
  | 1 => show 0 * 128 + d.val = d.val; omega

theorem blk0 (c : Dev nD) (t : Fin cfg0.N) (r : Fin 512) (p : Fin 2) (l : Fin 64) :
    iblk m c 0 t (ix3 (0 : Fin 1) r ⟨64 * p + l, by omega⟩)
      = m ((c : Thread nD τ).loc main_arg0) (ix5 (bAt t) ⟨512 * nOf (grid0.coords t) + r, by have := nAt_lt t; omega⟩ (hAt t) p l) := by
  refine Eq.trans (show _ = V m c main_v0 ((win0_0.rect t).emb (ix3 (0 : Fin 1) r ⟨64 * p + l, by omega⟩)) from rfl) ?_
  rw [emb0, V_v0]
  exact cast_qk _ _ _ (hAt t) p l

theorem blk1 (c : Dev nD) (t : Fin cfg0.N) (κ : Fin 8192) (p : Fin 2) (l : Fin 64) :
    iblk m c 1 t (ix3 (0 : Fin 1) κ ⟨64 * p + l, by omega⟩) = m ((c : Thread nD τ).loc main_arg1) (ix5 (bAt t) κ (hAt t) p l) := by
  refine Eq.trans (show _ = V m c main_v2 ((win0_1.rect t).emb (ix3 (0 : Fin 1) κ ⟨64 * p + l, by omega⟩)) from rfl) ?_
  rw [emb1, V_v2, trunc_at]
  exact cast_qk _ _ _ (hAt t) p l

theorem blk2 (c : Dev nD) (t : Fin cfg0.N) (κ : Fin 8192) (d : Fin 128) :
    iblk m c 2 t (ix3 (0 : Fin 1) κ d) = m ((c : Thread nD τ).loc main_arg2) (ix4 (bAt t) κ (hAt t) d) := by
  refine Eq.trans (show _ = V m c main_v4 ((win0_2.rect t).emb (ix3 (0 : Fin 1) κ d)) from rfl) ?_
  rw [emb2, V_v4, trunc_at]
  exact cast_v _ _ _ (hAt t) d

theorem blk3 (c : Dev nD) (t : Fin cfg0.N) (i : Fin 4) (l : Fin 64) :
    iblk m c 3 t (ix2 i l) = m ((c : Thread nD τ).loc main_arg3) (ix3 (0 : Fin 1) i l) := by
  refine Eq.trans (show _ = V m c main_v5 ((win0_3.rect t).emb (ix2 i l)) from rfl) ?_
  rw [emb3, V_v5]
  exact cast_lp _ i l

theorem blk4 (c : Dev nD) (t : Fin cfg0.N) (d : Fin 128) :
    iblk m c 4 t (ix2 (0 : Fin 1) d) = m ((c : Thread nD τ).loc main_arg4) (ix2 (0 : Fin 1) d) := by
  refine Eq.trans (show _ = V m c main_v7 ((win0_4.rect t).emb (ix2 (0 : Fin 1) d)) from rfl) ?_
  rw [emb4, V_v7]
  exact cast_g _ d

/-! ### The result -/

/-- The reference's result on the kernel's arguments. -/
abbrev wanted (c : Dev nD) : Buf (Elt Ideal) ((c : Thread nD τ).loc main_v8) :=
  Cert.ReferenceIdeal.Att.result (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The arguments whose entries must be real are. -/
structure Fin4 (c : Dev nD) : Prop where
  q : ∀ j : S2x8192x8x2x64.Idx, ∃ r : ℝ, m ((c : Thread nD τ).loc main_arg0) j = ((r : ℝ) : EReal)
  k : ∀ j : S2x8192x8x2x64.Idx, ∃ r : ℝ, m ((c : Thread nD τ).loc main_arg1) j = ((r : ℝ) : EReal)
  v : ∀ j : S2x8192x8x128.Idx, ∃ r : ℝ, m ((c : Thread nD τ).loc main_arg2) j = ((r : ℝ) : EReal)
  lp : ∀ j : S1x4x64.Idx, ∃ r : ℝ, m ((c : Thread nD τ).loc main_arg3) j = ((r : ℝ) : EReal)

theorem outBlk_eq (c : Dev nD) (hf : Fin4 m c) (t : Fin cfg0.N) (r : Fin 512) (d : Fin 128) :
    outBlk m c t (ix3 (0 : Fin 1) r d) = wanted m c ((win0_5.rect t).emb (ix3 (0 : Fin 1) r d)) := by
  obtain ⟨hq, hk, hv, hlp⟩ := hf
  choose qr hq using hq
  choose kr hk using hk
  choose vr hv using hv
  obtain ⟨l, hl⟩ := Cert.Att.lamOf_real (fun i x => m ((c : Thread nD τ).loc main_arg3) (ix3 (0 : Fin 1) i x)) fun i x => hlp _
  rw [emb5]
  exact Cert.Att.block_eq (m ((c : Thread nD τ).loc main_arg0)) (m ((c : Thread nD τ).loc main_arg1)) (m ((c : Thread nD τ).loc main_arg2))
    (m ((c : Thread nD τ).loc main_arg3)) (m ((c : Thread nD τ).loc main_arg4)) qr kr vr hq hk hv (bAt t) (hAt t) (nOf (grid0.coords t)) (nAt_lt t)
    (iblk m c 0 t) (iblk m c 1 t) (iblk m c 2 t) (iblk m c 3 t) (iblk m c 4 t) (blk0 m c t) (blk1 m c t) (blk2 m c t) (blk3 m c t) (blk4 m c t) l hl r d

theorem flushed_eq (c : Dev nD) (hf : Fin4 m c) (t : Fin cfg0.N) :
    (dats m 0 c).flushed 5 t = (win0_5.blk t).view.read (Elt Ideal) (wanted m c) := by
  show (cfg0.win 5).cut (grid0.coords t) ((dats m 0 c).after 5 t) = _
  rw [after0_5]
  funext y
  have e : y = ix3 (0 : Fin 1) (y 1) (y 2) := by
    funext a
    match a with
    | 0 => exact Subsingleton.elim (α := Fin 1) _ _
    | 1 => rfl
    | 2 => rfl
  rw [e]
  exact outBlk_eq m c hf t (y 1) (y 2)

theorem covers : win0_5.Covers := by decide +kernel

theorem final (c : Dev nD) (hf : Fin4 m c) : (dats m 0 c).arrAt 5 cfg0.N = wanted m c :=
  Dat.arrAt_eq_of_cover (dats m 0 c) 5 (wanted m c) (fun t _ => flushed_eq m c hf t)
    (fun i => Window.Covers.cover (w := win0_5) covers (Memref.isWhole_whole _) i)

end Cert.KernelIdeal.Att

end
-- ==== Proof.Finite.lean ====
module

public import proofs.«01_k».proof.Pre_finite
public import Idealize.ShloMosaic.PureOps.Ideal.Laws
public import Idealize.ShloMosaic.Lib.ReduceAll
public import Idealize.ShloMosaic.Lib.StableHlo.Predicate

/-!
The precondition opened: where it holds, every entry of the queries, keys, values and difference weights is a real.
-/

@[expose] public section

set_option maxRecDepth 16384

noncomputable section

namespace Cert.Pre_finite

open Idealize.ShloMosaic

theorem facts : Facts where
  bcast_S_S2x8192x8x2x64 := by decide
  reducesTo_S2x8192x8x2x64_S_d0_1_2_3_4 := by decide
  h_S_ := by decide
  bcast_S_S2x8192x8x128 := by decide
  reducesTo_S2x8192x8x128_S_d0_1_2_3 := by decide
  bcast_S_S1x4x64 := by decide
  reducesTo_S1x4x64_S_d0_1_2 := by decide

instance : Subsingleton S_.Idx := ⟨fun a b => funext fun x => x.elim0⟩

/-- An extended real whose absolute value is below infinity is a real. -/
theorem real_of_below {x : EReal} (h : max x (-x) < ⊤) : ∃ r : ℝ, x = (r : EReal) := by
  induction x using EReal.rec with
  | bot => simp at h
  | top => simp at h
  | coe r => exact ⟨r, rfl⟩

theorem bound : (FloatOps.ofBits (F := Ideal) .f32 0x7F800000#32 : EReal) = ⊤ := by
  show Ideal.ofBits .f32 0x7F800000#32 = ⊤
  simp [Ideal.ofBits, Ideal.ieee]

/-- One conjunct: an array whose entries all pass the comparison holds reals. -/
theorem reals {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : ∃ r : ℝ, x i = (r : EReal) := by
  have a := Host.reduce_andi_all _ _ _ _ _ h i
  have b : Ideal.cmp .olt (max (x i) (-(x i))) (FloatOps.ofBits (F := Ideal) .f32 0x7F800000#32 : EReal) = 1#1 := a
  rw [bound] at b
  refine real_of_below ?_
  by_contra hn
  simp [Ideal.cmp, hn] at b

theorem and_one {a b : IVec S_ 1} {j : S_.Idx} (h : andi a b j = 1#1) : a j = 1#1 ∧ b j = 1#1 := by
  have e : a j &&& b j = 1#1 := h
  generalize a j = p at *
  generalize b j = q at *
  revert e
  revert p q
  decide

/-- Where the precondition holds, the queries, keys, values and difference weights are real. -/
theorem fn_reals (q k : FVec Ideal S2x8192x8x2x64 .f32) (v : FVec Ideal S2x8192x8x128 .f32) (lp : FVec Ideal S1x4x64 .f32) (g : FVec Ideal S1x128 .f32)
    [Facts] (h : fn (F := Ideal) q k v lp g = fun _ => 1#1) :
    (∀ i, ∃ r : ℝ, q i = (r : EReal)) ∧ (∀ i, ∃ r : ℝ, k i = (r : EReal)) ∧ (∀ i, ∃ r : ℝ, v i = (r : EReal)) ∧ ∀ i, ∃ r : ℝ, lp i = (r : EReal) := by
  have h := congrFun h (fun x => x.elim0)
  obtain ⟨h, h4⟩ := and_one h
  obtain ⟨h, h3⟩ := and_one h
  obtain ⟨h1, h2⟩ := and_one h
  exact ⟨reals _ _ _ _ _ h1, reals _ _ _ _ _ h2, reals _ _ _ _ _ h3, reals _ _ _ _ _ h4⟩

end Cert.Pre_finite

end
-- ==== Proof.FfnMath.lean ====
module

public import Idealize.ShloMosaic.Lib.Pointwise
public import Idealize.ShloMosaic.Lib.IdealHost
public import Idealize.ShloMosaic.PureOps.Ideal.Laws

/-!
The feed-forward network of one row, in plain sums, and a sum over the hidden units cut into tiles of 256.
-/

@[expose] public section

noncomputable section

namespace Cert.Ffn

open Idealize.ShloMosaic

/-- The root-mean-square normalization of a row `x`, scaled by `g`. -/
def rmsRow (x g : Fin 1024 → EReal) (d : Fin 1024) : EReal :=
  x d * Ideal.rsqrt (Ideal.div (∑ e, x e * x e) (Ideal.ofBits FTy.f32 1149239296#32) + Ideal.ofBits FTy.f32 897988541#32) * g d

/-- One hidden unit: `gate · sigmoid(gate) · up`. -/
def act (g u : EReal) : EReal := g * Ideal.div 1 (1 + Ideal.exp (0 - g)) * u

/-- One hidden unit of a row `h` with the unit's gate and up weights. -/
def unit (h wg wu : Fin 1024 → EReal) : EReal := act (∑ e, h e * wg e) (∑ e, h e * wu e)

/-- The row that enters the network: normalized, scaled and shifted. -/
def modRow (x s c g : Fin 1024 → EReal) (e : Fin 1024) : EReal := rmsRow x g e * (1 + c e) + s e

/-- A row after the network. -/
def ffnRow (x s c gt npre npost : Fin 1024 → EReal) (wg wu : Fin 1024 → Fin 2816 → EReal) (wo : Fin 2816 → Fin 1024 → EReal) (d : Fin 1024) : EReal :=
  x d + Ideal.ofBits FTy.f32 1056964608#32 * gt d
    * rmsRow (fun d => ∑ f, unit (modRow x s c npre) (fun e => wg e f) (fun e => wu e f) * wo f d) npost d

/-- A row after the mixer's output projection. -/
def mixRow (o x mg mng : Fin 1024 → EReal) (mw : Fin 1024 → Fin 1024 → EReal) (d : Fin 1024) : EReal :=
  x d + mg d * rmsRow (fun d => ∑ e, o e * mw e d) mng d

/-- The contribution of the 256 hidden units from unit `256 j` on. -/
def tile (h : Fin 1024 → EReal) (wg wu : Fin 1024 → Fin 2816 → EReal) (wo : Fin 2816 → Fin 1024 → EReal) (j : Fin 11) (d : Fin 1024) : EReal :=
  ∑ c : Fin 256, unit h (fun e => wg e ⟨256 * j + c, by omega⟩) (fun e => wu e ⟨256 * j + c, by omega⟩) * wo ⟨256 * j + c, by omega⟩ d

theorem sum_tiles (h : Fin 1024 → EReal) (wg wu : Fin 1024 → Fin 2816 → EReal) (wo : Fin 2816 → Fin 1024 → EReal) (d : Fin 1024) :
    tile h wg wu wo 0 d + tile h wg wu wo 1 d + tile h wg wu wo 2 d + tile h wg wu wo 3 d + tile h wg wu wo 4 d + tile h wg wu wo 5 d
      + tile h wg wu wo 6 d + tile h wg wu wo 7 d + tile h wg wu wo 8 d + tile h wg wu wo 9 d + tile h wg wu wo 10 d
      = ∑ f, unit h (fun e => wg e f) (fun e => wu e f) * wo f d := by
  have e : ∑ f : Fin 2816, unit h (fun e => wg e f) (fun e => wu e f) * wo f d = ∑ j : Fin 11, tile h wg wu wo j d := by
    unfold tile
    rw [← Fintype.sum_prod_type']
    refine (Fintype.sum_equiv (finProdFinEquiv (m := 11) (n := 256)) _ _ fun p => ?_).symm
    obtain ⟨j, c⟩ := p
    have hx : (finProdFinEquiv (m := 11) (n := 256) (j, c)) = (⟨256 * (j : ℕ) + c, by omega⟩ : Fin 2816) := by
      apply Fin.ext
      simp [finProdFinEquiv, Nat.add_comm]
    rw [hx]
  rw [e]
  simp only [Fin.sum_univ_succ, Fin.sum_univ_zero, add_zero]
  simp only [add_assoc]
  rfl

/-! ### The two calls' results from their arrays -/

/-- One of the nine rows of 1024 numbers of which a batch entry's modulation is made. -/
def chunkRow (mod : (⟨2, ![2, 9216]⟩ : Shape).Idx → EReal) (b : Fin 2) (k : Fin 9) (e : Fin 1024) : EReal := mod (ix2 b ⟨1024 * k + e, by omega⟩)

theorem chunk_lt (e : Fin 1024) : e.val < 9216 := by omega

theorem chunkRow_zero (mod : (⟨2, ![2, 9216]⟩ : Shape).Idx → EReal) (b : Fin 2) (e : Fin 1024) : chunkRow mod b 0 e = mod (ix2 b ⟨e.val, chunk_lt e⟩) := by
  unfold chunkRow
  congr 2
  exact Fin.ext (by simp)

/-- The gate's and the up projection's weights of hidden unit `f`. -/
def gateW (w : (⟨4, ![2, 2, 1024, 5632]⟩ : Shape).Idx → EReal) (l m : Fin 2) (e : Fin 1024) (f : Fin 2816) : EReal := w (ix4 l m e ⟨f, by omega⟩)
def upW (w : (⟨4, ![2, 2, 1024, 5632]⟩ : Shape).Idx → EReal) (l m : Fin 2) (e : Fin 1024) (f : Fin 2816) : EReal := w (ix4 l m e ⟨2816 + f, by omega⟩)

/-- The call without the mixer, at row `i` of batch entry `b`. -/
def plainAt (x : (⟨3, ![2, 8192, 1024]⟩ : Shape).Idx → EReal) (mod : (⟨2, ![2, 9216]⟩ : Shape).Idx → EReal) (ng : (⟨3, ![2, 6, 1024]⟩ : Shape).Idx → EReal)
    (wi : (⟨4, ![2, 2, 1024, 5632]⟩ : Shape).Idx → EReal) (wo : (⟨4, ![2, 2, 2816, 1024]⟩ : Shape).Idx → EReal) (b : Fin 2) (i : Fin 8192) (d : Fin 1024) : EReal :=
  ffnRow (fun e => x (ix3 b i e)) (chunkRow mod b 0) (chunkRow mod b 1) (chunkRow mod b 2) (fun e => ng (ix3 0 0 e)) (fun e => ng (ix3 0 1 e))
    (gateW wi 0 0) (upW wi 0 0) (fun f d => wo (ix4 0 0 f d)) d

/-- The call with the mixer, at row `i` of batch entry `b`. -/
def mixedAt (o x : (⟨3, ![2, 8192, 1024]⟩ : Shape).Idx → EReal) (mod : (⟨2, ![2, 9216]⟩ : Shape).Idx → EReal) (ng : (⟨3, ![2, 6, 1024]⟩ : Shape).Idx → EReal)
    (wi : (⟨4, ![2, 2, 1024, 5632]⟩ : Shape).Idx → EReal) (wo : (⟨4, ![2, 2, 2816, 1024]⟩ : Shape).Idx → EReal) (pw : (⟨3, ![1, 1024, 1024]⟩ : Shape).Idx → EReal)
    (b : Fin 2) (i : Fin 8192) (d : Fin 1024) : EReal :=
  ffnRow (mixRow (fun e => o (ix3 b i e)) (fun e => x (ix3 b i e)) (chunkRow mod b 5) (fun e => ng (ix3 1 3 e)) (fun e d => pw (ix3 0 e d)))
    (chunkRow mod b 6) (chunkRow mod b 7) (chunkRow mod b 8) (fun e => ng (ix3 1 4 e)) (fun e => ng (ix3 1 5 e))
    (gateW wi 1 1) (upW wi 1 1) (fun f d => wo (ix4 1 1 f d)) d

end Cert.Ffn

end
-- ==== Proof.MixedPay.lean ====
module

public import proofs.«01_k».proof.Proof.Gen.MixedIdeal.Value
public import proofs.«01_k».proof.Proof.FfnMath

/-!
What one grid point of the call with the mixer computes, row by row.
-/

@[expose] public section

set_option maxRecDepth 16384

noncomputable section

namespace Cert.MixedIdeal.Ffn

open Cert.MixedIdeal Cert.MixedIdeal.Gen
open Idealize.ShloMosaic
open Cert.Ffn

/-- The contribution of 256 hidden units, whose weights are given as blocks. -/
def part (h : FVec Ideal S512x1024 .bf16) (g u : Vec Ideal S1x1x1024x256 .bf16) (o : Vec Ideal S1x1x256x1024 .bf16) (r : Fin 512) (d : Fin 1024) : EReal :=
  ∑ c : Fin 256, unit (fun e => h (ix2 r e)) (fun e => g (ix4 0 0 e c)) (fun e => u (ix4 0 0 e c)) * o (ix4 0 0 c d)

theorem pay1_apply (x o : Vec Ideal S1x512x1024 .f32) (mg : Vec Ideal S1x1x1024 .f32) (mw : Vec Ideal S1024x1024 .bf16) (mng : Vec Ideal S1x1024 .f32) (r : Fin 512) (d : Fin 1024) :
    k0_pay1 (F := Ideal) x o mg mw mng (ix3 (0 : Fin 1) r d)
      = mixRow (fun e => o (ix3 0 r e)) (fun e => x (ix3 0 r e)) (fun e => mg (ix3 0 0 e)) (fun e => mng (ix2 0 e)) (fun e d => mw (ix2 e d)) d := by
  pointwise [k0_pay1]
  rfl

theorem pay3_apply (x o : Vec Ideal S1x512x1024 .f32) (mg : Vec Ideal S1x1x1024 .f32) (mw : Vec Ideal S1024x1024 .bf16) (mng : Vec Ideal S1x1024 .f32) (r : Fin 512) :
    k0_pay3 (F := Ideal) x o mg mw mng (ix3 (0 : Fin 1) r (0 : Fin 1))
      = Ideal.div (∑ e : Fin 1024, k0_pay1 (F := Ideal) x o mg mw mng (ix3 (0 : Fin 1) r e) * k0_pay1 (F := Ideal) x o mg mw mng (ix3 (0 : Fin 1) r e)) (Ideal.ofBits FTy.f32 1149239296#32) := by
  pointwise [k0_pay3]

theorem pay5_apply (x o : Vec Ideal S1x512x1024 .f32) (mg : Vec Ideal S1x1x1024 .f32) (mw : Vec Ideal S1024x1024 .bf16) (mng n : Vec Ideal S1x1024 .f32) (c s : Vec Ideal S1x1x1024 .f32) (r : Fin 512) (e : Fin 1024) :
    k0_pay5 (F := Ideal) (k0_pay1 x o mg mw mng) (k0_pay2 n) (k0_pay3 x o mg mw mng) (k0_pay4 (F := Ideal)) c s (ix2 r e)
      = modRow (fun e => k0_pay1 (F := Ideal) x o mg mw mng (ix3 0 r e)) (fun e => s (ix3 0 0 e)) (fun e => c (ix3 0 0 e)) (fun e => n (ix2 0 e)) e := by
  pointwise [k0_pay5, k0_pay2, k0_pay4]
  rw [pay3_apply]
  rfl

theorem pay7_apply (v27 : FVec Ideal S1x512x1024 .f32) (v29 : FVec Ideal S1x1024 .f32) (v34 v35 : FVec Ideal S1x512x1 .f32) (c s : Vec Ideal S1x1x1024 .f32) (g u g1 u1 : Vec Ideal S1x1x1024x256 .bf16) (o o1 : Vec Ideal S1x1x256x1024 .bf16) (r : Fin 512) (d : Fin 1024) :
    k0_pay7 (F := Ideal) (k0_pay5 v27 v29 v34 v35 c s) (k0_pay6 v27 v29 v34 v35 c s g u) o g1 u1 o1 (ix2 r d) = part (k0_pay5 v27 v29 v34 v35 c s) g u o r d + part (k0_pay5 v27 v29 v34 v35 c s) g1 u1 o1 r d := by
  pointwise [k0_pay7, k0_pay6]
  rfl

theorem pay11_apply (h : FVec Ideal S512x1024 .bf16) (a : FVec Ideal S512x1024 .f32) (g u g1 u1 : Vec Ideal S1x1x1024x256 .bf16) (o o1 : Vec Ideal S1x1x256x1024 .bf16) (r : Fin 512) (d : Fin 1024) :
    k0_pay11 (F := Ideal) h a (k0_pay8 h g) (k0_pay9 h u) (k0_pay10 h g) o g1 u1 o1 (ix2 r d) = a (ix2 r d) + part h g u o r d + part h g1 u1 o1 r d := by
  pointwise [k0_pay11, k0_pay8, k0_pay9, k0_pay10]
  rfl

theorem pay12_apply (h : FVec Ideal S512x1024 .bf16) (a : FVec Ideal S512x1024 .f32) (g u : Vec Ideal S1x1x1024x256 .bf16) (o : Vec Ideal S1x1x256x1024 .bf16) (r : Fin 512) (d : Fin 1024) :
    k0_pay12 (F := Ideal) h a g u o (ix2 r d) = a (ix2 r d) + part h g u o r d := by
  pointwise [k0_pay12]
  rfl

theorem pay17_apply (h : FVec Ideal S512x1024 .bf16) (a : FVec Ideal S512x1024 .f32) (g u g1 u1 : Vec Ideal S1x1x1024x256 .bf16) (o o1 : Vec Ideal S1x1x256x1024 .bf16) (r : Fin 512) (d : Fin 1024) :
    k0_pay17 (F := Ideal) h a (k0_pay13 h g) (k0_pay14 h u) (k0_pay15 h g) (k0_pay16 (F := Ideal)) o g1 u1 o1 (ix2 r d) = a (ix2 r d) + part h g u o r d + part h g1 u1 o1 r d := by
  pointwise [k0_pay17, k0_pay13, k0_pay14, k0_pay15, k0_pay16]
  rfl

theorem pay19_apply (h : FVec Ideal S512x1024 .bf16) (a : FVec Ideal S512x1024 .f32) (g u : Vec Ideal S1x1x1024x256 .bf16) (o : Vec Ideal S1x1x256x1024 .bf16) (r : Fin 512) (d : Fin 1024) :
    k0_pay19 (F := Ideal) h a (k0_pay18 h g) u o (ix2 r d) = a (ix2 r d) + part h g u o r d := by
  pointwise [k0_pay19, k0_pay18]
  rfl

theorem pay21_apply (h : FVec Ideal S512x1024 .bf16) (a : FVec Ideal S512x1024 .f32) (g u g1 u1 : Vec Ideal S1x1x1024x256 .bf16) (o o1 : Vec Ideal S1x1x256x1024 .bf16) (r : Fin 512) (d : Fin 1024) :
    k0_pay21 (F := Ideal) h a (k0_pay20 h g u) o g1 u1 o1 (ix2 r d) = a (ix2 r d) + part h g u o r d + part h g1 u1 o1 r d := by
  pointwise [k0_pay21, k0_pay20]
  rfl

theorem pay24_apply (x : FVec Ideal S1x512x1024 .f32) (h : FVec Ideal S512x1024 .bf16) (a : FVec Ideal S512x1024 .f32) (g u : Vec Ideal S1x1x1024x256 .bf16) (o : Vec Ideal S1x1x256x1024 .bf16) (gt : Vec Ideal S1x1x1024 .f32) (n : Vec Ideal S1x1024 .f32) (r : Fin 512) (d : Fin 1024) :
    k0_pay24 (F := Ideal) x h a (k0_pay22 h g) (k0_pay23 u) (constant S512x256 .f32 0x00000000#32) o gt n (ix3 (0 : Fin 1) r d) = x (ix3 0 r d) + Ideal.ofBits FTy.f32 1056964608#32 * gt (ix3 0 0 d) * rmsRow (fun d => a (ix2 r d) + part h g u o r d) (fun d => n (ix2 0 d)) d := by
  pointwise [k0_pay24, k0_pay22, k0_pay23]
  rfl

theorem part0 (h : FVec Ideal S512x1024 .bf16) (wg wu : Vec Ideal S1x1x1024x2816 .bf16) (wo : Vec Ideal S1x1x2816x1024 .bf16) (r : Fin 512) (d : Fin 1024) :
    part h (View.ld wg r0_4) (View.ld wu r0_4) (View.ld wo r0_5) r d
      = tile (fun e => h (ix2 r e)) (fun e f => wg (ix4 0 0 e f)) (fun e f => wu (ix4 0 0 e f)) (fun f d => wo (ix4 0 0 f d)) 0 d := by
  pointwise [part, r0_4, r0_5]
  rfl

theorem part1 (h : FVec Ideal S512x1024 .bf16) (wg wu : Vec Ideal S1x1x1024x2816 .bf16) (wo : Vec Ideal S1x1x2816x1024 .bf16) (r : Fin 512) (d : Fin 1024) :
    part h (View.ld wg r0_6) (View.ld wu r0_6) (View.ld wo r0_7) r d
      = tile (fun e => h (ix2 r e)) (fun e f => wg (ix4 0 0 e f)) (fun e f => wu (ix4 0 0 e f)) (fun f d => wo (ix4 0 0 f d)) 1 d := by
  pointwise [part, r0_6, r0_7]
  rfl

theorem part2 (h : FVec Ideal S512x1024 .bf16) (wg wu : Vec Ideal S1x1x1024x2816 .bf16) (wo : Vec Ideal S1x1x2816x1024 .bf16) (r : Fin 512) (d : Fin 1024) :
    part h (View.ld wg r0_8) (View.ld wu r0_8) (View.ld wo r0_9) r d
      = tile (fun e => h (ix2 r e)) (fun e f => wg (ix4 0 0 e f)) (fun e f => wu (ix4 0 0 e f)) (fun f d => wo (ix4 0 0 f d)) 2 d := by
  pointwise [part, r0_8, r0_9]
  rfl

theorem part3 (h : FVec Ideal S512x1024 .bf16) (wg wu : Vec Ideal S1x1x1024x2816 .bf16) (wo : Vec Ideal S1x1x2816x1024 .bf16) (r : Fin 512) (d : Fin 1024) :
    part h (View.ld wg r0_10) (View.ld wu r0_10) (View.ld wo r0_11) r d
      = tile (fun e => h (ix2 r e)) (fun e f => wg (ix4 0 0 e f)) (fun e f => wu (ix4 0 0 e f)) (fun f d => wo (ix4 0 0 f d)) 3 d := by
  pointwise [part, r0_10, r0_11]
  rfl

theorem part4 (h : FVec Ideal S512x1024 .bf16) (wg wu : Vec Ideal S1x1x1024x2816 .bf16) (wo : Vec Ideal S1x1x2816x1024 .bf16) (r : Fin 512) (d : Fin 1024) :
    part h (View.ld wg r0_12) (View.ld wu r0_12) (View.ld wo r0_13) r d
      = tile (fun e => h (ix2 r e)) (fun e f => wg (ix4 0 0 e f)) (fun e f => wu (ix4 0 0 e f)) (fun f d => wo (ix4 0 0 f d)) 4 d := by
  pointwise [part, r0_12, r0_13]
  rfl

theorem part5 (h : FVec Ideal S512x1024 .bf16) (wg wu : Vec Ideal S1x1x1024x2816 .bf16) (wo : Vec Ideal S1x1x2816x1024 .bf16) (r : Fin 512) (d : Fin 1024) :
    part h (View.ld wg r0_14) (View.ld wu r0_14) (View.ld wo r0_15) r d
      = tile (fun e => h (ix2 r e)) (fun e f => wg (ix4 0 0 e f)) (fun e f => wu (ix4 0 0 e f)) (fun f d => wo (ix4 0 0 f d)) 5 d := by
  pointwise [part, r0_14, r0_15]
  rfl

theorem part6 (h : FVec Ideal S512x1024 .bf16) (wg wu : Vec Ideal S1x1x1024x2816 .bf16) (wo : Vec Ideal S1x1x2816x1024 .bf16) (r : Fin 512) (d : Fin 1024) :
    part h (View.ld wg r0_16) (View.ld wu r0_16) (View.ld wo r0_17) r d
      = tile (fun e => h (ix2 r e)) (fun e f => wg (ix4 0 0 e f)) (fun e f => wu (ix4 0 0 e f)) (fun f d => wo (ix4 0 0 f d)) 6 d := by
  pointwise [part, r0_16, r0_17]
  rfl

theorem part7 (h : FVec Ideal S512x1024 .bf16) (wg wu : Vec Ideal S1x1x1024x2816 .bf16) (wo : Vec Ideal S1x1x2816x1024 .bf16) (r : Fin 512) (d : Fin 1024) :
    part h (View.ld wg r0_18) (View.ld wu r0_18) (View.ld wo r0_19) r d
      = tile (fun e => h (ix2 r e)) (fun e f => wg (ix4 0 0 e f)) (fun e f => wu (ix4 0 0 e f)) (fun f d => wo (ix4 0 0 f d)) 7 d := by
  pointwise [part, r0_18, r0_19]
  rfl

theorem part8 (h : FVec Ideal S512x1024 .bf16) (wg wu : Vec Ideal S1x1x1024x2816 .bf16) (wo : Vec Ideal S1x1x2816x1024 .bf16) (r : Fin 512) (d : Fin 1024) :
    part h (View.ld wg r0_20) (View.ld wu r0_20) (View.ld wo r0_21) r d
      = tile (fun e => h (ix2 r e)) (fun e f => wg (ix4 0 0 e f)) (fun e f => wu (ix4 0 0 e f)) (fun f d => wo (ix4 0 0 f d)) 8 d := by
  pointwise [part, r0_20, r0_21]
  rfl

theorem part9 (h : FVec Ideal S512x1024 .bf16) (wg wu : Vec Ideal S1x1x1024x2816 .bf16) (wo : Vec Ideal S1x1x2816x1024 .bf16) (r : Fin 512) (d : Fin 1024) :
    part h (View.ld wg r0_22) (View.ld wu r0_22) (View.ld wo r0_23) r d
      = tile (fun e => h (ix2 r e)) (fun e f => wg (ix4 0 0 e f)) (fun e f => wu (ix4 0 0 e f)) (fun f d => wo (ix4 0 0 f d)) 9 d := by
  pointwise [part, r0_22, r0_23]
  rfl

theorem part10 (h : FVec Ideal S512x1024 .bf16) (wg wu : Vec Ideal S1x1x1024x2816 .bf16) (wo : Vec Ideal S1x1x2816x1024 .bf16) (r : Fin 512) (d : Fin 1024) :
    part h (View.ld wg r0_24) (View.ld wu r0_24) (View.ld wo r0_25) r d
      = tile (fun e => h (ix2 r e)) (fun e f => wg (ix4 0 0 e f)) (fun e f => wu (ix4 0 0 e f)) (fun f d => wo (ix4 0 0 f d)) 10 d := by
  pointwise [part, r0_24, r0_25]
  rfl

theorem ld_r0 (x : Vec Ideal S1x512x1024 .f32) : View.ld x r0_0 = x := View.ld_unit_zero (by decide) _ x
theorem ld_r1 (x : Vec Ideal S1x1x1024 .f32) : View.ld x r0_1 = x := View.ld_unit_zero (by decide) _ x
theorem ld_r2 (x : Vec Ideal S1024x1024 .bf16) : View.ld x r0_2 = x := View.ld_unit_zero (by decide) _ x
theorem ld_r3 (x : Vec Ideal S1x1024 .f32) : View.ld x r0_3 = x := View.ld_unit_zero (by decide) _ x

/-- The result's block from the blocks of one grid point. -/
theorem out_apply (x0 : Vec Ideal S1x512x1024 .f32) (x1 : Vec Ideal S1x1x1024 .f32) (x2 : Vec Ideal S1x1024 .f32) (x3 : Vec Ideal S1024x1024 .bf16) (x4 : Vec Ideal S1x512x1024 .f32) (x5 x6 x7 : Vec Ideal S1x1x1024 .f32) (x8 x9 : Vec Ideal S1x1024 .f32) (x10 x11 : Vec Ideal S1x1x1024x2816 .bf16) (x12 : Vec Ideal S1x1x2816x1024 .bf16) (r : Fin 512) (d : Fin 1024) :
    out0_13 (F := Ideal) x0 x1 x2 x3 x4 x5 x6 x7 x8 x9 x10 x11 x12 (ix3 (0 : Fin 1) r d)
      = ffnRow (mixRow (fun e => x0 (ix3 0 r e)) (fun e => x4 (ix3 0 r e)) (fun e => x1 (ix3 0 0 e)) (fun e => x2 (ix2 0 e)) (fun e d => x3 (ix2 e d)))
          (fun e => x5 (ix3 0 0 e)) (fun e => x6 (ix3 0 0 e)) (fun e => x7 (ix3 0 0 e)) (fun e => x8 (ix2 0 e)) (fun e => x9 (ix2 0 e))
          (fun e f => x10 (ix4 0 0 e f)) (fun e f => x11 (ix4 0 0 e f)) (fun f d => x12 (ix4 0 0 f d)) d := by
  have hx : ∀ e, k0_pay25 (F := Ideal) x0 x1 x2 x3 x4 x5 x6 x7 x8 x9 x10 x11 x12 (ix3 0 r e)
      = mixRow (fun e => x0 (ix3 0 r e)) (fun e => x4 (ix3 0 r e)) (fun e => x1 (ix3 0 0 e)) (fun e => x2 (ix2 0 e)) (fun e d => x3 (ix2 e d)) e := by
    intro e
    unfold k0_pay25
    rw [ld_r0 x4, ld_r0 x0, ld_r1 x1, ld_r2 x3, ld_r3 x2, pay1_apply]
  have hh : ∀ e, k0_pay29 (F := Ideal) x0 x1 x2 x3 x4 x5 x6 x7 x8 x9 x10 x11 x12 (ix2 r e)
      = modRow (mixRow (fun e => x0 (ix3 0 r e)) (fun e => x4 (ix3 0 r e)) (fun e => x1 (ix3 0 0 e)) (fun e => x2 (ix2 0 e)) (fun e d => x3 (ix2 e d)))
          (fun e => x5 (ix3 0 0 e)) (fun e => x6 (ix3 0 0 e)) (fun e => x8 (ix2 0 e)) e := by
    intro e
    have hx' := funext hx
    unfold k0_pay25 at hx'
    unfold k0_pay29 k0_pay25 k0_pay26 k0_pay27 k0_pay28
    rw [ld_r3 x8, ld_r1 x6, ld_r1 x5, pay5_apply, hx']
  have h7 : ∀ d, k0_pay7 (F := Ideal) (k0_pay29 x0 x1 x2 x3 x4 x5 x6 x7 x8 x9 x10 x11 x12) (k0_pay6 (k0_pay25 x0 x1 x2 x3 x4 x5 x6 x7 x8 x9 x10 x11 x12) (k0_pay26 x0 x1 x2 x3 x4 x5 x6 x7 x8 x9 x10 x11 x12) (k0_pay27 x0 x1 x2 x3 x4 x5 x6 x7 x8 x9 x10 x11 x12) (k0_pay28 x0 x1 x2 x3 x4 x5 x6 x7 x8 x9 x10 x11 x12) (View.ld x6 r0_1) (View.ld x5 r0_1) (View.ld x10 r0_4) (View.ld x11 r0_4)) (View.ld x12 r0_5) (View.ld x10 r0_6) (View.ld x11 r0_6) (View.ld x12 r0_7) (ix2 r d)
      = part (k0_pay29 x0 x1 x2 x3 x4 x5 x6 x7 x8 x9 x10 x11 x12) (View.ld x10 r0_4) (View.ld x11 r0_4) (View.ld x12 r0_5) r d + part (k0_pay29 x0 x1 x2 x3 x4 x5 x6 x7 x8 x9 x10 x11 x12) (View.ld x10 r0_6) (View.ld x11 r0_6) (View.ld x12 r0_7) r d :=
    fun d => pay7_apply _ _ _ _ _ _ _ _ _ _ _ _ r d
  unfold out0_13
  rw [View.canon_unit_zero (by decide), pay24_apply, hx, ld_r1, ld_r3]
  simp only [pay21_apply, pay19_apply, pay17_apply, pay12_apply, pay11_apply, h7]
  simp only [part0, part1, part2, part3, part4, part5, part6, part7, part8, part9, part10, hh, sum_tiles]
  rfl

end Cert.MixedIdeal.Ffn

end
-- ==== Proof.MixedValue.lean ====
module

public import proofs.«01_k».proof.Proof.MixedPay
public import Idealize.ShloMosaic.Lib.Pipeline.Value
public import Idealize.ShloMosaic.Lib.Pipeline.ValueKit
public import Idealize.ShloMosaic.Lib.Pipeline.Covers
public import Idealize.ShloMosaic.Lib.StableHlo.RunRead

/-!
The result array of the call with the mixer: what the host operations hand the kernel, which block of it each grid point
reads, and the result's blocks put together.
-/

@[expose] public section

set_option maxRecDepth 16384

noncomputable section

namespace Cert.MixedIdeal.Ffn

open Cert.MixedIdeal Cert.MixedIdeal.Gen
open Idealize.ShloMosaic Idealize.ShloMosaic.TcCoe Idealize.SL.Sem
open Idealize.ShloMosaic.Pipeline (Dat Window)
open Cert.Ffn

variable (m : (ℓ : Loc nD τ sig) → Buf (Elt Ideal) ℓ) (ρ : Dev nD → PrngReg)

/-! ### What the kernel is handed -/

theorem V_main_arg0 (c : Dev nD) : V m c main_arg0 = m ((c : Thread nD τ).loc main_arg0) := by
  unfold V; after_reads_simp <;> rfl
theorem V_main_v11 (c : Dev nD) : V m c main_v11 = broadcastInDim S2x1x1024 ![0, 2] bcast_S2x1024_S2x1x1024_0_2 (extractStridedSlice S2x1024 ![0, 5120] (m ((c : Thread nD τ).loc main_arg2)) slices_S2x9216_S2x1024_0_5120) := by
  unfold V; after_reads_simp <;> rfl
theorem V_main_v30 (c : Dev nD) : V m c main_v30 = shapeCast S1x1024 (shapeCast S1024 (extractStridedSlice S1x1024 ![3, 0] (shapeCast S6x1024 (extractStridedSlice S1x6x1024 ![1, 0, 0] (m ((c : Thread nD τ).loc main_arg3)) slices_S2x6x1024_S1x6x1024_1_0_0) shapeCasts_S1x6x1024_S6x1024) slices_S6x1024_S1x1024_3_0) shapeCasts_S1x1024_S1024) shapeCasts_S1024_S1x1024 := by
  unfold V; after_reads_simp <;> rfl
theorem V_main_v32 (c : Dev nD) : V m c main_v32 = (truncf (F := Ideal) .bf16 (shapeCast S1024x1024 (m ((c : Thread nD τ).loc main_arg6)) shapeCasts_S1x1024x1024_S1024x1024) bitsLt_bf16_f32 : FVec Ideal S1024x1024 .bf16) := by
  unfold V; after_reads_simp <;> rfl
theorem V_main_arg1 (c : Dev nD) : V m c main_arg1 = m ((c : Thread nD τ).loc main_arg1) := by
  unfold V; after_reads_simp <;> rfl
theorem V_main_v13 (c : Dev nD) : V m c main_v13 = broadcastInDim S2x1x1024 ![0, 2] bcast_S2x1024_S2x1x1024_0_2 (extractStridedSlice S2x1024 ![0, 6144] (m ((c : Thread nD τ).loc main_arg2)) slices_S2x9216_S2x1024_0_6144) := by
  unfold V; after_reads_simp <;> rfl
theorem V_main_v15 (c : Dev nD) : V m c main_v15 = broadcastInDim S2x1x1024 ![0, 2] bcast_S2x1024_S2x1x1024_0_2 (extractStridedSlice S2x1024 ![0, 7168] (m ((c : Thread nD τ).loc main_arg2)) slices_S2x9216_S2x1024_0_7168) := by
  unfold V; after_reads_simp <;> rfl
theorem V_main_v17 (c : Dev nD) : V m c main_v17 = broadcastInDim S2x1x1024 ![0, 2] bcast_S2x1024_S2x1x1024_0_2 (extractStridedSlice S2x1024 ![0, 8192] (m ((c : Thread nD τ).loc main_arg2)) slices_S2x9216_S2x1024_0_8192) := by
  unfold V; after_reads_simp <;> rfl
theorem V_main_v22 (c : Dev nD) : V m c main_v22 = shapeCast S1x1024 (shapeCast S1024 (extractStridedSlice S1x1024 ![4, 0] (shapeCast S6x1024 (extractStridedSlice S1x6x1024 ![1, 0, 0] (m ((c : Thread nD τ).loc main_arg3)) slices_S2x6x1024_S1x6x1024_1_0_0) shapeCasts_S1x6x1024_S6x1024) slices_S6x1024_S1x1024_4_0) shapeCasts_S1x1024_S1024) shapeCasts_S1024_S1x1024 := by
  unfold V; after_reads_simp <;> rfl
theorem V_main_v25 (c : Dev nD) : V m c main_v25 = shapeCast S1x1024 (shapeCast S1024 (extractStridedSlice S1x1024 ![5, 0] (shapeCast S6x1024 (extractStridedSlice S1x6x1024 ![1, 0, 0] (m ((c : Thread nD τ).loc main_arg3)) slices_S2x6x1024_S1x6x1024_1_0_0) shapeCasts_S1x6x1024_S6x1024) slices_S6x1024_S1x1024_5_0) shapeCasts_S1x1024_S1024) shapeCasts_S1024_S1x1024 := by
  unfold V; after_reads_simp <;> rfl
theorem V_main_v26 (c : Dev nD) : V m c main_v26 = (truncf (F := Ideal) .bf16 (m ((c : Thread nD τ).loc main_arg4)) bitsLt_bf16_f32 : FVec Ideal S2x2x1024x5632 .bf16) := by
  unfold V; after_reads_simp <;> rfl
theorem V_main_v27 (c : Dev nD) : V m c main_v27 = (truncf (F := Ideal) .bf16 (m ((c : Thread nD τ).loc main_arg5)) bitsLt_bf16_f32 : FVec Ideal S2x2x2816x1024 .bf16) := by
  unfold V; after_reads_simp <;> rfl

theorem mod5 (x : FVec Ideal S2x9216 .f32) (b : Fin 2) (e : Fin 1024) :
    broadcastInDim S2x1x1024 ![0, 2] bcast_S2x1024_S2x1x1024_0_2 (extractStridedSlice S2x1024 ![0, 5120] x slices_S2x9216_S2x1024_0_5120) (ix3 b (0 : Fin 1) e) = chunkRow x b 5 e := by
  pointwise []
  rfl
theorem mod6 (x : FVec Ideal S2x9216 .f32) (b : Fin 2) (e : Fin 1024) :
    broadcastInDim S2x1x1024 ![0, 2] bcast_S2x1024_S2x1x1024_0_2 (extractStridedSlice S2x1024 ![0, 6144] x slices_S2x9216_S2x1024_0_6144) (ix3 b (0 : Fin 1) e) = chunkRow x b 6 e := by
  pointwise []
  rfl
theorem mod7 (x : FVec Ideal S2x9216 .f32) (b : Fin 2) (e : Fin 1024) :
    broadcastInDim S2x1x1024 ![0, 2] bcast_S2x1024_S2x1x1024_0_2 (extractStridedSlice S2x1024 ![0, 7168] x slices_S2x9216_S2x1024_0_7168) (ix3 b (0 : Fin 1) e) = chunkRow x b 7 e := by
  pointwise []
  rfl
theorem mod8 (x : FVec Ideal S2x9216 .f32) (b : Fin 2) (e : Fin 1024) :
    broadcastInDim S2x1x1024 ![0, 2] bcast_S2x1024_S2x1x1024_0_2 (extractStridedSlice S2x1024 ![0, 8192] x slices_S2x9216_S2x1024_0_8192) (ix3 b (0 : Fin 1) e) = chunkRow x b 8 e := by
  pointwise []
  rfl
theorem norm3 (x : FVec Ideal S2x6x1024 .f32) (e : Fin 1024) :
    shapeCast S1x1024 (shapeCast S1024 (extractStridedSlice S1x1024 ![3, 0] (shapeCast S6x1024 (extractStridedSlice S1x6x1024 ![1, 0, 0] x slices_S2x6x1024_S1x6x1024_1_0_0) shapeCasts_S1x6x1024_S6x1024) slices_S6x1024_S1x1024_3_0) shapeCasts_S1x1024_S1024) shapeCasts_S1024_S1x1024 (ix2 (0 : Fin 1) e) = x (ix3 1 3 e) := by
  pointwise []
theorem norm4 (x : FVec Ideal S2x6x1024 .f32) (e : Fin 1024) :
    shapeCast S1x1024 (shapeCast S1024 (extractStridedSlice S1x1024 ![4, 0] (shapeCast S6x1024 (extractStridedSlice S1x6x1024 ![1, 0, 0] x slices_S2x6x1024_S1x6x1024_1_0_0) shapeCasts_S1x6x1024_S6x1024) slices_S6x1024_S1x1024_4_0) shapeCasts_S1x1024_S1024) shapeCasts_S1024_S1x1024 (ix2 (0 : Fin 1) e) = x (ix3 1 4 e) := by
  pointwise []
theorem norm5 (x : FVec Ideal S2x6x1024 .f32) (e : Fin 1024) :
    shapeCast S1x1024 (shapeCast S1024 (extractStridedSlice S1x1024 ![5, 0] (shapeCast S6x1024 (extractStridedSlice S1x6x1024 ![1, 0, 0] x slices_S2x6x1024_S1x6x1024_1_0_0) shapeCasts_S1x6x1024_S6x1024) slices_S6x1024_S1x1024_5_0) shapeCasts_S1x1024_S1024) shapeCasts_S1024_S1x1024 (ix2 (0 : Fin 1) e) = x (ix3 1 5 e) := by
  pointwise []
theorem proj (x : FVec Ideal S1x1024x1024 .f32) (e d : Fin 1024) :
    (truncf (F := Ideal) .bf16 (shapeCast S1024x1024 x shapeCasts_S1x1024x1024_S1024x1024) bitsLt_bf16_f32 : FVec Ideal S1024x1024 .bf16) (ix2 e d) = x (ix3 (0 : Fin 1) e d) := by
  pointwise []
theorem trunc_at {s : Shape} (x : FVec Ideal s .f32) (j : s.Idx) : truncf (F := Ideal) .bf16 x bitsLt_bf16_f32 j = x j := rfl

/-! ### Which block a grid point reads -/

/-- The batch entry and the row block of a grid point. -/
abbrev bAt (t : Fin cfg0.N) : Fin 2 := ⟨(grid0.coords t 0).val, (grid0.coords t 0).isLt⟩
theorem row_lt (t : Fin cfg0.N) (r : Fin 512) : 512 * (grid0.coords t 1).val + r.val < 8192 := by
  have h : (grid0.coords t 1).val < 16 := (grid0.coords t 1).isLt
  omega
abbrev rowAt (t : Fin cfg0.N) (r : Fin 512) : Fin 8192 := ⟨512 * (grid0.coords t 1).val + r.val, row_lt t r⟩
theorem up_lt (f : Fin 2816) : 2816 + f.val < 5632 := by omega
theorem gate_lt (f : Fin 2816) : f.val < 5632 := by omega

theorem index0 : ∀ t : Fin grid0.N, cc0_transform_0 (grid0.coords t) = ![(grid0.coords t 0).val, (grid0.coords t 1).val, 0] := by decide +kernel
theorem emb0 (t : Fin cfg0.N) (r : Fin 512) (e : Fin 1024) : (win0_0.rect t).emb (ix3 (0 : Fin 1) r e) = ix3 (bAt t) (rowAt t r) e := by
  have h := index0 t
  funext a
  refine Fin.ext ((win0_0.rect_emb_val t _ a).trans ?_)
  show cc0_transform_0 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem blk0 (c : Dev nD) (t : Fin cfg0.N) (r : Fin 512) (e : Fin 1024) : iblk m c 0 t (ix3 (0 : Fin 1) r e) = m ((c : Thread nD τ).loc main_arg0) (ix3 (bAt t) (rowAt t r) e) := by
  refine Eq.trans (show _ = V m c main_arg0 ((win0_0.rect t).emb (ix3 (0 : Fin 1) r e)) from rfl) ?_
  rw [emb0, V_main_arg0]

theorem index1 : ∀ t : Fin grid0.N, cc0_transform_1 (grid0.coords t) = ![(grid0.coords t 0).val, 0, 0] := by decide +kernel
theorem emb1 (t : Fin cfg0.N) (e : Fin 1024) : (win0_1.rect t).emb (ix3 (0 : Fin 1) (0 : Fin 1) e) = ix3 (bAt t) (0 : Fin 1) e := by
  have h := index1 t
  funext a
  refine Fin.ext ((win0_1.rect_emb_val t _ a).trans ?_)
  show cc0_transform_1 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk1 (c : Dev nD) (t : Fin cfg0.N) (e : Fin 1024) : iblk m c 1 t (ix3 (0 : Fin 1) (0 : Fin 1) e) = chunkRow (m ((c : Thread nD τ).loc main_arg2)) (bAt t) 5 e := by
  refine Eq.trans (show _ = V m c main_v11 ((win0_1.rect t).emb (ix3 (0 : Fin 1) (0 : Fin 1) e)) from rfl) ?_
  rw [emb1, V_main_v11]
  exact mod5 _ _ e

theorem index2 : ∀ t : Fin grid0.N, cc0_transform_2 (grid0.coords t) = ![0, 0] := by decide +kernel
theorem emb2 (t : Fin cfg0.N) (e : Fin 1024) : (win0_2.rect t).emb (ix2 (0 : Fin 1) e) = ix2 (0 : Fin 1) e := by
  have h := index2 t
  funext a
  refine Fin.ext ((win0_2.rect_emb_val t _ a).trans ?_)
  show cc0_transform_2 (grid0.coords t) a * S1x1024.size a + _ = _
  rw [h]
  match a with
  | 0 => rfl
  | 1 => show 0 * 1024 + e.val = e.val; omega
theorem blk2 (c : Dev nD) (t : Fin cfg0.N) (e : Fin 1024) : iblk m c 2 t (ix2 (0 : Fin 1) e) = m ((c : Thread nD τ).loc main_arg3) (ix3 1 3 e) := by
  refine Eq.trans (show _ = V m c main_v30 ((win0_2.rect t).emb (ix2 (0 : Fin 1) e)) from rfl) ?_
  rw [emb2, V_main_v30]
  exact norm3 _ e

theorem index3 : ∀ t : Fin grid0.N, cc0_transform_3 (grid0.coords t) = ![0, 0] := by decide +kernel
theorem emb3 (t : Fin cfg0.N) (e d : Fin 1024) : (win0_3.rect t).emb (ix2 e d) = ix2 e d := by
  have h := index3 t
  funext a
  refine Fin.ext ((win0_3.rect_emb_val t _ a).trans ?_)
  show cc0_transform_3 (grid0.coords t) a * S1024x1024.size a + _ = _
  rw [h]
  match a with
  | 0 => show 0 * 1024 + e.val = e.val; omega
  | 1 => show 0 * 1024 + d.val = d.val; omega
theorem blk3 (c : Dev nD) (t : Fin cfg0.N) (e d : Fin 1024) : iblk m c 3 t (ix2 e d) = m ((c : Thread nD τ).loc main_arg6) (ix3 (0 : Fin 1) e d) := by
  refine Eq.trans (show _ = V m c main_v32 ((win0_3.rect t).emb (ix2 e d)) from rfl) ?_
  rw [emb3, V_main_v32]
  exact proj _ e d

theorem index4 : ∀ t : Fin grid0.N, cc0_transform_4 (grid0.coords t) = ![(grid0.coords t 0).val, (grid0.coords t 1).val, 0] := by decide +kernel
theorem emb4 (t : Fin cfg0.N) (r : Fin 512) (e : Fin 1024) : (win0_4.rect t).emb (ix3 (0 : Fin 1) r e) = ix3 (bAt t) (rowAt t r) e := by
  have h := index4 t
  funext a
  refine Fin.ext ((win0_4.rect_emb_val t _ a).trans ?_)
  show cc0_transform_4 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem blk4 (c : Dev nD) (t : Fin cfg0.N) (r : Fin 512) (e : Fin 1024) : iblk m c 4 t (ix3 (0 : Fin 1) r e) = m ((c : Thread nD τ).loc main_arg1) (ix3 (bAt t) (rowAt t r) e) := by
  refine Eq.trans (show _ = V m c main_arg1 ((win0_4.rect t).emb (ix3 (0 : Fin 1) r e)) from rfl) ?_
  rw [emb4, V_main_arg1]

theorem index5 : ∀ t : Fin grid0.N, cc0_transform_5 (grid0.coords t) = ![(grid0.coords t 0).val, 0, 0] := by decide +kernel
theorem emb5 (t : Fin cfg0.N) (e : Fin 1024) : (win0_5.rect t).emb (ix3 (0 : Fin 1) (0 : Fin 1) e) = ix3 (bAt t) (0 : Fin 1) e := by
  have h := index5 t
  funext a
  refine Fin.ext ((win0_5.rect_emb_val t _ a).trans ?_)
  show cc0_transform_5 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk5 (c : Dev nD) (t : Fin cfg0.N) (e : Fin 1024) : iblk m c 5 t (ix3 (0 : Fin 1) (0 : Fin 1) e) = chunkRow (m ((c : Thread nD τ).loc main_arg2)) (bAt t) 6 e := by
  refine Eq.trans (show _ = V m c main_v13 ((win0_5.rect t).emb (ix3 (0 : Fin 1) (0 : Fin 1) e)) from rfl) ?_
  rw [emb5, V_main_v13]
  exact mod6 _ _ e

theorem index6 : ∀ t : Fin grid0.N, cc0_transform_6 (grid0.coords t) = ![(grid0.coords t 0).val, 0, 0] := by decide +kernel
theorem emb6 (t : Fin cfg0.N) (e : Fin 1024) : (win0_6.rect t).emb (ix3 (0 : Fin 1) (0 : Fin 1) e) = ix3 (bAt t) (0 : Fin 1) e := by
  have h := index6 t
  funext a
  refine Fin.ext ((win0_6.rect_emb_val t _ a).trans ?_)
  show cc0_transform_6 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk6 (c : Dev nD) (t : Fin cfg0.N) (e : Fin 1024) : iblk m c 6 t (ix3 (0 : Fin 1) (0 : Fin 1) e) = chunkRow (m ((c : Thread nD τ).loc main_arg2)) (bAt t) 7 e := by
  refine Eq.trans (show _ = V m c main_v15 ((win0_6.rect t).emb (ix3 (0 : Fin 1) (0 : Fin 1) e)) from rfl) ?_
  rw [emb6, V_main_v15]
  exact mod7 _ _ e

theorem index7 : ∀ t : Fin grid0.N, cc0_transform_7 (grid0.coords t) = ![(grid0.coords t 0).val, 0, 0] := by decide +kernel
theorem emb7 (t : Fin cfg0.N) (e : Fin 1024) : (win0_7.rect t).emb (ix3 (0 : Fin 1) (0 : Fin 1) e) = ix3 (bAt t) (0 : Fin 1) e := by
  have h := index7 t
  funext a
  refine Fin.ext ((win0_7.rect_emb_val t _ a).trans ?_)
  show cc0_transform_7 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk7 (c : Dev nD) (t : Fin cfg0.N) (e : Fin 1024) : iblk m c 7 t (ix3 (0 : Fin 1) (0 : Fin 1) e) = chunkRow (m ((c : Thread nD τ).loc main_arg2)) (bAt t) 8 e := by
  refine Eq.trans (show _ = V m c main_v17 ((win0_7.rect t).emb (ix3 (0 : Fin 1) (0 : Fin 1) e)) from rfl) ?_
  rw [emb7, V_main_v17]
  exact mod8 _ _ e

theorem index8 : ∀ t : Fin grid0.N, cc0_transform_8 (grid0.coords t) = ![0, 0] := by decide +kernel
theorem emb8 (t : Fin cfg0.N) (e : Fin 1024) : (win0_8.rect t).emb (ix2 (0 : Fin 1) e) = ix2 (0 : Fin 1) e := by
  have h := index8 t
  funext a
  refine Fin.ext ((win0_8.rect_emb_val t _ a).trans ?_)
  show cc0_transform_8 (grid0.coords t) a * S1x1024.size a + _ = _
  rw [h]
  match a with
  | 0 => rfl
  | 1 => show 0 * 1024 + e.val = e.val; omega
theorem blk8 (c : Dev nD) (t : Fin cfg0.N) (e : Fin 1024) : iblk m c 8 t (ix2 (0 : Fin 1) e) = m ((c : Thread nD τ).loc main_arg3) (ix3 1 4 e) := by
  refine Eq.trans (show _ = V m c main_v22 ((win0_8.rect t).emb (ix2 (0 : Fin 1) e)) from rfl) ?_
  rw [emb8, V_main_v22]
  exact norm4 _ e

theorem index9 : ∀ t : Fin grid0.N, cc0_transform_9 (grid0.coords t) = ![0, 0] := by decide +kernel
theorem emb9 (t : Fin cfg0.N) (e : Fin 1024) : (win0_9.rect t).emb (ix2 (0 : Fin 1) e) = ix2 (0 : Fin 1) e := by
  have h := index9 t
  funext a
  refine Fin.ext ((win0_9.rect_emb_val t _ a).trans ?_)
  show cc0_transform_9 (grid0.coords t) a * S1x1024.size a + _ = _
  rw [h]
  match a with
  | 0 => rfl
  | 1 => show 0 * 1024 + e.val = e.val; omega
theorem blk9 (c : Dev nD) (t : Fin cfg0.N) (e : Fin 1024) : iblk m c 9 t (ix2 (0 : Fin 1) e) = m ((c : Thread nD τ).loc main_arg3) (ix3 1 5 e) := by
  refine Eq.trans (show _ = V m c main_v25 ((win0_9.rect t).emb (ix2 (0 : Fin 1) e)) from rfl) ?_
  rw [emb9, V_main_v25]
  exact norm5 _ e

theorem index10 : ∀ t : Fin grid0.N, cc0_transform_10 (grid0.coords t) = ![1, 1, 0, 0] := by decide +kernel
theorem emb10 (t : Fin cfg0.N) (e : Fin 1024) (f : Fin 2816) : (win0_10.rect t).emb (ix4 (0 : Fin 1) (0 : Fin 1) e f) = ix4 (1 : Fin 2) (1 : Fin 2) e ⟨f.val, gate_lt f⟩ := by
  have h := index10 t
  funext a
  refine Fin.ext ((win0_10.rect_emb_val t _ a).trans ?_)
  show cc0_transform_10 (grid0.coords t) a * S1x1x1024x2816.size a + _ = _
  rw [h]
  match a with
  | 0 => rfl
  | 1 => rfl
  | 2 => show 0 * 1024 + e.val = e.val; omega
  | 3 => show 0 * 2816 + f.val = f.val; omega
theorem blk10 (c : Dev nD) (t : Fin cfg0.N) (e : Fin 1024) (f : Fin 2816) : iblk m c 10 t (ix4 (0 : Fin 1) (0 : Fin 1) e f) = gateW (m ((c : Thread nD τ).loc main_arg4)) 1 1 e f := by
  refine Eq.trans (show _ = V m c main_v26 ((win0_10.rect t).emb (ix4 (0 : Fin 1) (0 : Fin 1) e f)) from rfl) ?_
  rw [emb10, V_main_v26, trunc_at]
  rfl

theorem index11 : ∀ t : Fin grid0.N, cc0_transform_11 (grid0.coords t) = ![1, 1, 0, 1] := by decide +kernel
theorem emb11 (t : Fin cfg0.N) (e : Fin 1024) (f : Fin 2816) : (win0_11.rect t).emb (ix4 (0 : Fin 1) (0 : Fin 1) e f) = ix4 (1 : Fin 2) (1 : Fin 2) e ⟨2816 + f.val, up_lt f⟩ := by
  have h := index11 t
  funext a
  refine Fin.ext ((win0_11.rect_emb_val t _ a).trans ?_)
  show cc0_transform_11 (grid0.coords t) a * S1x1x1024x2816.size a + _ = _
  rw [h]
  match a with
  | 0 => rfl
  | 1 => rfl
  | 2 => show 0 * 1024 + e.val = e.val; omega
  | 3 => show 1 * 2816 + f.val = 2816 + f.val; omega
theorem blk11 (c : Dev nD) (t : Fin cfg0.N) (e : Fin 1024) (f : Fin 2816) : iblk m c 11 t (ix4 (0 : Fin 1) (0 : Fin 1) e f) = upW (m ((c : Thread nD τ).loc main_arg4)) 1 1 e f := by
  refine Eq.trans (show _ = V m c main_v26 ((win0_11.rect t).emb (ix4 (0 : Fin 1) (0 : Fin 1) e f)) from rfl) ?_
  rw [emb11, V_main_v26, trunc_at]
  rfl

theorem index12 : ∀ t : Fin grid0.N, cc0_transform_12 (grid0.coords t) = ![1, 1, 0, 0] := by decide +kernel
theorem emb12 (t : Fin cfg0.N) (f : Fin 2816) (d : Fin 1024) : (win0_12.rect t).emb (ix4 (0 : Fin 1) (0 : Fin 1) f d) = ix4 (1 : Fin 2) (1 : Fin 2) f d := by
  have h := index12 t
  funext a
  refine Fin.ext ((win0_12.rect_emb_val t _ a).trans ?_)
  show cc0_transform_12 (grid0.coords t) a * S1x1x2816x1024.size a + _ = _
  rw [h]
  match a with
  | 0 => rfl
  | 1 => rfl
  | 2 => show 0 * 2816 + f.val = f.val; omega
  | 3 => show 0 * 1024 + d.val = d.val; omega
theorem blk12 (c : Dev nD) (t : Fin cfg0.N) (f : Fin 2816) (d : Fin 1024) : iblk m c 12 t (ix4 (0 : Fin 1) (0 : Fin 1) f d) = m ((c : Thread nD τ).loc main_arg5) (ix4 1 1 f d) := by
  refine Eq.trans (show _ = V m c main_v27 ((win0_12.rect t).emb (ix4 (0 : Fin 1) (0 : Fin 1) f d)) from rfl) ?_
  rw [emb12, V_main_v27, trunc_at]

theorem index13 : ∀ t : Fin grid0.N, cc0_transform_13 (grid0.coords t) = ![(grid0.coords t 0).val, (grid0.coords t 1).val, 0] := by decide +kernel
theorem emb13 (t : Fin cfg0.N) (r : Fin 512) (e : Fin 1024) : (win0_13.rect t).emb (ix3 (0 : Fin 1) r e) = ix3 (bAt t) (rowAt t r) e := by
  have h := index13 t
  funext a
  refine Fin.ext ((win0_13.rect_emb_val t _ a).trans ?_)
  show cc0_transform_13 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega

/-! ### The result -/

/-- The result array. -/
def wanted (c : Dev nD) : Buf (Elt Ideal) ((c : Thread nD τ).loc main_v33) := fun y : S2x8192x1024.Idx =>
  mixedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) (y 2)

theorem out_eq (c : Dev nD) (t : Fin cfg0.N) (r : Fin 512) (d : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r d) = wanted m c ((win0_13.rect t).emb (ix3 (0 : Fin 1) r d)) := by
  rw [emb13, out_apply]
  simp only [blk0, blk1, blk2, blk3, blk4, blk5, blk6, blk7, blk8, blk9, blk10, blk11, blk12]
  rfl

theorem flushed_eq (c : Dev nD) (t : Fin cfg0.N) :
    (dats m 0 c).flushed 13 t = (win0_13.blk t).view.read (Elt Ideal) (wanted m c) := by
  show (cfg0.win 13).cut (grid0.coords t) ((dats m 0 c).after 13 t) = _
  rw [after0_13]
  funext y
  have e : y = ix3 (0 : Fin 1) (y 1) (y 2) := by
    funext a
    match a with
    | 0 => exact Subsingleton.elim (α := Fin 1) _ _
    | 1 => rfl
    | 2 => rfl
  rw [e]
  exact out_eq m c t (y 1) (y 2)

theorem covers : win0_13.Covers := by decide +kernel

theorem final (c : Dev nD) : (dats m 0 c).arrAt 13 cfg0.N = wanted m c :=
  Dat.arrAt_eq_of_cover (dats m 0 c) 13 (wanted m c) (fun t _ => flushed_eq m c t)
    (fun i => Window.Covers.cover (w := win0_13) covers (Memref.isWhole_whole _) i)

end Cert.MixedIdeal.Ffn

end
-- ==== Proof.MixedRefVals.lean ====
module

public import proofs.«01_k».proof.Proof.Gen.MixedRefIdeal.Run
public import proofs.«01_k».proof.Proof.FfnMath

/-!
What the reference of the call with the mixer computes, at an index.
-/

@[expose] public section

set_option maxRecDepth 16384

noncomputable section

namespace Cert.MixedRefIdeal.Ffn

open Cert.MixedRefIdeal Cert.MixedRefIdeal.Gen
open Idealize.ShloMosaic Idealize.ShloMosaic.TcCoe Idealize.SL.Sem
open Cert.Ffn

/-- The root-mean-square normalization along the last axis. -/
def rms (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem rms_apply (x : FVec Ideal S2x8192x1024 .f32) (g : FVec Ideal S1024 .f32) (b : Fin 2) (i : Fin 8192) (d : Fin 1024) :
    rms x g (ix3 b i d) = rmsRow (fun e => x (ix3 b i e)) (fun e => g (ix1 e)) d := by
  pointwise [rms]
  rfl

/-- The modulation with a row axis. -/
def wide (mod : FVec Ideal S2x9216 .f32) : FVec Ideal S2x1x9216 .f32 := broadcastInDim S2x1x9216 ![0, 2] bcast_S2x9216_S2x1x9216_0_2 mod

/-- The second layer's norm weights. -/
def norms (ng : FVec Ideal S2x6x1024 .f32) : FVec Ideal S6x1024 .f32 :=
  shapeCast S6x1024 (extractStridedSlice S1x6x1024 ![1, 0, 0] ng slices_S2x6x1024_S1x6x1024_1_0_0) shapeCasts_S1x6x1024_S6x1024

def norm3 (ng : FVec Ideal S2x6x1024 .f32) : FVec Ideal S1024 .f32 := shapeCast S1024 (extractStridedSlice S1x1024 ![3, 0] (norms ng) slices_S6x1024_S1x1024_3_0) shapeCasts_S1x1024_S1024
def norm4 (ng : FVec Ideal S2x6x1024 .f32) : FVec Ideal S1024 .f32 := shapeCast S1024 (extractStridedSlice S1x1024 ![4, 0] (norms ng) slices_S6x1024_S1x1024_4_0) shapeCasts_S1x1024_S1024
def norm5 (ng : FVec Ideal S2x6x1024 .f32) : FVec Ideal S1024 .f32 := shapeCast S1024 (extractStridedSlice S1x1024 ![5, 0] (norms ng) slices_S6x1024_S1x1024_5_0) shapeCasts_S1x1024_S1024

theorem norm3_apply (ng : FVec Ideal S2x6x1024 .f32) (e : Fin 1024) : norm3 ng (ix1 e) = ng (ix3 1 3 e) := by pointwise [norm3, norms]
theorem norm4_apply (ng : FVec Ideal S2x6x1024 .f32) (e : Fin 1024) : norm4 ng (ix1 e) = ng (ix3 1 4 e) := by pointwise [norm4, norms]
theorem norm5_apply (ng : FVec Ideal S2x6x1024 .f32) (e : Fin 1024) : norm5 ng (ix1 e) = ng (ix3 1 5 e) := by pointwise [norm5, norms]

/-- The rows after the mixer's output projection. -/
def mixed (o x : FVec Ideal S2x8192x1024 .f32) (mod : FVec Ideal S2x9216 .f32) (ng : FVec Ideal S2x6x1024 .f32) (pw : FVec Ideal S1x1024x1024 .f32) : FVec Ideal S2x8192x1024 .f32 :=
  addf x (mulf (broadcastInDim S2x8192x1024 ![0, 1, 2] bcast_S2x1x1024_S2x8192x1024_0_1_2 (extractStridedSlice S2x1x1024 ![0, 0, 5120] (wide mod) slices_S2x1x9216_S2x1x1024_0_0_5120))
    (rms (Host.dotGeneral dot_S2x8192x1024_S1024x1024_S2x8192x1024_2_0_01_1_n_n none o (shapeCast S1024x1024 pw shapeCasts_S1x1024x1024_S1024x1024)) (norm3 ng)))

theorem mixed_apply (o x : FVec Ideal S2x8192x1024 .f32) (mod : FVec Ideal S2x9216 .f32) (ng : FVec Ideal S2x6x1024 .f32) (pw : FVec Ideal S1x1024x1024 .f32) (b : Fin 2) (i : Fin 8192) (d : Fin 1024) :
    mixed o x mod ng pw (ix3 b i d)
      = mixRow (fun e => o (ix3 b i e)) (fun e => x (ix3 b i e)) (chunkRow mod b 5) (fun e => ng (ix3 1 3 e)) (fun e d => pw (ix3 0 e d)) d := by
  pointwise [mixed, wide, rms]
  simp only [norm3_apply]
  rfl

/-- The rows that enter the network. -/
def modded (x : FVec Ideal S2x8192x1024 .f32) (mod : FVec Ideal S2x9216 .f32) (ng : FVec Ideal S2x6x1024 .f32) : FVec Ideal S2x8192x1024 .f32 :=
  addf (mulf (rms x (norm4 ng)) (broadcastInDim S2x8192x1024 ![0, 1, 2] bcast_S2x1x1024_S2x8192x1024_0_1_2
      (addf (broadcastInDim S2x1x1024 ![] bcast_S_S2x1x1024 (constant S_ .f32 0x3F800000#32)) (extractStridedSlice S2x1x1024 ![0, 0, 7168] (wide mod) slices_S2x1x9216_S2x1x1024_0_0_7168))))
    (broadcastInDim S2x8192x1024 ![0, 1, 2] bcast_S2x1x1024_S2x8192x1024_0_1_2 (extractStridedSlice S2x1x1024 ![0, 0, 6144] (wide mod) slices_S2x1x9216_S2x1x1024_0_0_6144))

theorem modded_apply (x : FVec Ideal S2x8192x1024 .f32) (mod : FVec Ideal S2x9216 .f32) (ng : FVec Ideal S2x6x1024 .f32) (b : Fin 2) (i : Fin 8192) (e : Fin 1024) :
    modded x mod ng (ix3 b i e) = modRow (fun e => x (ix3 b i e)) (chunkRow mod b 6) (chunkRow mod b 7) (fun e => ng (ix3 1 4 e)) e := by
  pointwise [modded, wide, rms]
  simp only [norm4_apply]
  rfl

/-- The gate's and the up projection's values together. -/
def both (h : FVec Ideal S2x8192x1024 .f32) (wi : FVec Ideal S2x2x1024x5632 .f32) : FVec Ideal S2x8192x5632 .f32 :=
  Host.dotGeneral dot_S2x8192x1024_S1024x5632_S2x8192x5632_2_0_01_1_n_n none h
    (shapeCast S1024x5632 (extractStridedSlice S1x1x1024x5632 ![1, 1, 0, 0] wi slices_S2x2x1024x5632_S1x1x1024x5632_1_1_0_0) shapeCasts_S1x1x1024x5632_S1024x5632)

def gates (h : FVec Ideal S2x8192x1024 .f32) (wi : FVec Ideal S2x2x1024x5632 .f32) : FVec Ideal S2x8192x2816 .f32 :=
  extractStridedSlice S2x8192x2816 ![0, 0, 0] (both h wi) slices_S2x8192x5632_S2x8192x2816_0_0_0

/-- The hidden units. -/
def hidden (h : FVec Ideal S2x8192x1024 .f32) (wi : FVec Ideal S2x2x1024x5632 .f32) : FVec Ideal S2x8192x2816 .f32 :=
  mulf (mulf (gates h wi) (Host.divf (broadcastInDim S2x8192x2816 ![] bcast_S_S2x8192x2816 (constant S_ .f32 0x3F800000#32))
      (addf (broadcastInDim S2x8192x2816 ![] bcast_S_S2x8192x2816 (constant S_ .f32 0x3F800000#32)) (Host.exp (Host.negf (gates h wi))))))
    (extractStridedSlice S2x8192x2816 ![0, 0, 2816] (both h wi) slices_S2x8192x5632_S2x8192x2816_0_0_2816)

theorem hidden_apply (h : FVec Ideal S2x8192x1024 .f32) (wi : FVec Ideal S2x2x1024x5632 .f32) (b : Fin 2) (i : Fin 8192) (f : Fin 2816) :
    hidden h wi (ix3 b i f) = unit (fun e => h (ix3 b i e)) (fun e => gateW wi 1 1 e f) (fun e => upW wi 1 1 e f) := by
  pointwise [hidden, gates, both]
  rw [← zero_sub]
  rfl

/-- The result. -/
def result (o x : FVec Ideal S2x8192x1024 .f32) (mod : FVec Ideal S2x9216 .f32) (ng : FVec Ideal S2x6x1024 .f32) (wi : FVec Ideal S2x2x1024x5632 .f32) (wo : FVec Ideal S2x2x2816x1024 .f32) (pw : FVec Ideal S1x1024x1024 .f32) : FVec Ideal S2x8192x1024 .f32 :=
  addf (mixed o x mod ng pw) (mulf (broadcastInDim S2x8192x1024 ![0, 1, 2] bcast_S2x1x1024_S2x8192x1024_0_1_2
      (mulf (broadcastInDim S2x1x1024 ![] bcast_S_S2x1x1024 (constant S_ .f32 0x3F000000#32)) (extractStridedSlice S2x1x1024 ![0, 0, 8192] (wide mod) slices_S2x1x9216_S2x1x1024_0_0_8192)))
    (rms (Host.dotGeneral dot_S2x8192x2816_S2816x1024_S2x8192x1024_2_0_01_1_n_n none (hidden (modded (mixed o x mod ng pw) mod ng) wi)
      (shapeCast S2816x1024 (extractStridedSlice S1x1x2816x1024 ![1, 1, 0, 0] wo slices_S2x2x2816x1024_S1x1x2816x1024_1_1_0_0) shapeCasts_S1x1x2816x1024_S2816x1024)) (norm5 ng)))

theorem result_apply (o x : FVec Ideal S2x8192x1024 .f32) (mod : FVec Ideal S2x9216 .f32) (ng : FVec Ideal S2x6x1024 .f32) (wi : FVec Ideal S2x2x1024x5632 .f32) (wo : FVec Ideal S2x2x2816x1024 .f32) (pw : FVec Ideal S1x1024x1024 .f32) (b : Fin 2) (i : Fin 8192) (d : Fin 1024) :
    result o x mod ng wi wo pw (ix3 b i d) = mixedAt o x mod ng wi wo pw b i d := by
  pointwise [result, wide, rms]
  simp only [hidden_apply, modded_apply, mixed_apply, norm5_apply]
  rfl

theorem res_eq (m : (ℓ : Loc nD τ sig) → Buf (Elt Ideal) ℓ) (c : Dev nD) :
    Cert.MixedRefIdeal.Value.res_main_v82 m c
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := rfl

end Cert.MixedRefIdeal.Ffn

end
-- ==== Proof.PlainPay.lean ====
module

public import proofs.«01_k».proof.Proof.Gen.PlainIdeal.Value
public import proofs.«01_k».proof.Proof.FfnMath

/-!
What one grid point of the call without the mixer computes, row by row.
-/

@[expose] public section

set_option maxRecDepth 16384

noncomputable section

namespace Cert.PlainIdeal.Ffn

open Cert.PlainIdeal Cert.PlainIdeal.Gen
open Idealize.ShloMosaic
open Cert.Ffn

/-- The contribution of 256 hidden units, whose weights are given as blocks. -/
def part (h : FVec Ideal S512x1024 .bf16) (g u : Vec Ideal S1x1x1024x256 .bf16) (o : Vec Ideal S1x1x256x1024 .bf16) (r : Fin 512) (d : Fin 1024) : EReal :=
  ∑ c : Fin 256, unit (fun e => h (ix2 r e)) (fun e => g (ix4 0 0 e c)) (fun e => u (ix4 0 0 e c)) * o (ix4 0 0 c d)

theorem pay2_apply (x : Vec Ideal S1x512x1024 .f32) (n : Vec Ideal S1x1024 .f32) (c s : Vec Ideal S1x1x1024 .f32) (r : Fin 512) (e : Fin 1024) :
    k0_pay2 (F := Ideal) x n c s (ix2 r e)
      = modRow (fun e => x (ix3 0 r e)) (fun e => s (ix3 0 0 e)) (fun e => c (ix3 0 0 e)) (fun e => n (ix2 0 e)) e := by
  pointwise [k0_pay2]
  rfl

theorem pay5_apply (x : Vec Ideal S1x512x1024 .f32) (n : Vec Ideal S1x1024 .f32) (c s : Vec Ideal S1x1x1024 .f32) (g u g1 u1 : Vec Ideal S1x1x1024x256 .bf16) (o o1 : Vec Ideal S1x1x256x1024 .bf16) (r : Fin 512) (d : Fin 1024) :
    k0_pay5 (F := Ideal) (k0_pay2 x n c s) (k0_pay3 x n c s g) (k0_pay4 u) (constant S512x256 .f32 0x00000000#32) o g1 u1 o1 (ix2 r d) = part (k0_pay2 x n c s) g u o r d + part (k0_pay2 x n c s) g1 u1 o1 r d := by
  pointwise [k0_pay5, k0_pay3, k0_pay4]
  rfl

theorem pay6_apply (h : FVec Ideal S512x1024 .bf16) (a : FVec Ideal S512x1024 .f32) (g u : Vec Ideal S1x1x1024x256 .bf16) (o : Vec Ideal S1x1x256x1024 .bf16) (r : Fin 512) (d : Fin 1024) :
    k0_pay6 (F := Ideal) h a g u o (ix2 r d) = a (ix2 r d) + part h g u o r d := by
  pointwise [k0_pay6]
  rfl

theorem pay11_apply (h : FVec Ideal S512x1024 .bf16) (a : FVec Ideal S512x1024 .f32) (g u g1 u1 : Vec Ideal S1x1x1024x256 .bf16) (o o1 : Vec Ideal S1x1x256x1024 .bf16) (r : Fin 512) (d : Fin 1024) :
    k0_pay11 (F := Ideal) h a (k0_pay7 h g) (k0_pay8 h u) (k0_pay9 h g) (k0_pay10 (F := Ideal)) o g1 u1 o1 (ix2 r d) = a (ix2 r d) + part h g u o r d + part h g1 u1 o1 r d := by
  pointwise [k0_pay11, k0_pay7, k0_pay8, k0_pay9, k0_pay10]
  rfl

theorem pay13_apply (h : FVec Ideal S512x1024 .bf16) (a : FVec Ideal S512x1024 .f32) (g u : Vec Ideal S1x1x1024x256 .bf16) (o : Vec Ideal S1x1x256x1024 .bf16) (r : Fin 512) (d : Fin 1024) :
    k0_pay13 (F := Ideal) h a (k0_pay12 g) u o (ix2 r d) = a (ix2 r d) + part h g u o r d := by
  pointwise [k0_pay13, k0_pay12]
  rfl

theorem pay15_apply (h : FVec Ideal S512x1024 .bf16) (a : FVec Ideal S512x1024 .f32) (g u g1 u1 : Vec Ideal S1x1x1024x256 .bf16) (o o1 : Vec Ideal S1x1x256x1024 .bf16) (r : Fin 512) (d : Fin 1024) :
    k0_pay15 (F := Ideal) h a (k0_pay14 h g u) o g1 u1 o1 (ix2 r d) = a (ix2 r d) + part h g u o r d + part h g1 u1 o1 r d := by
  pointwise [k0_pay15, k0_pay14]
  rfl

theorem pay17_apply (h : FVec Ideal S512x1024 .bf16) (a : FVec Ideal S512x1024 .f32) (g u : Vec Ideal S1x1x1024x256 .bf16) (o : Vec Ideal S1x1x256x1024 .bf16) (r : Fin 512) (d : Fin 1024) :
    k0_pay17 (F := Ideal) h a (k0_pay16 h g) u o (ix2 r d) = a (ix2 r d) + part h g u o r d := by
  pointwise [k0_pay17, k0_pay16]
  rfl

theorem pay20_apply (h : FVec Ideal S512x1024 .bf16) (a : FVec Ideal S512x1024 .f32) (g u g1 u1 : Vec Ideal S1x1x1024x256 .bf16) (o o1 : Vec Ideal S1x1x256x1024 .bf16) (r : Fin 512) (d : Fin 1024) :
    k0_pay20 (F := Ideal) h a (k0_pay18 h g u) o g1 u1 o1 (ix3 (0 : Fin 1) r d) = a (ix2 r d) + part h g u o r d + part h g1 u1 o1 r d := by
  pointwise [k0_pay20, k0_pay18]
  rfl

theorem pay1_apply (x : Vec Ideal S1x512x1024 .f32) (h : FVec Ideal S512x1024 .bf16) (a : FVec Ideal S512x1024 .f32) (z : FVec Ideal S512x256 .bf16) (g1 u1 : Vec Ideal S1x1x1024x256 .bf16) (o o1 : Vec Ideal S1x1x256x1024 .bf16) (gt : Vec Ideal S1x1x1024 .f32) (n : Vec Ideal S1x1024 .f32) (r : Fin 512) (d : Fin 1024) :
    k0_pay1 (F := Ideal) x (k0_pay19 gt) (k0_pay20 h a z o g1 u1 o1) (k0_pay21 n) (k0_pay22 h a z o g1 u1 o1) (Scalar.ofBits .f32 0x44800000#32) (ix3 (0 : Fin 1) r d)
      = x (ix3 0 r d) + Ideal.ofBits FTy.f32 1056964608#32 * gt (ix3 0 0 d) * rmsRow (fun d => k0_pay20 (F := Ideal) h a z o g1 u1 o1 (ix3 (0 : Fin 1) r d)) (fun d => n (ix2 0 d)) d := by
  pointwise [k0_pay1, k0_pay19, k0_pay21, k0_pay22]
  rfl

theorem part0 (h : FVec Ideal S512x1024 .bf16) (wg wu : Vec Ideal S1x1x1024x2816 .bf16) (wo : Vec Ideal S1x1x2816x1024 .bf16) (r : Fin 512) (d : Fin 1024) :
    part h (View.ld wg r0_3) (View.ld wu r0_3) (View.ld wo r0_4) r d
      = tile (fun e => h (ix2 r e)) (fun e f => wg (ix4 0 0 e f)) (fun e f => wu (ix4 0 0 e f)) (fun f d => wo (ix4 0 0 f d)) 0 d := by
  pointwise [part, r0_3, r0_4]
  rfl

theorem part1 (h : FVec Ideal S512x1024 .bf16) (wg wu : Vec Ideal S1x1x1024x2816 .bf16) (wo : Vec Ideal S1x1x2816x1024 .bf16) (r : Fin 512) (d : Fin 1024) :
    part h (View.ld wg r0_5) (View.ld wu r0_5) (View.ld wo r0_6) r d
      = tile (fun e => h (ix2 r e)) (fun e f => wg (ix4 0 0 e f)) (fun e f => wu (ix4 0 0 e f)) (fun f d => wo (ix4 0 0 f d)) 1 d := by
  pointwise [part, r0_5, r0_6]
  rfl

theorem part2 (h : FVec Ideal S512x1024 .bf16) (wg wu : Vec Ideal S1x1x1024x2816 .bf16) (wo : Vec Ideal S1x1x2816x1024 .bf16) (r : Fin 512) (d : Fin 1024) :
    part h (View.ld wg r0_7) (View.ld wu r0_7) (View.ld wo r0_8) r d
      = tile (fun e => h (ix2 r e)) (fun e f => wg (ix4 0 0 e f)) (fun e f => wu (ix4 0 0 e f)) (fun f d => wo (ix4 0 0 f d)) 2 d := by
  pointwise [part, r0_7, r0_8]
  rfl

theorem part3 (h : FVec Ideal S512x1024 .bf16) (wg wu : Vec Ideal S1x1x1024x2816 .bf16) (wo : Vec Ideal S1x1x2816x1024 .bf16) (r : Fin 512) (d : Fin 1024) :
    part h (View.ld wg r0_9) (View.ld wu r0_9) (View.ld wo r0_10) r d
      = tile (fun e => h (ix2 r e)) (fun e f => wg (ix4 0 0 e f)) (fun e f => wu (ix4 0 0 e f)) (fun f d => wo (ix4 0 0 f d)) 3 d := by
  pointwise [part, r0_9, r0_10]
  rfl

theorem part4 (h : FVec Ideal S512x1024 .bf16) (wg wu : Vec Ideal S1x1x1024x2816 .bf16) (wo : Vec Ideal S1x1x2816x1024 .bf16) (r : Fin 512) (d : Fin 1024) :
    part h (View.ld wg r0_11) (View.ld wu r0_11) (View.ld wo r0_12) r d
      = tile (fun e => h (ix2 r e)) (fun e f => wg (ix4 0 0 e f)) (fun e f => wu (ix4 0 0 e f)) (fun f d => wo (ix4 0 0 f d)) 4 d := by
  pointwise [part, r0_11, r0_12]
  rfl

theorem part5 (h : FVec Ideal S512x1024 .bf16) (wg wu : Vec Ideal S1x1x1024x2816 .bf16) (wo : Vec Ideal S1x1x2816x1024 .bf16) (r : Fin 512) (d : Fin 1024) :
    part h (View.ld wg r0_13) (View.ld wu r0_13) (View.ld wo r0_14) r d
      = tile (fun e => h (ix2 r e)) (fun e f => wg (ix4 0 0 e f)) (fun e f => wu (ix4 0 0 e f)) (fun f d => wo (ix4 0 0 f d)) 5 d := by
  pointwise [part, r0_13, r0_14]
  rfl

theorem part6 (h : FVec Ideal S512x1024 .bf16) (wg wu : Vec Ideal S1x1x1024x2816 .bf16) (wo : Vec Ideal S1x1x2816x1024 .bf16) (r : Fin 512) (d : Fin 1024) :
    part h (View.ld wg r0_15) (View.ld wu r0_15) (View.ld wo r0_16) r d
      = tile (fun e => h (ix2 r e)) (fun e f => wg (ix4 0 0 e f)) (fun e f => wu (ix4 0 0 e f)) (fun f d => wo (ix4 0 0 f d)) 6 d := by
  pointwise [part, r0_15, r0_16]
  rfl

theorem part7 (h : FVec Ideal S512x1024 .bf16) (wg wu : Vec Ideal S1x1x1024x2816 .bf16) (wo : Vec Ideal S1x1x2816x1024 .bf16) (r : Fin 512) (d : Fin 1024) :
    part h (View.ld wg r0_17) (View.ld wu r0_17) (View.ld wo r0_18) r d
      = tile (fun e => h (ix2 r e)) (fun e f => wg (ix4 0 0 e f)) (fun e f => wu (ix4 0 0 e f)) (fun f d => wo (ix4 0 0 f d)) 7 d := by
  pointwise [part, r0_17, r0_18]
  rfl

theorem part8 (h : FVec Ideal S512x1024 .bf16) (wg wu : Vec Ideal S1x1x1024x2816 .bf16) (wo : Vec Ideal S1x1x2816x1024 .bf16) (r : Fin 512) (d : Fin 1024) :
    part h (View.ld wg r0_19) (View.ld wu r0_19) (View.ld wo r0_20) r d
      = tile (fun e => h (ix2 r e)) (fun e f => wg (ix4 0 0 e f)) (fun e f => wu (ix4 0 0 e f)) (fun f d => wo (ix4 0 0 f d)) 8 d := by
  pointwise [part, r0_19, r0_20]
  rfl

theorem part9 (h : FVec Ideal S512x1024 .bf16) (wg wu : Vec Ideal S1x1x1024x2816 .bf16) (wo : Vec Ideal S1x1x2816x1024 .bf16) (r : Fin 512) (d : Fin 1024) :
    part h (View.ld wg r0_21) (View.ld wu r0_21) (View.ld wo r0_22) r d
      = tile (fun e => h (ix2 r e)) (fun e f => wg (ix4 0 0 e f)) (fun e f => wu (ix4 0 0 e f)) (fun f d => wo (ix4 0 0 f d)) 9 d := by
  pointwise [part, r0_21, r0_22]
  rfl

theorem part10 (h : FVec Ideal S512x1024 .bf16) (wg wu : Vec Ideal S1x1x1024x2816 .bf16) (wo : Vec Ideal S1x1x2816x1024 .bf16) (r : Fin 512) (d : Fin 1024) :
    part h (View.ld wg r0_23) (View.ld wu r0_23) (View.ld wo r0_24) r d
      = tile (fun e => h (ix2 r e)) (fun e f => wg (ix4 0 0 e f)) (fun e f => wu (ix4 0 0 e f)) (fun f d => wo (ix4 0 0 f d)) 10 d := by
  pointwise [part, r0_23, r0_24]
  rfl

theorem ld_r0 (x : Vec Ideal S1x512x1024 .f32) : View.ld x r0_0 = x := View.ld_unit_zero (by decide) _ x
theorem ld_r1 (x : Vec Ideal S1x1024 .f32) : View.ld x r0_1 = x := View.ld_unit_zero (by decide) _ x
theorem ld_r2 (x : Vec Ideal S1x1x1024 .f32) : View.ld x r0_2 = x := View.ld_unit_zero (by decide) _ x

/-- The result's block from the blocks of one grid point. -/
theorem out_apply (x0 : Vec Ideal S1x512x1024 .f32) (x1 x2 x3 : Vec Ideal S1x1x1024 .f32) (x4 x5 : Vec Ideal S1x1024 .f32) (x6 x7 : Vec Ideal S1x1x1024x2816 .bf16) (x8 : Vec Ideal S1x1x2816x1024 .bf16) (r : Fin 512) (d : Fin 1024) :
    out0_9 (F := Ideal) x0 x1 x2 x3 x4 x5 x6 x7 x8 (ix3 (0 : Fin 1) r d)
      = ffnRow (fun e => x0 (ix3 0 r e)) (fun e => x1 (ix3 0 0 e)) (fun e => x2 (ix3 0 0 e)) (fun e => x3 (ix3 0 0 e)) (fun e => x4 (ix2 0 e)) (fun e => x5 (ix2 0 e))
          (fun e f => x6 (ix4 0 0 e f)) (fun e f => x7 (ix4 0 0 e f)) (fun f d => x8 (ix4 0 0 f d)) d := by
  have hh : ∀ e, k0_pay23 (F := Ideal) x0 x1 x2 x3 x4 x5 x6 x7 x8 (ix2 r e)
      = modRow (fun e => x0 (ix3 0 r e)) (fun e => x1 (ix3 0 0 e)) (fun e => x2 (ix3 0 0 e)) (fun e => x4 (ix2 0 e)) e := by
    intro e
    unfold k0_pay23
    rw [ld_r0 x0, ld_r1 x4, ld_r2 x2, ld_r2 x1, pay2_apply]
  have h5 : ∀ d, k0_pay5 (F := Ideal) (k0_pay23 x0 x1 x2 x3 x4 x5 x6 x7 x8) (k0_pay3 (View.ld x0 r0_0) (View.ld x4 r0_1) (View.ld x2 r0_2) (View.ld x1 r0_2) (View.ld x6 r0_3)) (k0_pay4 (View.ld x7 r0_3)) (constant S512x256 .f32 0x00000000#32) (View.ld x8 r0_4) (View.ld x6 r0_5) (View.ld x7 r0_5) (View.ld x8 r0_6) (ix2 r d)
      = part (k0_pay23 x0 x1 x2 x3 x4 x5 x6 x7 x8) (View.ld x6 r0_3) (View.ld x7 r0_3) (View.ld x8 r0_4) r d + part (k0_pay23 x0 x1 x2 x3 x4 x5 x6 x7 x8) (View.ld x6 r0_5) (View.ld x7 r0_5) (View.ld x8 r0_6) r d :=
    fun d => pay5_apply _ _ _ _ _ _ _ _ _ _ r d
  have h20 : ∀ d, k0_pay20 (F := Ideal) (k0_pay23 x0 x1 x2 x3 x4 x5 x6 x7 x8) (k0_pay24 x0 x1 x2 x3 x4 x5 x6 x7 x8) (k0_pay25 x0 x1 x2 x3 x4 x5 x6 x7 x8) (View.ld x8 r0_22) (View.ld x6 r0_23) (View.ld x7 r0_23) (View.ld x8 r0_24) (ix3 (0 : Fin 1) r d)
      = ∑ f, unit (modRow (fun e => x0 (ix3 0 r e)) (fun e => x1 (ix3 0 0 e)) (fun e => x2 (ix3 0 0 e)) (fun e => x4 (ix2 0 e))) (fun e => x6 (ix4 0 0 e f)) (fun e => x7 (ix4 0 0 e f)) * x8 (ix4 0 0 f d) := by
    intro d
    unfold k0_pay25 k0_pay24
    rw [pay20_apply, pay17_apply, pay15_apply, pay13_apply, pay11_apply, pay6_apply, h5]
    simp only [part0, part1, part2, part3, part4, part5, part6, part7, part8, part9, part10, hh, sum_tiles]
  unfold out0_9
  rw [View.canon_unit_zero (by decide), pay1_apply, ld_r0 x0, ld_r2 x3, ld_r1 x5]
  simp only [h20]
  rfl

end Cert.PlainIdeal.Ffn

end
-- ==== Proof.PlainValue.lean ====
module

public import proofs.«01_k».proof.Proof.PlainPay
public import Idealize.ShloMosaic.Lib.Pipeline.Value
public import Idealize.ShloMosaic.Lib.Pipeline.ValueKit
public import Idealize.ShloMosaic.Lib.Pipeline.Covers
public import Idealize.ShloMosaic.Lib.StableHlo.RunRead

/-!
The result array of the call without the mixer: what the host operations hand the kernel, which block of it each grid point
reads, and the result's blocks put together.
-/

@[expose] public section

set_option maxRecDepth 16384

noncomputable section

namespace Cert.PlainIdeal.Ffn

open Cert.PlainIdeal Cert.PlainIdeal.Gen
open Idealize.ShloMosaic Idealize.ShloMosaic.TcCoe Idealize.SL.Sem
open Idealize.ShloMosaic.Pipeline (Dat Window)
open Cert.Ffn

variable (m : (ℓ : Loc nD τ sig) → Buf (Elt Ideal) ℓ) (ρ : Dev nD → PrngReg)

/-! ### What the kernel is handed -/

theorem V_main_arg0 (c : Dev nD) : V m c main_arg0 = m ((c : Thread nD τ).loc main_arg0) := by
  unfold V; after_reads_simp <;> rfl
theorem V_main_v1 (c : Dev nD) : V m c main_v1 = broadcastInDim S2x1x1024 ![0, 2] bcast_S2x1024_S2x1x1024_0_2 (extractStridedSlice S2x1024 ![0, 0] (m ((c : Thread nD τ).loc main_arg1)) slices_S2x9216_S2x1024_0_0) := by
  unfold V; after_reads_simp <;> rfl
theorem V_main_v3 (c : Dev nD) : V m c main_v3 = broadcastInDim S2x1x1024 ![0, 2] bcast_S2x1024_S2x1x1024_0_2 (extractStridedSlice S2x1024 ![0, 1024] (m ((c : Thread nD τ).loc main_arg1)) slices_S2x9216_S2x1024_0_1024) := by
  unfold V; after_reads_simp <;> rfl
theorem V_main_v5 (c : Dev nD) : V m c main_v5 = broadcastInDim S2x1x1024 ![0, 2] bcast_S2x1024_S2x1x1024_0_2 (extractStridedSlice S2x1024 ![0, 2048] (m ((c : Thread nD τ).loc main_arg1)) slices_S2x9216_S2x1024_0_2048) := by
  unfold V; after_reads_simp <;> rfl
theorem V_main_v22 (c : Dev nD) : V m c main_v22 = shapeCast S1x1024 (shapeCast S1024 (extractStridedSlice S1x1024 ![0, 0] (shapeCast S6x1024 (extractStridedSlice S1x6x1024 ![0, 0, 0] (m ((c : Thread nD τ).loc main_arg2)) slices_S2x6x1024_S1x6x1024_0_0_0) shapeCasts_S1x6x1024_S6x1024) slices_S6x1024_S1x1024_0_0) shapeCasts_S1x1024_S1024) shapeCasts_S1024_S1x1024 := by
  unfold V; after_reads_simp <;> rfl
theorem V_main_v25 (c : Dev nD) : V m c main_v25 = shapeCast S1x1024 (shapeCast S1024 (extractStridedSlice S1x1024 ![1, 0] (shapeCast S6x1024 (extractStridedSlice S1x6x1024 ![0, 0, 0] (m ((c : Thread nD τ).loc main_arg2)) slices_S2x6x1024_S1x6x1024_0_0_0) shapeCasts_S1x6x1024_S6x1024) slices_S6x1024_S1x1024_1_0) shapeCasts_S1x1024_S1024) shapeCasts_S1024_S1x1024 := by
  unfold V; after_reads_simp <;> rfl
theorem V_main_v26 (c : Dev nD) : V m c main_v26 = (truncf (F := Ideal) .bf16 (m ((c : Thread nD τ).loc main_arg3)) bitsLt_bf16_f32 : FVec Ideal S2x2x1024x5632 .bf16) := by
  unfold V; after_reads_simp <;> rfl
theorem V_main_v27 (c : Dev nD) : V m c main_v27 = (truncf (F := Ideal) .bf16 (m ((c : Thread nD τ).loc main_arg4)) bitsLt_bf16_f32 : FVec Ideal S2x2x2816x1024 .bf16) := by
  unfold V; after_reads_simp <;> rfl

theorem mod0 (x : FVec Ideal S2x9216 .f32) (b : Fin 2) (e : Fin 1024) :
    broadcastInDim S2x1x1024 ![0, 2] bcast_S2x1024_S2x1x1024_0_2 (extractStridedSlice S2x1024 ![0, 0] x slices_S2x9216_S2x1024_0_0) (ix3 b (0 : Fin 1) e) = chunkRow x b 0 e := by
  pointwise []
  rw [chunkRow_zero]
theorem mod1 (x : FVec Ideal S2x9216 .f32) (b : Fin 2) (e : Fin 1024) :
    broadcastInDim S2x1x1024 ![0, 2] bcast_S2x1024_S2x1x1024_0_2 (extractStridedSlice S2x1024 ![0, 1024] x slices_S2x9216_S2x1024_0_1024) (ix3 b (0 : Fin 1) e) = chunkRow x b 1 e := by
  pointwise []
  rfl
theorem mod2 (x : FVec Ideal S2x9216 .f32) (b : Fin 2) (e : Fin 1024) :
    broadcastInDim S2x1x1024 ![0, 2] bcast_S2x1024_S2x1x1024_0_2 (extractStridedSlice S2x1024 ![0, 2048] x slices_S2x9216_S2x1024_0_2048) (ix3 b (0 : Fin 1) e) = chunkRow x b 2 e := by
  pointwise []
  rfl
theorem norm0 (x : FVec Ideal S2x6x1024 .f32) (e : Fin 1024) :
    shapeCast S1x1024 (shapeCast S1024 (extractStridedSlice S1x1024 ![0, 0] (shapeCast S6x1024 (extractStridedSlice S1x6x1024 ![0, 0, 0] x slices_S2x6x1024_S1x6x1024_0_0_0) shapeCasts_S1x6x1024_S6x1024) slices_S6x1024_S1x1024_0_0) shapeCasts_S1x1024_S1024) shapeCasts_S1024_S1x1024 (ix2 (0 : Fin 1) e) = x (ix3 0 0 e) := by
  pointwise []
theorem norm1 (x : FVec Ideal S2x6x1024 .f32) (e : Fin 1024) :
    shapeCast S1x1024 (shapeCast S1024 (extractStridedSlice S1x1024 ![1, 0] (shapeCast S6x1024 (extractStridedSlice S1x6x1024 ![0, 0, 0] x slices_S2x6x1024_S1x6x1024_0_0_0) shapeCasts_S1x6x1024_S6x1024) slices_S6x1024_S1x1024_1_0) shapeCasts_S1x1024_S1024) shapeCasts_S1024_S1x1024 (ix2 (0 : Fin 1) e) = x (ix3 0 1 e) := by
  pointwise []
theorem trunc_at {s : Shape} (x : FVec Ideal s .f32) (j : s.Idx) : truncf (F := Ideal) .bf16 x bitsLt_bf16_f32 j = x j := rfl

/-! ### Which block a grid point reads -/

/-- The batch entry and the row block of a grid point. -/
abbrev bAt (t : Fin cfg0.N) : Fin 2 := ⟨(grid0.coords t 0).val, (grid0.coords t 0).isLt⟩
theorem row_lt (t : Fin cfg0.N) (r : Fin 512) : 512 * (grid0.coords t 1).val + r.val < 8192 := by
  have h : (grid0.coords t 1).val < 16 := (grid0.coords t 1).isLt
  omega
abbrev rowAt (t : Fin cfg0.N) (r : Fin 512) : Fin 8192 := ⟨512 * (grid0.coords t 1).val + r.val, row_lt t r⟩
theorem up_lt (f : Fin 2816) : 2816 + f.val < 5632 := by omega
theorem gate_lt (f : Fin 2816) : f.val < 5632 := by omega

theorem index0 : ∀ t : Fin grid0.N, cc0_transform_0 (grid0.coords t) = ![(grid0.coords t 0).val, (grid0.coords t 1).val, 0] := by decide +kernel
theorem emb0 (t : Fin cfg0.N) (r : Fin 512) (e : Fin 1024) : (win0_0.rect t).emb (ix3 (0 : Fin 1) r e) = ix3 (bAt t) (rowAt t r) e := by
  have h := index0 t
  funext a
  refine Fin.ext ((win0_0.rect_emb_val t _ a).trans ?_)
  show cc0_transform_0 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem blk0 (c : Dev nD) (t : Fin cfg0.N) (r : Fin 512) (e : Fin 1024) : iblk m c 0 t (ix3 (0 : Fin 1) r e) = m ((c : Thread nD τ).loc main_arg0) (ix3 (bAt t) (rowAt t r) e) := by
  refine Eq.trans (show _ = V m c main_arg0 ((win0_0.rect t).emb (ix3 (0 : Fin 1) r e)) from rfl) ?_
  rw [emb0, V_main_arg0]

theorem index1 : ∀ t : Fin grid0.N, cc0_transform_1 (grid0.coords t) = ![(grid0.coords t 0).val, 0, 0] := by decide +kernel
theorem emb1 (t : Fin cfg0.N) (e : Fin 1024) : (win0_1.rect t).emb (ix3 (0 : Fin 1) (0 : Fin 1) e) = ix3 (bAt t) (0 : Fin 1) e := by
  have h := index1 t
  funext a
  refine Fin.ext ((win0_1.rect_emb_val t _ a).trans ?_)
  show cc0_transform_1 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk1 (c : Dev nD) (t : Fin cfg0.N) (e : Fin 1024) : iblk m c 1 t (ix3 (0 : Fin 1) (0 : Fin 1) e) = chunkRow (m ((c : Thread nD τ).loc main_arg1)) (bAt t) 0 e := by
  refine Eq.trans (show _ = V m c main_v1 ((win0_1.rect t).emb (ix3 (0 : Fin 1) (0 : Fin 1) e)) from rfl) ?_
  rw [emb1, V_main_v1]
  exact mod0 _ _ e

theorem index2 : ∀ t : Fin grid0.N, cc0_transform_2 (grid0.coords t) = ![(grid0.coords t 0).val, 0, 0] := by decide +kernel
theorem emb2 (t : Fin cfg0.N) (e : Fin 1024) : (win0_2.rect t).emb (ix3 (0 : Fin 1) (0 : Fin 1) e) = ix3 (bAt t) (0 : Fin 1) e := by
  have h := index2 t
  funext a
  refine Fin.ext ((win0_2.rect_emb_val t _ a).trans ?_)
  show cc0_transform_2 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk2 (c : Dev nD) (t : Fin cfg0.N) (e : Fin 1024) : iblk m c 2 t (ix3 (0 : Fin 1) (0 : Fin 1) e) = chunkRow (m ((c : Thread nD τ).loc main_arg1)) (bAt t) 1 e := by
  refine Eq.trans (show _ = V m c main_v3 ((win0_2.rect t).emb (ix3 (0 : Fin 1) (0 : Fin 1) e)) from rfl) ?_
  rw [emb2, V_main_v3]
  exact mod1 _ _ e

theorem index3 : ∀ t : Fin grid0.N, cc0_transform_3 (grid0.coords t) = ![(grid0.coords t 0).val, 0, 0] := by decide +kernel
theorem emb3 (t : Fin cfg0.N) (e : Fin 1024) : (win0_3.rect t).emb (ix3 (0 : Fin 1) (0 : Fin 1) e) = ix3 (bAt t) (0 : Fin 1) e := by
  have h := index3 t
  funext a
  refine Fin.ext ((win0_3.rect_emb_val t _ a).trans ?_)
  show cc0_transform_3 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk3 (c : Dev nD) (t : Fin cfg0.N) (e : Fin 1024) : iblk m c 3 t (ix3 (0 : Fin 1) (0 : Fin 1) e) = chunkRow (m ((c : Thread nD τ).loc main_arg1)) (bAt t) 2 e := by
  refine Eq.trans (show _ = V m c main_v5 ((win0_3.rect t).emb (ix3 (0 : Fin 1) (0 : Fin 1) e)) from rfl) ?_
  rw [emb3, V_main_v5]
  exact mod2 _ _ e

theorem index4 : ∀ t : Fin grid0.N, cc0_transform_4 (grid0.coords t) = ![0, 0] := by decide +kernel
theorem emb4 (t : Fin cfg0.N) (e : Fin 1024) : (win0_4.rect t).emb (ix2 (0 : Fin 1) e) = ix2 (0 : Fin 1) e := by
  have h := index4 t
  funext a
  refine Fin.ext ((win0_4.rect_emb_val t _ a).trans ?_)
  show cc0_transform_4 (grid0.coords t) a * S1x1024.size a + _ = _
  rw [h]
  match a with
  | 0 => rfl
  | 1 => show 0 * 1024 + e.val = e.val; omega
theorem blk4 (c : Dev nD) (t : Fin cfg0.N) (e : Fin 1024) : iblk m c 4 t (ix2 (0 : Fin 1) e) = m ((c : Thread nD τ).loc main_arg2) (ix3 0 0 e) := by
  refine Eq.trans (show _ = V m c main_v22 ((win0_4.rect t).emb (ix2 (0 : Fin 1) e)) from rfl) ?_
  rw [emb4, V_main_v22]
  exact norm0 _ e

theorem index5 : ∀ t : Fin grid0.N, cc0_transform_5 (grid0.coords t) = ![0, 0] := by decide +kernel
theorem emb5 (t : Fin cfg0.N) (e : Fin 1024) : (win0_5.rect t).emb (ix2 (0 : Fin 1) e) = ix2 (0 : Fin 1) e := by
  have h := index5 t
  funext a
  refine Fin.ext ((win0_5.rect_emb_val t _ a).trans ?_)
  show cc0_transform_5 (grid0.coords t) a * S1x1024.size a + _ = _
  rw [h]
  match a with
  | 0 => rfl
  | 1 => show 0 * 1024 + e.val = e.val; omega
theorem blk5 (c : Dev nD) (t : Fin cfg0.N) (e : Fin 1024) : iblk m c 5 t (ix2 (0 : Fin 1) e) = m ((c : Thread nD τ).loc main_arg2) (ix3 0 1 e) := by
  refine Eq.trans (show _ = V m c main_v25 ((win0_5.rect t).emb (ix2 (0 : Fin 1) e)) from rfl) ?_
  rw [emb5, V_main_v25]
  exact norm1 _ e

theorem index6 : ∀ t : Fin grid0.N, cc0_transform_6 (grid0.coords t) = ![0, 0, 0, 0] := by decide +kernel
theorem emb6 (t : Fin cfg0.N) (e : Fin 1024) (f : Fin 2816) : (win0_6.rect t).emb (ix4 (0 : Fin 1) (0 : Fin 1) e f) = ix4 (0 : Fin 2) (0 : Fin 2) e ⟨f.val, gate_lt f⟩ := by
  have h := index6 t
  funext a
  refine Fin.ext ((win0_6.rect_emb_val t _ a).trans ?_)
  show cc0_transform_6 (grid0.coords t) a * S1x1x1024x2816.size a + _ = _
  rw [h]
  match a with
  | 0 => rfl
  | 1 => rfl
  | 2 => show 0 * 1024 + e.val = e.val; omega
  | 3 => show 0 * 2816 + f.val = f.val; omega
theorem blk6 (c : Dev nD) (t : Fin cfg0.N) (e : Fin 1024) (f : Fin 2816) : iblk m c 6 t (ix4 (0 : Fin 1) (0 : Fin 1) e f) = gateW (m ((c : Thread nD τ).loc main_arg3)) 0 0 e f := by
  refine Eq.trans (show _ = V m c main_v26 ((win0_6.rect t).emb (ix4 (0 : Fin 1) (0 : Fin 1) e f)) from rfl) ?_
  rw [emb6, V_main_v26, trunc_at]
  rfl

theorem index7 : ∀ t : Fin grid0.N, cc0_transform_7 (grid0.coords t) = ![0, 0, 0, 1] := by decide +kernel
theorem emb7 (t : Fin cfg0.N) (e : Fin 1024) (f : Fin 2816) : (win0_7.rect t).emb (ix4 (0 : Fin 1) (0 : Fin 1) e f) = ix4 (0 : Fin 2) (0 : Fin 2) e ⟨2816 + f.val, up_lt f⟩ := by
  have h := index7 t
  funext a
  refine Fin.ext ((win0_7.rect_emb_val t _ a).trans ?_)
  show cc0_transform_7 (grid0.coords t) a * S1x1x1024x2816.size a + _ = _
  rw [h]
  match a with
  | 0 => rfl
  | 1 => rfl
  | 2 => show 0 * 1024 + e.val = e.val; omega
  | 3 => show 1 * 2816 + f.val = 2816 + f.val; omega
theorem blk7 (c : Dev nD) (t : Fin cfg0.N) (e : Fin 1024) (f : Fin 2816) : iblk m c 7 t (ix4 (0 : Fin 1) (0 : Fin 1) e f) = upW (m ((c : Thread nD τ).loc main_arg3)) 0 0 e f := by
  refine Eq.trans (show _ = V m c main_v26 ((win0_7.rect t).emb (ix4 (0 : Fin 1) (0 : Fin 1) e f)) from rfl) ?_
  rw [emb7, V_main_v26, trunc_at]
  rfl

theorem index8 : ∀ t : Fin grid0.N, cc0_transform_8 (grid0.coords t) = ![0, 0, 0, 0] := by decide +kernel
theorem emb8 (t : Fin cfg0.N) (f : Fin 2816) (d : Fin 1024) : (win0_8.rect t).emb (ix4 (0 : Fin 1) (0 : Fin 1) f d) = ix4 (0 : Fin 2) (0 : Fin 2) f d := by
  have h := index8 t
  funext a
  refine Fin.ext ((win0_8.rect_emb_val t _ a).trans ?_)
  show cc0_transform_8 (grid0.coords t) a * S1x1x2816x1024.size a + _ = _
  rw [h]
  match a with
  | 0 => rfl
  | 1 => rfl
  | 2 => show 0 * 2816 + f.val = f.val; omega
  | 3 => show 0 * 1024 + d.val = d.val; omega
theorem blk8 (c : Dev nD) (t : Fin cfg0.N) (f : Fin 2816) (d : Fin 1024) : iblk m c 8 t (ix4 (0 : Fin 1) (0 : Fin 1) f d) = m ((c : Thread nD τ).loc main_arg4) (ix4 0 0 f d) := by
  refine Eq.trans (show _ = V m c main_v27 ((win0_8.rect t).emb (ix4 (0 : Fin 1) (0 : Fin 1) f d)) from rfl) ?_
  rw [emb8, V_main_v27, trunc_at]

theorem index9 : ∀ t : Fin grid0.N, cc0_transform_9 (grid0.coords t) = ![(grid0.coords t 0).val, (grid0.coords t 1).val, 0] := by decide +kernel
theorem emb9 (t : Fin cfg0.N) (r : Fin 512) (e : Fin 1024) : (win0_9.rect t).emb (ix3 (0 : Fin 1) r e) = ix3 (bAt t) (rowAt t r) e := by
  have h := index9 t
  funext a
  refine Fin.ext ((win0_9.rect_emb_val t _ a).trans ?_)
  show cc0_transform_9 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega

/-! ### The result -/

/-- The result array. -/
def wanted (c : Dev nD) : Buf (Elt Ideal) ((c : Thread nD τ).loc main_v28) := fun y : S2x8192x1024.Idx =>
  plainAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2)

theorem out_eq (c : Dev nD) (t : Fin cfg0.N) (r : Fin 512) (d : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix3 (0 : Fin 1) r d) = wanted m c ((win0_9.rect t).emb (ix3 (0 : Fin 1) r d)) := by
  rw [emb9, out_apply]
  simp only [blk0, blk1, blk2, blk3, blk4, blk5, blk6, blk7, blk8]
  rfl

theorem flushed_eq (c : Dev nD) (t : Fin cfg0.N) :
    (dats m 0 c).flushed 9 t = (win0_9.blk t).view.read (Elt Ideal) (wanted m c) := by
  show (cfg0.win 9).cut (grid0.coords t) ((dats m 0 c).after 9 t) = _
  rw [after0_9]
  funext y
  have e : y = ix3 (0 : Fin 1) (y 1) (y 2) := by
    funext a
    match a with
    | 0 => exact Subsingleton.elim (α := Fin 1) _ _
    | 1 => rfl
    | 2 => rfl
  rw [e]
  exact out_eq m c t (y 1) (y 2)

theorem covers : win0_9.Covers := by decide +kernel

theorem final (c : Dev nD) : (dats m 0 c).arrAt 9 cfg0.N = wanted m c :=
  Dat.arrAt_eq_of_cover (dats m 0 c) 9 (wanted m c) (fun t _ => flushed_eq m c t)
    (fun i => Window.Covers.cover (w := win0_9) covers (Memref.isWhole_whole _) i)

end Cert.PlainIdeal.Ffn

end
-- ==== Proof.PlainRefVals.lean ====
module

public import proofs.«01_k».proof.Proof.Gen.PlainRefIdeal.Run
public import proofs.«01_k».proof.Proof.FfnMath

/-!
What the reference of the call without the mixer computes, at an index.
-/

@[expose] public section

set_option maxRecDepth 16384

noncomputable section

namespace Cert.PlainRefIdeal.Ffn

open Cert.PlainRefIdeal Cert.PlainRefIdeal.Gen
open Idealize.ShloMosaic Idealize.ShloMosaic.TcCoe Idealize.SL.Sem
open Cert.Ffn

/-- The root-mean-square normalization along the last axis. -/
def rms (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem rms_apply (x : FVec Ideal S2x8192x1024 .f32) (g : FVec Ideal S1024 .f32) (b : Fin 2) (i : Fin 8192) (d : Fin 1024) :
    rms x g (ix3 b i d) = rmsRow (fun e => x (ix3 b i e)) (fun e => g (ix1 e)) d := by
  pointwise [rms]
  rfl

/-- The modulation with a row axis. -/
def wide (mod : FVec Ideal S2x9216 .f32) : FVec Ideal S2x1x9216 .f32 := broadcastInDim S2x1x9216 ![0, 2] bcast_S2x9216_S2x1x9216_0_2 mod

/-- The first layer's norm weights. -/
def norms (ng : FVec Ideal S2x6x1024 .f32) : FVec Ideal S6x1024 .f32 :=
  shapeCast S6x1024 (extractStridedSlice S1x6x1024 ![0, 0, 0] ng slices_S2x6x1024_S1x6x1024_0_0_0) shapeCasts_S1x6x1024_S6x1024

def norm0 (ng : FVec Ideal S2x6x1024 .f32) : FVec Ideal S1024 .f32 := shapeCast S1024 (extractStridedSlice S1x1024 ![0, 0] (norms ng) slices_S6x1024_S1x1024_0_0) shapeCasts_S1x1024_S1024
def norm1 (ng : FVec Ideal S2x6x1024 .f32) : FVec Ideal S1024 .f32 := shapeCast S1024 (extractStridedSlice S1x1024 ![1, 0] (norms ng) slices_S6x1024_S1x1024_1_0) shapeCasts_S1x1024_S1024

theorem norm0_apply (ng : FVec Ideal S2x6x1024 .f32) (e : Fin 1024) : norm0 ng (ix1 e) = ng (ix3 0 0 e) := by pointwise [norm0, norms]
theorem norm1_apply (ng : FVec Ideal S2x6x1024 .f32) (e : Fin 1024) : norm1 ng (ix1 e) = ng (ix3 0 1 e) := by pointwise [norm1, norms]

/-- The rows that enter the network. -/
def modded (x : FVec Ideal S2x8192x1024 .f32) (mod : FVec Ideal S2x9216 .f32) (ng : FVec Ideal S2x6x1024 .f32) : FVec Ideal S2x8192x1024 .f32 :=
  addf (mulf (rms x (norm0 ng)) (broadcastInDim S2x8192x1024 ![0, 1, 2] bcast_S2x1x1024_S2x8192x1024_0_1_2
      (addf (broadcastInDim S2x1x1024 ![] bcast_S_S2x1x1024 (constant S_ .f32 0x3F800000#32)) (extractStridedSlice S2x1x1024 ![0, 0, 1024] (wide mod) slices_S2x1x9216_S2x1x1024_0_0_1024))))
    (broadcastInDim S2x8192x1024 ![0, 1, 2] bcast_S2x1x1024_S2x8192x1024_0_1_2 (extractStridedSlice S2x1x1024 ![0, 0, 0] (wide mod) slices_S2x1x9216_S2x1x1024_0_0_0))

theorem modded_apply (x : FVec Ideal S2x8192x1024 .f32) (mod : FVec Ideal S2x9216 .f32) (ng : FVec Ideal S2x6x1024 .f32) (b : Fin 2) (i : Fin 8192) (e : Fin 1024) :
    modded x mod ng (ix3 b i e) = modRow (fun e => x (ix3 b i e)) (chunkRow mod b 0) (chunkRow mod b 1) (fun e => ng (ix3 0 0 e)) e := by
  pointwise [modded, wide, rms]
  simp only [norm0_apply]
  unfold modRow
  rw [chunkRow_zero]
  rfl

/-- The gate's and the up projection's values together. -/
def both (h : FVec Ideal S2x8192x1024 .f32) (wi : FVec Ideal S2x2x1024x5632 .f32) : FVec Ideal S2x8192x5632 .f32 :=
  Host.dotGeneral dot_S2x8192x1024_S1024x5632_S2x8192x5632_2_0_01_1_n_n none h
    (shapeCast S1024x5632 (extractStridedSlice S1x1x1024x5632 ![0, 0, 0, 0] wi slices_S2x2x1024x5632_S1x1x1024x5632_0_0_0_0) shapeCasts_S1x1x1024x5632_S1024x5632)

def gates (h : FVec Ideal S2x8192x1024 .f32) (wi : FVec Ideal S2x2x1024x5632 .f32) : FVec Ideal S2x8192x2816 .f32 :=
  extractStridedSlice S2x8192x2816 ![0, 0, 0] (both h wi) slices_S2x8192x5632_S2x8192x2816_0_0_0

/-- The hidden units. -/
def hidden (h : FVec Ideal S2x8192x1024 .f32) (wi : FVec Ideal S2x2x1024x5632 .f32) : FVec Ideal S2x8192x2816 .f32 :=
  mulf (mulf (gates h wi) (Host.divf (broadcastInDim S2x8192x2816 ![] bcast_S_S2x8192x2816 (constant S_ .f32 0x3F800000#32))
      (addf (broadcastInDim S2x8192x2816 ![] bcast_S_S2x8192x2816 (constant S_ .f32 0x3F800000#32)) (Host.exp (Host.negf (gates h wi))))))
    (extractStridedSlice S2x8192x2816 ![0, 0, 2816] (both h wi) slices_S2x8192x5632_S2x8192x2816_0_0_2816)

theorem hidden_apply (h : FVec Ideal S2x8192x1024 .f32) (wi : FVec Ideal S2x2x1024x5632 .f32) (b : Fin 2) (i : Fin 8192) (f : Fin 2816) :
    hidden h wi (ix3 b i f) = unit (fun e => h (ix3 b i e)) (fun e => gateW wi 0 0 e f) (fun e => upW wi 0 0 e f) := by
  pointwise [hidden, gates, both]
  rw [← zero_sub]
  rfl

/-- The result. -/
def result (x : FVec Ideal S2x8192x1024 .f32) (mod : FVec Ideal S2x9216 .f32) (ng : FVec Ideal S2x6x1024 .f32) (wi : FVec Ideal S2x2x1024x5632 .f32) (wo : FVec Ideal S2x2x2816x1024 .f32) : FVec Ideal S2x8192x1024 .f32 :=
  addf x (mulf (broadcastInDim S2x8192x1024 ![0, 1, 2] bcast_S2x1x1024_S2x8192x1024_0_1_2
      (mulf (broadcastInDim S2x1x1024 ![] bcast_S_S2x1x1024 (constant S_ .f32 0x3F000000#32)) (extractStridedSlice S2x1x1024 ![0, 0, 2048] (wide mod) slices_S2x1x9216_S2x1x1024_0_0_2048)))
    (rms (Host.dotGeneral dot_S2x8192x2816_S2816x1024_S2x8192x1024_2_0_01_1_n_n none (hidden (modded x mod ng) wi)
      (shapeCast S2816x1024 (extractStridedSlice S1x1x2816x1024 ![0, 0, 0, 0] wo slices_S2x2x2816x1024_S1x1x2816x1024_0_0_0_0) shapeCasts_S1x1x2816x1024_S2816x1024)) (norm1 ng)))

theorem result_apply (x : FVec Ideal S2x8192x1024 .f32) (mod : FVec Ideal S2x9216 .f32) (ng : FVec Ideal S2x6x1024 .f32) (wi : FVec Ideal S2x2x1024x5632 .f32) (wo : FVec Ideal S2x2x2816x1024 .f32) (b : Fin 2) (i : Fin 8192) (d : Fin 1024) :
    result x mod ng wi wo (ix3 b i d) = plainAt x mod ng wi wo b i d := by
  pointwise [result, wide, rms]
  simp only [hidden_apply, modded_apply, norm1_apply]
  rfl

theorem res_eq (m : (ℓ : Loc nD τ sig) → Buf (Elt Ideal) ℓ) (c : Dev nD) :
    Cert.PlainRefIdeal.Value.res_main_v62 m c
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) := rfl

end Cert.PlainRefIdeal.Ffn

end
-- ==== Proof.KvMath.lean ====
module

public import proofs.«01_k».proof.Proof.FfnMath

/-!
The rotation of the first 16 numbers of a head of 64, and the same rotation as the kernel finds it: the cosines and sines picked by
a matrix of zeros, ones and minus ones, and three products per lane.
-/

@[expose] public section

noncomputable section

namespace Cert.Kv

open Idealize.ShloMosaic

/-- A rotated head: `cs` holds eight cosines and then eight sines. -/
def ropeAt (y : Fin 64 → EReal) (cs : Fin 16 → EReal) (d : Fin 64) : EReal :=
  if h : d.val < 8 then y d * cs ⟨d, by omega⟩ - y ⟨d + 8, by omega⟩ * cs ⟨d + 8, by omega⟩
  else if h' : d.val < 16 then y d * cs ⟨d - 8, by omega⟩ + y ⟨d - 8, by omega⟩ * cs ⟨d, by omega⟩
  else y d

/-- Which entry of `cs` the matrix picks for a lane of a table, and whether with its own sign. -/
def src (t : Fin 3) (d : Fin 64) : Option (Fin 16 × Bool) :=
  if t.val = 0 then (if d.val < 16 then some (⟨d % 8, by omega⟩, true) else none)
  else if t.val = 1 then (if h : d.val < 8 then some (⟨d + 8, by omega⟩, false) else none)
  else (if h : 8 ≤ d.val ∧ d.val < 16 then some (⟨d, by omega⟩, true) else none)

/-- The coefficient that the matrix gives. -/
def coef (cs : Fin 16 → EReal) (t : Fin 3) (d : Fin 64) : EReal :=
  match src t d with
  | none => 0
  | some (r, true) => cs r
  | some (r, false) => -cs r

theorem sum_pick (cs : Fin 16 → EReal) (t : Fin 3) (d : Fin 64) (P N : Fin 16 → BitVec 1)
    (hP : ∀ r, P r = if src t d = some (r, true) then 1#1 else 0#1) (hN : ∀ r, N r = if src t d = some (r, false) then 1#1 else 0#1) :
    ∑ r, cs r * ((if P r = 1#1 then 1 else 0) - (if N r = 1#1 then 1 else 0)) = coef cs t d := by
  have hP' : ∀ r, (P r = 1#1) = (src t d = some (r, true)) := fun r => by
    rw [hP r]; split <;> simp_all
  have hN' : ∀ r, (N r = 1#1) = (src t d = some (r, false)) := fun r => by
    rw [hN r]; split <;> simp_all
  unfold coef
  simp only [hP', hN']
  rcases src t d with _ | ⟨k, _ | _⟩
  · simp
  · simp only [Option.some.injEq, Prod.mk.injEq, Bool.false_eq_true, and_false, if_false, and_true, zero_sub, mul_neg]
    rw [Finset.sum_congr rfl (g := fun r => if k = r then -cs r else 0) (fun r _ => by split <;> simp)]
    simp
  · simp only [Option.some.injEq, Prod.mk.injEq, Bool.true_eq_false, and_false, if_false, and_true, sub_zero]
    rw [Finset.sum_congr rfl (g := fun r => if k = r then cs r else 0) (fun r _ => by split <;> simp)]
    simp

/-- The lane of head map `c` of two that holds number `d`. -/
abbrev lane (c : Fin 2) (d : Fin 64) : Fin 128 := ⟨64 * c + d, by omega⟩

/-- A lane's three products are the rotated head's number. -/
theorem lane_eq (y : Fin 128 → EReal) (cs : Fin 16 → EReal) (c : Fin 2) (d : Fin 64) (u w : Fin 128)
    (hu : u.val = (64 * c.val + d.val + 8) % 128) (hw : w.val = (64 * c.val + d.val + 120) % 128) :
    y (lane c d) * (coef cs 0 d + if d.val < 16 then 0 else 1) + y u * coef cs 1 d + y w * coef cs 2 d
      = ropeAt (fun k => y (lane c k)) cs d := by
  unfold ropeAt coef src
  by_cases h : d.val < 8
  · have h16 : d.val < 16 := by omega
    have e : u = lane c ⟨d + 8, by omega⟩ := Fin.ext (by rw [hu]; simp only []; omega)
    have e8 : d.val % 8 = d.val := by omega
    have n : ¬ 8 ≤ d.val := by omega
    simp [h, h16, e, e8, n, sub_eq_add_neg]
  · by_cases h16 : d.val < 16
    · have e : w = lane c ⟨d - 8, by omega⟩ := Fin.ext (by rw [hw]; simp only []; omega)
      have e8 : d.val % 8 = d.val - 8 := by omega
      have n : 8 ≤ d.val ∧ d.val < 16 := by omega
      simp [h, h16, e, e8, n.1]
    · simp [h, h16]

/-! ### The keys and the values at an index -/

/-- The row of the projection. -/
def kvRow (x s c g : Fin 1024 → EReal) (w : Fin 1024 → Fin 2048 → EReal) (f : Fin 2048) : EReal := ∑ e, Cert.Ffn.modRow x s c g e * w e f

/-- The projection's number `f` of row `i`: the keys are the first 1024, the values the others. -/
def kvAt (x : (⟨3, ![2, 8192, 1024]⟩ : Shape).Idx → EReal) (mod : (⟨2, ![2, 2048]⟩ : Shape).Idx → EReal) (g : (⟨1, ![1024]⟩ : Shape).Idx → EReal)
    (w : (⟨2, ![1024, 2048]⟩ : Shape).Idx → EReal) (b : Fin 2) (i : Fin 8192) : Fin 2048 → EReal :=
  kvRow (fun e => x (ix3 b i e)) (fun e => mod (ix2 b ⟨e, by omega⟩)) (fun e => mod (ix2 b ⟨1024 + e, by omega⟩)) (fun e => g (ix1 e)) (fun e f => w (ix2 e f))

/-- The rotation's angle at a row. -/
def angle (i : Fin 8192) (k : Fin 8) : EReal :=
  (((BitVec.ofNat 32 i).toInt : ℝ) : EReal) * Ideal.pow (Ideal.ofBits .f32 0x48F42400#32) (Ideal.div ((0 - (((BitVec.ofNat 32 k).toInt : ℝ) : EReal)) * Ideal.ofBits .f32 0x40000000#32) (Ideal.ofBits .f32 0x41800000#32))

theorem ofBits_base : Ideal.ofBits .f32 0x48F42400#32 = ((500000 : ℝ) : EReal) := by
  rw [show (500000 : ℝ) = 16000000 * 2 ^ (-5 : Int) by norm_num]
  simp [Ideal.ofBits, Ideal.ieee]
theorem ofBits_two : Ideal.ofBits .f32 0x40000000#32 = ((2 : ℝ) : EReal) := by
  rw [show (2 : ℝ) = 8388608 * 2 ^ (-22 : Int) by norm_num]
  simp [Ideal.ofBits, Ideal.ieee]
theorem ofBits_width : Ideal.ofBits .f32 0x41800000#32 = ((16 : ℝ) : EReal) := by
  rw [show (16 : ℝ) = 8388608 * 2 ^ (-19 : Int) by norm_num]
  simp [Ideal.ofBits, Ideal.ieee]

/-- The angles are real numbers. -/
theorem angle_real (i : Fin 8192) (k : Fin 8) : ∃ a : ℝ, angle i k = a := by
  unfold angle
  rw [ofBits_base, ofBits_two, ofBits_width, zero_sub, ← EReal.coe_neg, ← EReal.coe_mul]
  have h : ∀ a : ℝ, Ideal.div (a : EReal) ((16 : ℝ) : EReal) = ((a * 16⁻¹ : ℝ) : EReal) := by
    intro a
    unfold Ideal.div
    rw [if_neg (by norm_num [← EReal.coe_zero, EReal.coe_eq_coe_iff]), EReal.coe_mul, EReal.coe_inv]
  rw [h]
  exact ⟨_, (EReal.coe_mul _ _).symm⟩

/-- The row's eight cosines and then its eight sines. -/
def cosSin (i : Fin 8192) (k : Fin 16) : EReal := if h : k.val < 8 then Ideal.cos (angle i ⟨k, h⟩) else Ideal.sin (angle i ⟨k - 8, by omega⟩)

theorem cosSin_low (i : Fin 8192) (k : Fin 16) (h : k.val < 8) : cosSin i k = Ideal.cos (angle i ⟨k, h⟩) := dif_pos h
theorem cosSin_high (i : Fin 8192) (k : Fin 16) (h : 8 ≤ k.val) : cosSin i k = Ideal.sin (angle i ⟨k - 8, by omega⟩) := dif_neg (by omega)

/-- The cosines and sines are real numbers. -/
theorem cosSin_real (i : Fin 8192) (k : Fin 16) : ∃ a : ℝ, cosSin i k = a := by
  unfold cosSin
  split
  · obtain ⟨a, h⟩ := angle_real i ⟨k, by omega⟩
    rw [h]
    exact ⟨_, rfl⟩
  · obtain ⟨a, h⟩ := angle_real i ⟨k - 8, by omega⟩
    rw [h]
    exact ⟨_, rfl⟩

/-- The rotated key's number `j` of row `i`. -/
def keyAt (x : (⟨3, ![2, 8192, 1024]⟩ : Shape).Idx → EReal) (mod : (⟨2, ![2, 2048]⟩ : Shape).Idx → EReal) (g : (⟨1, ![1024]⟩ : Shape).Idx → EReal)
    (w : (⟨2, ![1024, 2048]⟩ : Shape).Idx → EReal) (b : Fin 2) (i : Fin 8192) (j : Fin 1024) : EReal :=
  ropeAt (fun k => kvAt x mod g w b i ⟨64 * (j.val / 64) + k, by omega⟩) (cosSin i) ⟨j.val % 64, by omega⟩

/-- The value's number `j` of row `i`. -/
def valueAt (x : (⟨3, ![2, 8192, 1024]⟩ : Shape).Idx → EReal) (mod : (⟨2, ![2, 2048]⟩ : Shape).Idx → EReal) (g : (⟨1, ![1024]⟩ : Shape).Idx → EReal)
    (w : (⟨2, ![1024, 2048]⟩ : Shape).Idx → EReal) (b : Fin 2) (i : Fin 8192) (j : Fin 1024) : EReal := kvAt x mod g w b i ⟨1024 + j, by omega⟩

/-- Number `d` of map `c` of head `h`. -/
abbrev spot (h : Fin 8) (c : Fin 2) (d : Fin 64) : Fin 1024 := ⟨128 * h + (64 * c + d), by omega⟩

theorem keyAt_spot (x : (⟨3, ![2, 8192, 1024]⟩ : Shape).Idx → EReal) (mod : (⟨2, ![2, 2048]⟩ : Shape).Idx → EReal) (g : (⟨1, ![1024]⟩ : Shape).Idx → EReal)
    (w : (⟨2, ![1024, 2048]⟩ : Shape).Idx → EReal) (b : Fin 2) (i : Fin 8192) (h : Fin 8) (c : Fin 2) (d : Fin 64) :
    keyAt x mod g w b i (spot h c d) = ropeAt (fun k => kvAt x mod g w b i ⟨128 * h + (64 * c + k), by omega⟩) (cosSin i) d := by
  have e : ∀ k : Fin 64, (⟨64 * ((spot h c d).val / 64) + k, by omega⟩ : Fin 2048) = ⟨128 * h + (64 * c + k), by omega⟩ := fun k => Fin.ext (by simp only [spot]; omega)
  have e' : (⟨(spot h c d).val % 64, by omega⟩ : Fin 64) = d := Fin.ext (by simp only [spot]; omega)
  unfold keyAt
  rw [e']
  simp only [e]

theorem exists_spot (j : Fin 1024) : ∃ (h : Fin 8) (c : Fin 2) (d : Fin 64), j = spot h c d :=
  ⟨⟨j.val / 128, by omega⟩, ⟨j.val / 64 % 2, by omega⟩, ⟨j.val % 64, by omega⟩, Fin.ext (by simp only [spot]; omega)⟩

end Cert.Kv

end
-- ==== Proof.KvBits.lean ====
module

public import proofs.«01_k».proof.Proof.Gen.KeyValueIdeal.Value
public import proofs.«01_k».proof.Proof.KvMath

/-!
The matrix of zeros, ones and minus ones by which the key and value projection picks cosines and sines.
-/

@[expose] public section

set_option maxRecDepth 16384

noncomputable section

namespace Cert.KeyValueIdeal.Kv

open Cert.KeyValueIdeal Cert.KeyValueIdeal.Gen
open Idealize.ShloMosaic
open Cert.Ffn Cert.Kv

/-! ### The matrix that picks cosines and sines -/

def rows : IVec S16x384 32 := iota .tc S16x384 32 [0] iota_S16x384_d0_w32
def lanes : IVec S16x384 32 := iota .tc S16x384 32 [1] iota_S16x384_d1_w32
/-- The table of a lane, and its number in the head. -/
def tables : IVec S16x384 32 := k0_pay5 lanes 128#32 k0_pay4
def nums : IVec S16x384 32 := k0_pay6 lanes
/-- Where the matrix is one, and where it is minus one. -/
def ones : IVec S16x384 1 :=
  ori (k0_pay9 rows nums (k0_pay7 rows lanes 128#32 k0_pay4) k0_pay8)
    (andi (k0_pay11 rows tables nums) (cmpi .eq (k0_pay12 nums) (subi rows (broadcast S16x384 8#32))))
def negs : IVec S16x384 1 := k0_pay10 rows tables nums

theorem sel_bits : ∀ (r : Fin 16) (t : Fin 3) (c : Fin 2) (d : Fin 64),
    ones (ix2 r ⟨128 * t + (64 * c + d), by omega⟩) = (if src t d = some (r, true) then 1#1 else 0#1)
      ∧ negs (ix2 r ⟨128 * t + (64 * c + d), by omega⟩) = (if src t d = some (r, false) then 1#1 else 0#1) := by
  decide +kernel

theorem low_bits : ∀ (c : Fin 2) (d : Fin 64), k0_pay15 (ix2 (0 : Fin 1) (lane c d)) = if d.val < 16 then 1#1 else 0#1 := by
  decide +kernel

end Cert.KeyValueIdeal.Kv

end
-- ==== Proof.KvPay.lean ====
module

public import proofs.«01_k».proof.Proof.KvBits

/-!
What one grid point of the key and value projection computes, row by row.
-/

@[expose] public section

set_option maxRecDepth 16384

noncomputable section

namespace Cert.KeyValueIdeal.Kv

open Cert.KeyValueIdeal Cert.KeyValueIdeal.Gen
open Idealize.ShloMosaic
open Cert.Ffn Cert.Kv

/-! ### The lanes -/

/-- Three products per lane: the lane's own number, the number eight lanes on and the number eight lanes back. -/
def rot (x c s1 s2 : FVec Ideal S512x128 .f32) : FVec Ideal S512x128 .f32 :=
  addf (addf (mulf x c) (mulf (dynamicRotate 1 120#32 none x rotates_S512x128_d1) s1)) (mulf (dynamicRotate 1 8#32 none x rotates_S512x128_d1) s2)

theorem rot_apply (x c s1 s2 : FVec Ideal S512x128 .f32) (r : Fin 512) (l : Fin 128) :
    rot x c s1 s2 (ix2 r l) = x (ix2 r l) * c (ix2 r l) + x (ix2 r ⟨(l.val + 8) % 128, by omega⟩) * s1 (ix2 r l) + x (ix2 r ⟨(l.val + 120) % 128, by omega⟩) * s2 (ix2 r l) := by
  pointwise [rot]
  rfl

/-- The 128 numbers of one head of every row. -/
def slab (y : FVec Ideal S512x1024 .f32) (h : Fin 8) : FVec Ideal S512x128 .f32 := fun j => y (ix2 (j 0) ⟨128 * h + (j 1).val, by have : (j 1).val < 128 := (j 1).isLt; omega⟩)

theorem cat8 (f : Fin 8 → FVec Ideal S512x128 .f32) (r : Fin 512) (h : Fin 8) (l : Fin 128) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]
      concatenates_S512x128_S512x128_S512x128_S512x128_S512x128_S512x128_S512x128_S512x128_S512x1024_d1 (ix2 r ⟨128 * h + l, by omega⟩) = f h (ix2 r l) := by
  have g : ∀ (a : Fin 8) (b : Fin 128), a.val = h.val → b.val = l.val → f a (ix2 r b) = f h (ix2 r l) := by
    intro a b ha hb
    rw [Fin.ext ha, Fin.ext hb]
  pointwise []
  split_ifs <;> refine g _ _ ?_ ?_ <;> simp only [Fin.isValue, Fin.val_zero, Fin.val_one, Fin.val_two, Fin.coe_ofNat_eq_mod] <;> omega

theorem cast3 (x : FVec Ideal S512x1024 .f32) (r : Fin 512) (f : Fin 1024) : shapeCast S1x512x1024 x shapeCasts_S512x1024_S1x512x1024 (ix3 (0 : Fin 1) r f) = x (ix2 r f) := by
  pointwise []

/-- The rotated keys of a block from the projection's rows and the lanes' coefficients. -/
theorem pay25_eq (y : FVec Ideal S512x1024 .f32) (v : FVec Ideal S512x384 .f32) (c : FVec Ideal S512x128 .f32) (b : IVec S1x128 1) (r : Fin 512) (h : Fin 8) (l : Fin 128) :
    k0_pay25 (F := Ideal) y (k0_pay16 c b) (k0_pay17 v) (k0_pay18 v) (k0_pay19 y v c b) (k0_pay20 y v c b) (k0_pay21 y v c b) (k0_pay22 y v c b) (k0_pay23 y v c b) (k0_pay24 y)
        (ix3 (0 : Fin 1) r ⟨128 * h + l, by omega⟩)
      = rot (slab y h) (k0_pay16 c b) (k0_pay17 v) (k0_pay18 v) (ix2 r l) := by
  refine Eq.trans ?_ (cat8 (fun h => rot (slab y h) (k0_pay16 c b) (k0_pay17 v) (k0_pay18 v)) r h l)
  have e0 : extractStridedSlice S512x128 ![0, 0] y slices_S512x1024_o0_0_S512x128 = slab y 0 := by funext j; pointwise [slab]
  have e1 : extractStridedSlice S512x128 ![0, 128] y slices_S512x1024_o0_128_S512x128 = slab y 1 := by funext j; pointwise [slab]
  have e2 : extractStridedSlice S512x128 ![0, 256] y slices_S512x1024_o0_256_S512x128 = slab y 2 := by funext j; pointwise [slab]
  have e3 : extractStridedSlice S512x128 ![0, 384] y slices_S512x1024_o0_384_S512x128 = slab y 3 := by funext j; pointwise [slab]
  have e4 : extractStridedSlice S512x128 ![0, 512] y slices_S512x1024_o0_512_S512x128 = slab y 4 := by funext j; pointwise [slab]
  have e5 : extractStridedSlice S512x128 ![0, 640] y slices_S512x1024_o0_640_S512x128 = slab y 5 := by funext j; pointwise [slab]
  have e6 : extractStridedSlice S512x128 ![0, 768] y slices_S512x1024_o0_768_S512x128 = slab y 6 := by funext j; pointwise [slab]
  have e7 : extractStridedSlice S512x128 ![0, 896] y slices_S512x1024_o0_896_S512x128 = slab y 7 := by funext j; pointwise [slab]
  unfold k0_pay25 k0_pay19 k0_pay20 k0_pay21 k0_pay22 k0_pay23 k0_pay24
  rw [e0, e1, e2, e3, e4, e5, e6, e7]
  exact cast3 _ r _

theorem select_eq (b : BitVec 1) (x y : EReal) : Scalar.select b x y = if b = 1#1 then x else y := rfl

theorem pay13_apply (s : FVec Ideal S512x16 .f32) (r : Fin 512) (L : Fin 384) (hs : ∀ k, ∃ a : ℝ, s (ix2 r k) = a) :
    k0_pay13 (F := Ideal) s rows (k0_pay9 rows nums (k0_pay7 rows lanes 128#32 k0_pay4) k0_pay8) negs (k0_pay11 rows tables nums) (k0_pay12 nums) (ix2 r L)
      = ∑ k, s (ix2 r k) * ((if ones (ix2 k L) = 1#1 then 1 else 0) - (if negs (ix2 k L) = 1#1 then 1 else 0)) := by
  have z : ∀ k, s (ix2 r k) - s (ix2 r k) = 0 := by
    intro k
    obtain ⟨a, ha⟩ := hs k
    rw [ha, ← EReal.coe_sub, sub_self, EReal.coe_zero]
  pointwise [k0_pay13]
  simp only [z, sub_zero, zero_mul, Finset.sum_const_zero, add_zero, select_eq]
  rfl

theorem pay16_apply (c : FVec Ideal S512x128 .f32) (r : Fin 512) (l : Fin 128) :
    k0_pay16 (F := Ideal) c k0_pay15 (ix2 r l) = c (ix2 r l) + (if k0_pay15 (ix2 (0 : Fin 1) l) = 1#1 then 0 else 1) := by
  pointwise [k0_pay16]
  rw [select_eq]

theorem pay17_apply (v : FVec Ideal S512x384 .f32) (r : Fin 512) (l : Fin 128) : k0_pay17 (F := Ideal) v (ix2 r l) = v (ix2 r ⟨128 + l, by omega⟩) := by
  pointwise [k0_pay17]
theorem pay18_apply (v : FVec Ideal S512x384 .f32) (r : Fin 512) (l : Fin 128) : k0_pay18 (F := Ideal) v (ix2 r l) = v (ix2 r ⟨256 + l, by omega⟩) := by
  pointwise [k0_pay18]

/-- A coefficient of the block, from the row of cosines and sines. -/
theorem coef_apply (s : FVec Ideal S512x16 .f32) (r : Fin 512) (hs : ∀ k, ∃ a : ℝ, s (ix2 r k) = a) (t : Fin 3) (c : Fin 2) (d : Fin 64) :
    k0_pay13 (F := Ideal) s rows (k0_pay9 rows nums (k0_pay7 rows lanes 128#32 k0_pay4) k0_pay8) negs (k0_pay11 rows tables nums) (k0_pay12 nums) (ix2 r ⟨128 * t + (64 * c + d), by omega⟩)
      = coef (fun k => s (ix2 r k)) t d :=
  (pay13_apply s r _ hs).trans (sum_pick _ t d _ _ (fun k => (sel_bits k t c d).1) (fun k => (sel_bits k t c d).2))

theorem pay1_apply (x : Vec Ideal S1x512x1024 .f32) (n : Vec Ideal S1x1024 .f32) (c s : Vec Ideal S1x1x1024 .f32) (w : Vec Ideal S1024x2048 .bf16) (r : Fin 512) (f : Fin 2048) :
    k0_pay1 (F := Ideal) x n c s w (ix2 r f)
      = kvRow (fun e => x (ix3 0 r e)) (fun e => s (ix3 0 0 e)) (fun e => c (ix3 0 0 e)) (fun e => n (ix2 0 e)) (fun e f => w (ix2 e f)) f := by
  pointwise [k0_pay1]
  rfl

theorem pay2_apply (x : Vec Ideal S1x512x1024 .f32) (n : Vec Ideal S1x1024 .f32) (c s : Vec Ideal S1x1x1024 .f32) (w : Vec Ideal S1024x2048 .bf16) (r : Fin 512) (f : Fin 1024) :
    k0_pay2 (F := Ideal) x n c s w (ix2 r f) = k0_pay1 (F := Ideal) x n c s w (ix2 r ⟨f, by omega⟩) := by
  pointwise [k0_pay2]

theorem ld_r0 (x : Vec Ideal S1x512x1024 .f32) : View.ld x r0_0 = x := View.ld_unit_zero (by decide) _ x
theorem ld_r1 (x : Vec Ideal S1x1024 .f32) : View.ld x r0_1 = x := View.ld_unit_zero (by decide) _ x
theorem ld_r2 (x : Vec Ideal S1x1x1024 .f32) : View.ld x r0_2 = x := View.ld_unit_zero (by decide) _ x
theorem ld_r3 (x : Vec Ideal S1024x2048 .bf16) : View.ld x r0_3 = x := View.ld_unit_zero (by decide) _ x
theorem ld_r4 (x : Vec Ideal S512x16 .f32) : View.ld x r0_4 = x := View.ld_unit_zero (by decide) _ x

variable (x0 : Vec Ideal S1x512x1024 .f32) (x1 x2 : Vec Ideal S1x1x1024 .f32) (x3 : Vec Ideal S1x1024 .f32) (x4 : Vec Ideal S1024x2048 .bf16) (x5 : Vec Ideal S512x16 .f32)

/-- The projection's row of one grid point. -/
abbrev blockRow (r : Fin 512) : Fin 2048 → EReal :=
  kvRow (fun e => x0 (ix3 0 r e)) (fun e => x1 (ix3 0 0 e)) (fun e => x2 (ix3 0 0 e)) (fun e => x3 (ix2 0 e)) (fun e f => x4 (ix2 e f))

theorem pay3_eq (x : Vec Ideal S512x16 .f32) : k0_pay3 (F := Ideal) x = x := by
  funext j
  pointwise [k0_pay3]

/-- The coefficients of every lane, table after table, and those of the first table. -/
def picked (s : FVec Ideal S512x16 .f32) : FVec Ideal S512x384 .f32 :=
  k0_pay13 s rows (k0_pay9 rows nums (k0_pay7 rows lanes 128#32 k0_pay4) k0_pay8) negs (k0_pay11 rows tables nums) (k0_pay12 nums)
def kept (s : FVec Ideal S512x16 .f32) : FVec Ideal S512x128 .f32 :=
  k0_pay14 s rows (k0_pay9 rows nums (k0_pay7 rows lanes 128#32 k0_pay4) k0_pay8) negs (k0_pay11 rows tables nums) (k0_pay12 nums)

/-- A block's rows with every head rotated, from the rows and their cosines and sines. -/
def rotated (y : FVec Ideal S512x1024 .f32) (s : FVec Ideal S512x16 .f32) : FVec Ideal S1x512x1024 .f32 :=
  k0_pay25 y (k0_pay16 (kept s) k0_pay15) (k0_pay17 (picked s)) (k0_pay18 (picked s)) (k0_pay19 y (picked s) (kept s) k0_pay15) (k0_pay20 y (picked s) (kept s) k0_pay15)
    (k0_pay21 y (picked s) (kept s) k0_pay15) (k0_pay22 y (picked s) (kept s) k0_pay15) (k0_pay23 y (picked s) (kept s) k0_pay15) (k0_pay24 y)

theorem rotated_apply (y : FVec Ideal S512x1024 .f32) (s : FVec Ideal S512x16 .f32) (r : Fin 512) (hs : ∀ k, ∃ a : ℝ, s (ix2 r k) = a) (h : Fin 8) (c : Fin 2) (d : Fin 64) :
    rotated y s (ix3 (0 : Fin 1) r ⟨128 * h + (64 * c + d), by omega⟩) = ropeAt (fun k => y (ix2 r ⟨128 * h + (64 * c + k), by omega⟩)) (fun k => s (ix2 r k)) d := by
  have hv : ∀ t : Fin 3, picked s (ix2 r ⟨128 * t + (64 * c + d), by omega⟩) = coef (fun k => s (ix2 r k)) t d := fun t => coef_apply s r hs t c d
  refine (pay25_eq y (picked s) (kept s) k0_pay15 r h (lane c d)).trans ?_
  rw [rot_apply, pay16_apply, pay17_apply, pay18_apply, low_bits]
  have c0 : kept s (ix2 r (lane c d)) = coef (fun k => s (ix2 r k)) 0 d := by
    refine Eq.trans ?_ (hv 0)
    unfold kept
    pointwise [k0_pay14]
    rfl
  have c1 : picked s (ix2 r ⟨128 + (lane c d).val, by omega⟩) = coef (fun k => s (ix2 r k)) 1 d := hv 1
  have c2 : picked s (ix2 r ⟨256 + (lane c d).val, by omega⟩) = coef (fun k => s (ix2 r k)) 2 d := hv 2
  have e : ∀ l, slab y h (ix2 r l) = (fun l : Fin 128 => y (ix2 r ⟨128 * h + l, by omega⟩)) l := fun l => rfl
  have b : (if (if d.val < 16 then 1#1 else 0#1) = 1#1 then (0 : EReal) else 1) = if d.val < 16 then 0 else 1 := by
    split_ifs <;> simp_all
  rw [c0, c1, c2, e, e, e, b]
  exact lane_eq (fun l : Fin 128 => y (ix2 r ⟨128 * h + l, by omega⟩)) (fun k => s (ix2 r k)) c d ⟨((lane c d).val + 8) % 128, by omega⟩ ⟨((lane c d).val + 120) % 128, by omega⟩ rfl rfl

/-- The keys' block from the blocks of one grid point. -/
theorem out6_apply (r : Fin 512) (hs : ∀ k, ∃ a : ℝ, x5 (ix2 r k) = a) (h : Fin 8) (c : Fin 2) (d : Fin 64) :
    out0_6 (F := Ideal) x0 x1 x2 x3 x4 x5 (ix3 (0 : Fin 1) r ⟨128 * h + (64 * c + d), by omega⟩)
      = ropeAt (fun k => blockRow x0 x1 x2 x3 x4 r ⟨128 * h + (64 * c + k), by omega⟩) (fun k => x5 (ix2 r k)) d := by
  have hy : ∀ f : Fin 1024, k0_pay32 (F := Ideal) x0 x1 x2 x3 x4 x5 (ix2 r f) = blockRow x0 x1 x2 x3 x4 r ⟨f, by omega⟩ := by
    intro f
    unfold k0_pay32
    rw [ld_r0 x0, ld_r1 x3, ld_r2 x2, ld_r2 x1, ld_r3 x4, pay2_apply, pay1_apply]
  have h5 : k0_pay33 (F := Ideal) x0 x1 x2 x3 x4 x5 = x5 := by
    unfold k0_pay33
    rw [ld_r4 x5]
    exact pay3_eq x5
  unfold out0_6
  rw [View.canon_unit_zero (by decide)]
  refine (show _ = rotated (k0_pay32 x0 x1 x2 x3 x4 x5) (k0_pay33 x0 x1 x2 x3 x4 x5) _ from rfl).trans ?_
  rw [h5, rotated_apply _ _ r hs]
  simp only [hy]

theorem out8_eq : out0_8 (F := Ideal) x0 x1 x2 x3 x4 x5 = out0_6 (F := Ideal) x0 x1 x2 x3 x4 x5 := by
  unfold out0_8 out0_6
  rw [View.canon_unit_zero (by decide), View.canon_unit_zero (by decide)]
  rfl

/-- The values' block from the blocks of one grid point. -/
theorem out7_apply (r : Fin 512) (f : Fin 1024) :
    out0_7 (F := Ideal) x0 x1 x2 x3 x4 x5 (ix3 (0 : Fin 1) r f) = blockRow x0 x1 x2 x3 x4 r ⟨1024 + f, by omega⟩ := by
  unfold out0_7 k0_pay31
  rw [View.canon_unit_zero (by decide), ld_r0 x0, ld_r1 x3, ld_r2 x2, ld_r2 x1, ld_r3 x4]
  pointwise [k0_pay26]
  exact pay1_apply x0 x3 x2 x1 x4 r _

theorem out9_eq : out0_9 (F := Ideal) x0 x1 x2 x3 x4 x5 = out0_7 (F := Ideal) x0 x1 x2 x3 x4 x5 := by
  unfold out0_9 out0_7
  rw [View.canon_unit_zero (by decide), View.canon_unit_zero (by decide)]
  rfl

end Cert.KeyValueIdeal.Kv

end
-- ==== Proof.KvValue.lean ====
module

public import proofs.«01_k».proof.Proof.KvPay
public import Idealize.ShloMosaic.Lib.Pipeline.Value
public import Idealize.ShloMosaic.Lib.Pipeline.ValueKit
public import Idealize.ShloMosaic.Lib.Pipeline.Covers
public import Idealize.ShloMosaic.Lib.StableHlo.RunRead

/-!
The result arrays of the key and value projection: what the host operations hand the kernel, which block of it each grid point
reads, and each result's blocks put together.
-/

@[expose] public section

set_option maxRecDepth 16384

noncomputable section

namespace Cert.KeyValueIdeal.Kv

open Cert.KeyValueIdeal Cert.KeyValueIdeal.Gen
open Idealize.ShloMosaic Idealize.ShloMosaic.TcCoe Idealize.SL.Sem
open Idealize.ShloMosaic.Pipeline (Dat Window)
open Cert.Ffn Cert.Kv

variable (m : (ℓ : Loc nD τ sig) → Buf (Elt Ideal) ℓ) (ρ : Dev nD → PrngReg)

/-! ### What the kernel is handed -/

/-- The angles' cosines and sines. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

def table : FVec Ideal S8192x16 .f32 := concatenate S8192x16 1 [⟨S8192x8, Host.cos angles⟩, ⟨S8192x8, Host.sin angles⟩] concatenates_S8192x8_S8192x8_S8192x16_d1

theorem angles_apply (i : Fin 8192) (k : Fin 8) : angles (ix2 i k) = angle i k := by
  pointwise [angles]
  unfold angle
  rw [zero_sub]
  rfl

theorem table_apply (i : Fin 8192) (k : Fin 16) : table (ix2 i k) = cosSin i k := by
  pointwise [table]
  simp only [angles_apply]
  rfl

theorem V_main_arg0 (c : Dev nD) : V m c main_arg0 = m ((c : Thread nD τ).loc main_arg0) := by
  unfold V; after_reads_simp <;> rfl
theorem V_main_v2 (c : Dev nD) : V m c main_v2 = broadcastInDim S2x1x1024 ![0, 2] bcast_S2x1024_S2x1x1024_0_2 (extractStridedSlice S2x1024 ![0, 0] (m ((c : Thread nD τ).loc main_arg1)) slices_S2x2048_S2x1024_0_0) := by
  unfold V; after_reads_simp <;> rfl
theorem V_main_v4 (c : Dev nD) : V m c main_v4 = broadcastInDim S2x1x1024 ![0, 2] bcast_S2x1024_S2x1x1024_0_2 (extractStridedSlice S2x1024 ![0, 1024] (m ((c : Thread nD τ).loc main_arg1)) slices_S2x2048_S2x1024_0_1024) := by
  unfold V; after_reads_simp <;> rfl
theorem V_main_v5 (c : Dev nD) : V m c main_v5 = shapeCast S1x1024 (m ((c : Thread nD τ).loc main_arg2)) shapeCasts_S1024_S1x1024 := by
  unfold V; after_reads_simp <;> rfl
theorem V_main_v6 (c : Dev nD) : V m c main_v6 = (truncf (F := Ideal) .bf16 (m ((c : Thread nD τ).loc main_arg3)) bitsLt_bf16_f32 : FVec Ideal S1024x2048 .bf16) := by
  unfold V; after_reads_simp <;> rfl
theorem V_main_v23 (c : Dev nD) : V m c main_v23 = table := by
  unfold V; after_reads_simp <;> rfl

theorem mod0 (x : FVec Ideal S2x2048 .f32) (b : Fin 2) (e : Fin 1024) :
    broadcastInDim S2x1x1024 ![0, 2] bcast_S2x1024_S2x1x1024_0_2 (extractStridedSlice S2x1024 ![0, 0] x slices_S2x2048_S2x1024_0_0) (ix3 b (0 : Fin 1) e) = x (ix2 b ⟨e, by omega⟩) := by
  pointwise []
theorem mod1 (x : FVec Ideal S2x2048 .f32) (b : Fin 2) (e : Fin 1024) :
    broadcastInDim S2x1x1024 ![0, 2] bcast_S2x1024_S2x1x1024_0_2 (extractStridedSlice S2x1024 ![0, 1024] x slices_S2x2048_S2x1024_0_1024) (ix3 b (0 : Fin 1) e) = x (ix2 b ⟨1024 + e, by omega⟩) := by
  pointwise []
theorem norm_row (x : FVec Ideal S1024 .f32) (e : Fin 1024) : shapeCast S1x1024 x shapeCasts_S1024_S1x1024 (ix2 (0 : Fin 1) e) = x (ix1 e) := by
  pointwise []
theorem trunc_at {s : Shape} (x : FVec Ideal s .f32) (j : s.Idx) : truncf (F := Ideal) .bf16 x bitsLt_bf16_f32 j = x j := rfl

/-! ### Which block a grid point reads -/

/-- The batch entry and the row block of a grid point. -/
abbrev bAt (t : Fin cfg0.N) : Fin 2 := ⟨(grid0.coords t 0).val, (grid0.coords t 0).isLt⟩
theorem row_lt (t : Fin cfg0.N) (r : Fin 512) : 512 * (grid0.coords t 1).val + r.val < 8192 := by
  have h : (grid0.coords t 1).val < 16 := (grid0.coords t 1).isLt
  omega
abbrev rowAt (t : Fin cfg0.N) (r : Fin 512) : Fin 8192 := ⟨512 * (grid0.coords t 1).val + r.val, row_lt t r⟩

theorem index0 : ∀ t : Fin grid0.N, cc0_transform_0 (grid0.coords t) = ![(grid0.coords t 0).val, (grid0.coords t 1).val, 0] := by decide +kernel
theorem emb0 (t : Fin cfg0.N) (r : Fin 512) (e : Fin 1024) : (win0_0.rect t).emb (ix3 (0 : Fin 1) r e) = ix3 (bAt t) (rowAt t r) e := by
  have h := index0 t
  funext a
  refine Fin.ext ((win0_0.rect_emb_val t _ a).trans ?_)
  show cc0_transform_0 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem blk0 (c : Dev nD) (t : Fin cfg0.N) (r : Fin 512) (e : Fin 1024) : iblk m c 0 t (ix3 (0 : Fin 1) r e) = m ((c : Thread nD τ).loc main_arg0) (ix3 (bAt t) (rowAt t r) e) := by
  refine Eq.trans (show _ = V m c main_arg0 ((win0_0.rect t).emb (ix3 (0 : Fin 1) r e)) from rfl) ?_
  rw [emb0, V_main_arg0]

theorem index1 : ∀ t : Fin grid0.N, cc0_transform_1 (grid0.coords t) = ![(grid0.coords t 0).val, 0, 0] := by decide +kernel
theorem emb1 (t : Fin cfg0.N) (e : Fin 1024) : (win0_1.rect t).emb (ix3 (0 : Fin 1) (0 : Fin 1) e) = ix3 (bAt t) (0 : Fin 1) e := by
  have h := index1 t
  funext a
  refine Fin.ext ((win0_1.rect_emb_val t _ a).trans ?_)
  show cc0_transform_1 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk1 (c : Dev nD) (t : Fin cfg0.N) (e : Fin 1024) : iblk m c 1 t (ix3 (0 : Fin 1) (0 : Fin 1) e) = m ((c : Thread nD τ).loc main_arg1) (ix2 (bAt t) ⟨e, by omega⟩) := by
  refine Eq.trans (show _ = V m c main_v2 ((win0_1.rect t).emb (ix3 (0 : Fin 1) (0 : Fin 1) e)) from rfl) ?_
  rw [emb1, V_main_v2]
  exact mod0 _ _ e

theorem index2 : ∀ t : Fin grid0.N, cc0_transform_2 (grid0.coords t) = ![(grid0.coords t 0).val, 0, 0] := by decide +kernel
theorem emb2 (t : Fin cfg0.N) (e : Fin 1024) : (win0_2.rect t).emb (ix3 (0 : Fin 1) (0 : Fin 1) e) = ix3 (bAt t) (0 : Fin 1) e := by
  have h := index2 t
  funext a
  refine Fin.ext ((win0_2.rect_emb_val t _ a).trans ?_)
  show cc0_transform_2 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk2 (c : Dev nD) (t : Fin cfg0.N) (e : Fin 1024) : iblk m c 2 t (ix3 (0 : Fin 1) (0 : Fin 1) e) = m ((c : Thread nD τ).loc main_arg1) (ix2 (bAt t) ⟨1024 + e, by omega⟩) := by
  refine Eq.trans (show _ = V m c main_v4 ((win0_2.rect t).emb (ix3 (0 : Fin 1) (0 : Fin 1) e)) from rfl) ?_
  rw [emb2, V_main_v4]
  exact mod1 _ _ e

theorem index3 : ∀ t : Fin grid0.N, cc0_transform_3 (grid0.coords t) = ![0, 0] := by decide +kernel
theorem emb3 (t : Fin cfg0.N) (e : Fin 1024) : (win0_3.rect t).emb (ix2 (0 : Fin 1) e) = ix2 (0 : Fin 1) e := by
  have h := index3 t
  funext a
  refine Fin.ext ((win0_3.rect_emb_val t _ a).trans ?_)
  show cc0_transform_3 (grid0.coords t) a * S1x1024.size a + _ = _
  rw [h]
  match a with
  | 0 => rfl
  | 1 => show 0 * 1024 + e.val = e.val; omega
theorem blk3 (c : Dev nD) (t : Fin cfg0.N) (e : Fin 1024) : iblk m c 3 t (ix2 (0 : Fin 1) e) = m ((c : Thread nD τ).loc main_arg2) (ix1 e) := by
  refine Eq.trans (show _ = V m c main_v5 ((win0_3.rect t).emb (ix2 (0 : Fin 1) e)) from rfl) ?_
  rw [emb3, V_main_v5]
  exact norm_row _ e

theorem index4 : ∀ t : Fin grid0.N, cc0_transform_4 (grid0.coords t) = ![0, 0] := by decide +kernel
theorem emb4 (t : Fin cfg0.N) (e : Fin 1024) (f : Fin 2048) : (win0_4.rect t).emb (ix2 e f) = ix2 e f := by
  have h := index4 t
  funext a
  refine Fin.ext ((win0_4.rect_emb_val t _ a).trans ?_)
  show cc0_transform_4 (grid0.coords t) a * S1024x2048.size a + _ = _
  rw [h]
  match a with
  | 0 => show 0 * 1024 + e.val = e.val; omega
  | 1 => show 0 * 2048 + f.val = f.val; omega
theorem blk4 (c : Dev nD) (t : Fin cfg0.N) (e : Fin 1024) (f : Fin 2048) : iblk m c 4 t (ix2 e f) = m ((c : Thread nD τ).loc main_arg3) (ix2 e f) := by
  refine Eq.trans (show _ = V m c main_v6 ((win0_4.rect t).emb (ix2 e f)) from rfl) ?_
  rw [emb4, V_main_v6, trunc_at]

theorem index5 : ∀ t : Fin grid0.N, cc0_transform_5 (grid0.coords t) = ![(grid0.coords t 1).val, 0] := by decide +kernel
theorem emb5 (t : Fin cfg0.N) (r : Fin 512) (k : Fin 16) : (win0_5.rect t).emb (ix2 r k) = ix2 (rowAt t r) k := by
  have h := index5 t
  funext a
  refine Fin.ext ((win0_5.rect_emb_val t _ a).trans ?_)
  show cc0_transform_5 (grid0.coords t) a * S512x16.size a + _ = _
  rw [h]
  match a with
  | 0 => show (grid0.coords t 1).val * 512 + r.val = 512 * (grid0.coords t 1).val + r.val; omega
  | 1 => show 0 * 16 + k.val = k.val; omega
theorem blk5 (c : Dev nD) (t : Fin cfg0.N) (r : Fin 512) (k : Fin 16) : iblk m c 5 t (ix2 r k) = cosSin (rowAt t r) k := by
  refine Eq.trans (show _ = V m c main_v23 ((win0_5.rect t).emb (ix2 r k)) from rfl) ?_
  rw [emb5, V_main_v23, table_apply]

/-! ### The results -/

theorem block_eq (c : Dev nD) (t : Fin cfg0.N) (r : Fin 512) :
    blockRow (iblk m c 0 t) (iblk m c 1 t) (iblk m c 2 t) (iblk m c 3 t) (iblk m c 4 t) r
      = kvAt (m ((c : Thread nD τ).loc main_arg0)) (m ((c : Thread nD τ).loc main_arg1)) (m ((c : Thread nD τ).loc main_arg2)) (m ((c : Thread nD τ).loc main_arg3)) (bAt t) (rowAt t r) := by
  unfold blockRow
  simp only [blk0, blk1, blk2, blk3, blk4]
  rfl

/-- The keys' and the values' arrays. -/
abbrev keys (c : Dev nD) : S2x8192x1024.Idx → EReal := fun y =>
  keyAt (m ((c : Thread nD τ).loc main_arg0)) (m ((c : Thread nD τ).loc main_arg1)) (m ((c : Thread nD τ).loc main_arg2)) (m ((c : Thread nD τ).loc main_arg3)) (y 0) (y 1) (y 2)
abbrev values (c : Dev nD) : S2x8192x1024.Idx → EReal := fun y =>
  valueAt (m ((c : Thread nD τ).loc main_arg0)) (m ((c : Thread nD τ).loc main_arg1)) (m ((c : Thread nD τ).loc main_arg2)) (m ((c : Thread nD τ).loc main_arg3)) (y 0) (y 1) (y 2)

theorem key_eq (c : Dev nD) (t : Fin cfg0.N) (r : Fin 512) (j : Fin 1024) :
    out0_6 (F := Ideal) (iblk m c 0 t) (iblk m c 1 t) (iblk m c 2 t) (iblk m c 3 t) (iblk m c 4 t) (iblk m c 5 t) (ix3 (0 : Fin 1) r j) = keys m c (ix3 (bAt t) (rowAt t r) j) := by
  obtain ⟨h, k, d, rfl⟩ := exists_spot j
  refine (out6_apply _ _ _ _ _ _ r (fun k => by rw [blk5]; exact cosSin_real _ _) h k d).trans ?_
  rw [block_eq]
  simp only [blk5]
  exact (keyAt_spot _ _ _ _ _ _ h k d).symm

theorem value_eq (c : Dev nD) (t : Fin cfg0.N) (r : Fin 512) (j : Fin 1024) :
    out0_7 (F := Ideal) (iblk m c 0 t) (iblk m c 1 t) (iblk m c 2 t) (iblk m c 3 t) (iblk m c 4 t) (iblk m c 5 t) (ix3 (0 : Fin 1) r j) = values m c (ix3 (bAt t) (rowAt t r) j) := by
  rw [out7_apply, block_eq]
  rfl

theorem at_row (y : S1x512x1024.Idx) : y = ix3 (0 : Fin 1) (y 1) (y 2) := by
  funext a
  match a with
  | 0 => exact Subsingleton.elim (α := Fin 1) _ _
  | 1 => rfl
  | 2 => rfl

theorem index6 : ∀ t : Fin grid0.N, cc0_transform_6 (grid0.coords t) = ![(grid0.coords t 0).val, (grid0.coords t 1).val, 0] := by decide +kernel
theorem emb6 (t : Fin cfg0.N) (r : Fin 512) (e : Fin 1024) : (win0_6.rect t).emb (ix3 (0 : Fin 1) r e) = ix3 (bAt t) (rowAt t r) e := by
  have h := index6 t
  funext a
  refine Fin.ext ((win0_6.rect_emb_val t _ a).trans ?_)
  show cc0_transform_6 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem put6 (c : Dev nD) (t : Fin cfg0.N) (r : Fin 512) (j : Fin 1024) :
    out0_6 (F := Ideal) (iblk m c 0 t) (iblk m c 1 t) (iblk m c 2 t) (iblk m c 3 t) (iblk m c 4 t) (iblk m c 5 t) (ix3 (0 : Fin 1) r j) = keys m c ((win0_6.rect t).emb (ix3 (0 : Fin 1) r j)) := by
  rw [emb6]
  exact key_eq m c t r j
theorem flushed6 (c : Dev nD) (t : Fin cfg0.N) : (dats m 0 c).flushed 6 t = (win0_6.blk t).view.read (Elt Ideal) (keys m c) := by
  show (cfg0.win 6).cut (grid0.coords t) ((dats m 0 c).after 6 t) = _
  rw [after0_6]
  funext y
  rw [at_row y]
  exact put6 m c t (y 1) (y 2)
theorem final6 (c : Dev nD) : (dats m 0 c).arrAt 6 cfg0.N = keys m c :=
  Dat.arrAt_eq_of_cover (dats m 0 c) 6 (keys m c) (fun t _ => flushed6 m c t)
    (fun i => Window.Covers.cover (w := win0_6) (by decide +kernel) (Memref.isWhole_whole _) i)

theorem index7 : ∀ t : Fin grid0.N, cc0_transform_7 (grid0.coords t) = ![(grid0.coords t 0).val, (grid0.coords t 1).val, 0] := by decide +kernel
theorem emb7 (t : Fin cfg0.N) (r : Fin 512) (e : Fin 1024) : (win0_7.rect t).emb (ix3 (0 : Fin 1) r e) = ix3 (bAt t) (rowAt t r) e := by
  have h := index7 t
  funext a
  refine Fin.ext ((win0_7.rect_emb_val t _ a).trans ?_)
  show cc0_transform_7 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem put7 (c : Dev nD) (t : Fin cfg0.N) (r : Fin 512) (j : Fin 1024) :
    out0_7 (F := Ideal) (iblk m c 0 t) (iblk m c 1 t) (iblk m c 2 t) (iblk m c 3 t) (iblk m c 4 t) (iblk m c 5 t) (ix3 (0 : Fin 1) r j) = values m c ((win0_7.rect t).emb (ix3 (0 : Fin 1) r j)) := by
  rw [emb7]
  exact value_eq m c t r j
theorem flushed7 (c : Dev nD) (t : Fin cfg0.N) : (dats m 0 c).flushed 7 t = (win0_7.blk t).view.read (Elt Ideal) (values m c) := by
  show (cfg0.win 7).cut (grid0.coords t) ((dats m 0 c).after 7 t) = _
  rw [after0_7]
  funext y
  rw [at_row y]
  exact put7 m c t (y 1) (y 2)
theorem final7 (c : Dev nD) : (dats m 0 c).arrAt 7 cfg0.N = values m c :=
  Dat.arrAt_eq_of_cover (dats m 0 c) 7 (values m c) (fun t _ => flushed7 m c t)
    (fun i => Window.Covers.cover (w := win0_7) (by decide +kernel) (Memref.isWhole_whole _) i)

theorem index8 : ∀ t : Fin grid0.N, cc0_transform_8 (grid0.coords t) = ![(grid0.coords t 0).val, (grid0.coords t 1).val, 0] := by decide +kernel
theorem emb8 (t : Fin cfg0.N) (r : Fin 512) (e : Fin 1024) : (win0_8.rect t).emb (ix3 (0 : Fin 1) r e) = ix3 (bAt t) (rowAt t r) e := by
  have h := index8 t
  funext a
  refine Fin.ext ((win0_8.rect_emb_val t _ a).trans ?_)
  show cc0_transform_8 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem put8 (c : Dev nD) (t : Fin cfg0.N) (r : Fin 512) (j : Fin 1024) :
    out0_8 (F := Ideal) (iblk m c 0 t) (iblk m c 1 t) (iblk m c 2 t) (iblk m c 3 t) (iblk m c 4 t) (iblk m c 5 t) (ix3 (0 : Fin 1) r j) = keys m c ((win0_8.rect t).emb (ix3 (0 : Fin 1) r j)) := by
  rw [emb8, out8_eq]
  exact key_eq m c t r j
theorem flushed8 (c : Dev nD) (t : Fin cfg0.N) : (dats m 0 c).flushed 8 t = (win0_8.blk t).view.read (Elt Ideal) (keys m c) := by
  show (cfg0.win 8).cut (grid0.coords t) ((dats m 0 c).after 8 t) = _
  rw [after0_8]
  funext y
  rw [at_row y]
  exact put8 m c t (y 1) (y 2)
theorem final8 (c : Dev nD) : (dats m 0 c).arrAt 8 cfg0.N = keys m c :=
  Dat.arrAt_eq_of_cover (dats m 0 c) 8 (keys m c) (fun t _ => flushed8 m c t)
    (fun i => Window.Covers.cover (w := win0_8) (by decide +kernel) (Memref.isWhole_whole _) i)

theorem index9 : ∀ t : Fin grid0.N, cc0_transform_9 (grid0.coords t) = ![(grid0.coords t 0).val, (grid0.coords t 1).val, 0] := by decide +kernel
theorem emb9 (t : Fin cfg0.N) (r : Fin 512) (e : Fin 1024) : (win0_9.rect t).emb (ix3 (0 : Fin 1) r e) = ix3 (bAt t) (rowAt t r) e := by
  have h := index9 t
  funext a
  refine Fin.ext ((win0_9.rect_emb_val t _ a).trans ?_)
  show cc0_transform_9 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem put9 (c : Dev nD) (t : Fin cfg0.N) (r : Fin 512) (j : Fin 1024) :
    out0_9 (F := Ideal) (iblk m c 0 t) (iblk m c 1 t) (iblk m c 2 t) (iblk m c 3 t) (iblk m c 4 t) (iblk m c 5 t) (ix3 (0 : Fin 1) r j) = values m c ((win0_9.rect t).emb (ix3 (0 : Fin 1) r j)) := by
  rw [emb9, out9_eq]
  exact value_eq m c t r j
theorem flushed9 (c : Dev nD) (t : Fin cfg0.N) : (dats m 0 c).flushed 9 t = (win0_9.blk t).view.read (Elt Ideal) (values m c) := by
  show (cfg0.win 9).cut (grid0.coords t) ((dats m 0 c).after 9 t) = _
  rw [after0_9]
  funext y
  rw [at_row y]
  exact put9 m c t (y 1) (y 2)
theorem final9 (c : Dev nD) : (dats m 0 c).arrAt 9 cfg0.N = values m c :=
  Dat.arrAt_eq_of_cover (dats m 0 c) 9 (values m c) (fun t _ => flushed9 m c t)
    (fun i => Window.Covers.cover (w := win0_9) (by decide +kernel) (Memref.isWhole_whole _) i)

end Cert.KeyValueIdeal.Kv

end
-- ==== Proof.KvRefVals.lean ====
module

public import proofs.«01_k».proof.Proof.Gen.KeyValueRefIdeal.Run
public import proofs.«01_k».proof.Proof.KvMath

/-!
What the reference of the key and value projection computes, at an index.
-/

@[expose] public section

set_option maxRecDepth 16384

noncomputable section

namespace Cert.KeyValueRefIdeal.Kv

open Cert.KeyValueRefIdeal Cert.KeyValueRefIdeal.Gen
open Idealize.ShloMosaic Idealize.ShloMosaic.TcCoe Idealize.SL.Sem
open Cert.Ffn Cert.Kv

/-- The root-mean-square normalization along the last axis. -/
def rms (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem rms_apply (x : FVec Ideal S2x8192x1024 .f32) (g : FVec Ideal S1024 .f32) (b : Fin 2) (i : Fin 8192) (d : Fin 1024) :
    rms x g (ix3 b i d) = rmsRow (fun e => x (ix3 b i e)) (fun e => g (ix1 e)) d := by
  pointwise [rms]
  rfl

/-- The rows that enter the projection. -/
def modded (x : FVec Ideal S2x8192x1024 .f32) (mod : FVec Ideal S2x2048 .f32) (g : FVec Ideal S1024 .f32) : FVec Ideal S2x8192x1024 .f32 :=
  addf (mulf (rms x g) (broadcastInDim S2x8192x1024 ![0, 1, 2] bcast_S2x1x1024_S2x8192x1024_0_1_2
      (addf (broadcastInDim S2x1x1024 ![] bcast_S_S2x1x1024 (constant S_ .f32 0x3F800000#32)) (extractStridedSlice S2x1x1024 ![0, 0, 1024] (broadcastInDim S2x1x2048 ![0, 2] bcast_S2x2048_S2x1x2048_0_2 mod) slices_S2x1x2048_S2x1x1024_0_0_1024))))
    (broadcastInDim S2x8192x1024 ![0, 1, 2] bcast_S2x1x1024_S2x8192x1024_0_1_2 (extractStridedSlice S2x1x1024 ![0, 0, 0] (broadcastInDim S2x1x2048 ![0, 2] bcast_S2x2048_S2x1x2048_0_2 mod) slices_S2x1x2048_S2x1x1024_0_0_0))

theorem modded_apply (x : FVec Ideal S2x8192x1024 .f32) (mod : FVec Ideal S2x2048 .f32) (g : FVec Ideal S1024 .f32) (b : Fin 2) (i : Fin 8192) (e : Fin 1024) :
    modded x mod g (ix3 b i e)
      = modRow (fun e => x (ix3 b i e)) (fun e => mod (ix2 b ⟨e, by omega⟩)) (fun e => mod (ix2 b ⟨1024 + e, by omega⟩)) (fun e => g (ix1 e)) e := by
  pointwise [modded, rms]
  rfl

/-- The keys before the rotation and the values together. -/
def both (x : FVec Ideal S2x8192x1024 .f32) (mod : FVec Ideal S2x2048 .f32) (g : FVec Ideal S1024 .f32) (w : FVec Ideal S1024x2048 .f32) : FVec Ideal S2x8192x2048 .f32 :=
  Host.dotGeneral dot_S2x8192x1024_S1024x2048_S2x8192x2048_2_0_01_1_n_n none (modded x mod g) w

theorem both_apply (x : FVec Ideal S2x8192x1024 .f32) (mod : FVec Ideal S2x2048 .f32) (g : FVec Ideal S1024 .f32) (w : FVec Ideal S1024x2048 .f32) (b : Fin 2) (i : Fin 8192) (f : Fin 2048) :
    both x mod g w (ix3 b i f) = kvAt x mod g w b i f := by
  pointwise [both]
  simp only [modded_apply]
  rfl

/-- The values. -/
def values (x : FVec Ideal S2x8192x1024 .f32) (mod : FVec Ideal S2x2048 .f32) (g : FVec Ideal S1024 .f32) (w : FVec Ideal S1024x2048 .f32) : FVec Ideal S2x8192x1024 .f32 :=
  extractStridedSlice S2x8192x1024 ![0, 0, 1024] (both x mod g w) slices_S2x8192x2048_S2x8192x1024_0_0_1024

theorem values_apply (x : FVec Ideal S2x8192x1024 .f32) (mod : FVec Ideal S2x2048 .f32) (g : FVec Ideal S1024 .f32) (w : FVec Ideal S1024x2048 .f32) (b : Fin 2) (i : Fin 8192) (j : Fin 1024) :
    values x mod g w (ix3 b i j) = valueAt x mod g w b i j := by
  pointwise [values]
  rw [both_apply]
  rfl

/-- The rotation's angles. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

theorem angles_apply (i : Fin 8192) (k : Fin 8) : angles (ix2 i k) = angle i k := by
  pointwise [angles]
  unfold angle
  rw [zero_sub]
  rfl

/-- A table of the rows' angles at every head. -/
def spread (x : FVec Ideal S8192x8 .f32) : FVec Ideal S2x8192x8x2x8 .f32 :=
  broadcastInDim S2x8192x8x2x8 ![0, 1, 2, 3, 4] bcast_S1x8192x1x1x8_S2x8192x8x2x8_0_1_2_3_4 (broadcastInDim S1x8192x1x1x8 ![1, 4] bcast_S8192x8_S1x8192x1x1x8_1_4 x)

theorem spread_apply (x : FVec Ideal S8192x8 .f32) (b : Fin 2) (i : Fin 8192) (h : Fin 8) (c : Fin 2) (k : Fin 8) : spread x (ix5 b i h c k) = x (ix2 i k) := by
  pointwise [spread]

/-- The rotation of every head. -/
def rope (y : FVec Ideal S2x8192x8x2x64 .f32) : FVec Ideal S2x8192x8x2x64 .f32 :=
  concatenate S2x8192x8x2x64 4
    [⟨S2x8192x8x2x8, subf (mulf (extractStridedSlice S2x8192x8x2x8 ![0, 0, 0, 0, 0] y slices_S2x8192x8x2x64_S2x8192x8x2x8_0_0_0_0_0) (spread (Host.cos angles))) (mulf (extractStridedSlice S2x8192x8x2x8 ![0, 0, 0, 0, 8] y slices_S2x8192x8x2x64_S2x8192x8x2x8_0_0_0_0_8) (spread (Host.sin angles)))⟩,
     ⟨S2x8192x8x2x8, addf (mulf (extractStridedSlice S2x8192x8x2x8 ![0, 0, 0, 0, 8] y slices_S2x8192x8x2x64_S2x8192x8x2x8_0_0_0_0_8) (spread (Host.cos angles))) (mulf (extractStridedSlice S2x8192x8x2x8 ![0, 0, 0, 0, 0] y slices_S2x8192x8x2x64_S2x8192x8x2x8_0_0_0_0_0) (spread (Host.sin angles)))⟩,
     ⟨S2x8192x8x2x48, extractStridedSlice S2x8192x8x2x48 ![0, 0, 0, 0, 16] y slices_S2x8192x8x2x64_S2x8192x8x2x48_0_0_0_0_16⟩]
    concatenates_S2x8192x8x2x8_S2x8192x8x2x8_S2x8192x8x2x48_S2x8192x8x2x64_d4

theorem cos_apply (i : Fin 8192) (k : Fin 8) : Host.cos angles (ix2 i k) = Ideal.cos (angle i k) := congrArg Ideal.cos (angles_apply i k)
theorem sin_apply (i : Fin 8192) (k : Fin 8) : Host.sin angles (ix2 i k) = Ideal.sin (angle i k) := congrArg Ideal.sin (angles_apply i k)

theorem rope_apply (y : FVec Ideal S2x8192x8x2x64 .f32) (b : Fin 2) (i : Fin 8192) (h : Fin 8) (c : Fin 2) (d : Fin 64) :
    rope y (ix5 b i h c d) = ropeAt (fun k => y (ix5 b i h c k)) (cosSin i) d := by
  have g : ∀ a e : Fin 64, a.val = e.val → y (ix5 b i h c a) = y (ix5 b i h c e) := fun a e p => by rw [Fin.ext p]
  pointwise [rope]
  simp only [spread_apply]
  unfold ropeAt
  by_cases h1 : d.val < 8
  · refine (dif_pos h1).trans (Eq.trans ?_ (dif_pos h1).symm)
    rw [cos_apply, sin_apply, g ⟨8 + d.val, by omega⟩ ⟨d.val + 8, by omega⟩ (Nat.add_comm _ _), cosSin_low _ _ h1, cosSin_high _ _ (Nat.le_add_left 8 d.val)]
    exact congrArg (fun a => _ - _ * Ideal.sin (angle i a)) (Fin.ext (Nat.add_sub_cancel d.val 8).symm)
  · by_cases h2 : d.val < 16
    · have h3 : d.val - 8 < 8 := by omega
      refine ((dif_neg h1).trans (dif_pos h3)).trans (Eq.trans ?_ ((dif_neg h1).trans (dif_pos h2)).symm)
      rw [cos_apply, sin_apply, g ⟨8 + (d.val - 8), by omega⟩ d (Nat.add_sub_cancel' (Nat.le_of_not_lt h1)), cosSin_low _ _ h3, cosSin_high _ _ (Nat.le_of_not_lt h1)]
    · have h3 : ¬ d.val - 8 < 8 := by omega
      refine ((dif_neg h1).trans (dif_neg h3)).trans (Eq.trans ?_ ((dif_neg h1).trans (dif_neg h2)).symm)
      have p : 16 + (d.val - 8 - 8) = d.val := by omega
      exact g _ _ p

/-- The rotated keys. -/
def keys (x : FVec Ideal S2x8192x1024 .f32) (mod : FVec Ideal S2x2048 .f32) (g : FVec Ideal S1024 .f32) (w : FVec Ideal S1024x2048 .f32) : FVec Ideal S2x8192x1024 .f32 :=
  shapeCast S2x8192x1024 (rope (shapeCast S2x8192x8x2x64 (extractStridedSlice S2x8192x1024 ![0, 0, 0] (both x mod g w) slices_S2x8192x2048_S2x8192x1024_0_0_0) shapeCasts_S2x8192x1024_S2x8192x8x2x64)) shapeCasts_S2x8192x8x2x64_S2x8192x1024

theorem keys_apply (x : FVec Ideal S2x8192x1024 .f32) (mod : FVec Ideal S2x2048 .f32) (g : FVec Ideal S1024 .f32) (w : FVec Ideal S1024x2048 .f32) (b : Fin 2) (i : Fin 8192) (j : Fin 1024) :
    keys x mod g w (ix3 b i j) = keyAt x mod g w b i j := by
  obtain ⟨h, c, d, rfl⟩ := exists_spot j
  rw [keyAt_spot]
  have e : ∀ (y : FVec Ideal S2x8192x8x2x64 .f32) (h' : Fin 8) (c' : Fin 2) (d' : Fin 64), h'.val = h.val → c'.val = c.val → d'.val = d.val → rope y (ix5 b i h' c' d') = rope y (ix5 b i h c d) :=
    fun y h' c' d' p q r => by rw [Fin.ext p, Fin.ext q, Fin.ext r]
  pointwise [keys]
  refine (e _ _ _ _ (by show (128 * h.val + (64 * c.val + d.val)) / 128 = h.val; omega) (by show (128 * h.val + (64 * c.val + d.val)) / 64 % 2 = c.val; omega)
    (by show (128 * h.val + (64 * c.val + d.val)) % 64 = d.val; omega)).trans ((rope_apply _ b i h c d).trans ?_)
  refine congrArg (fun f => ropeAt f (cosSin i) d) (funext fun k => ?_)
  pointwise []
  rw [both_apply]
  refine congrArg (kvAt x mod g w b i) (Fin.ext ?_)
  show h.val * 128 + c.val * 64 + k.val = 128 * h.val + (64 * c.val + k.val)
  omega

theorem res_eq (m : (ℓ : Loc nD τ sig) → Buf (Elt Ideal) ℓ) (c : Dev nD) :
    Cert.KeyValueRefIdeal.Value.res_out0 m c
      = keys (m ((c.tc : Thread nD τ).loc main_arg0)) (m ((c.tc : Thread nD τ).loc main_arg1)) (m ((c.tc : Thread nD τ).loc main_arg2)) (m ((c.tc : Thread nD τ).loc main_arg3)) := rfl

theorem res_half_eq (m : (ℓ : Loc nD τ sig) → Buf (Elt Ideal) ℓ) (c : Dev nD) :
    Cert.KeyValueRefIdeal.Value.res_out2 m c
      = keys (m ((c.tc : Thread nD τ).loc main_arg0)) (m ((c.tc : Thread nD τ).loc main_arg1)) (m ((c.tc : Thread nD τ).loc main_arg2)) (m ((c.tc : Thread nD τ).loc main_arg3)) := rfl

end Cert.KeyValueRefIdeal.Kv

end
-- ==== Proof.QueryMath.lean ====
module

public import proofs.«01_k».proof.Proof.KvMath

/-!
The rotated query at an index.
-/

@[expose] public section

set_option maxRecDepth 16384

noncomputable section

namespace Cert.Query

open Idealize.ShloMosaic
open Cert.Kv

abbrev SX : Shape := ⟨3, ![2, 8192, 1024]⟩
abbrev SM : Shape := ⟨2, ![2, 9216]⟩
abbrev SG : Shape := ⟨3, ![2, 6, 1024]⟩
abbrev SW : Shape := ⟨3, ![1, 1024, 1024]⟩

/-- The row of the projection. -/
def qRow (x s c g : Fin 1024 → EReal) (w : Fin 1024 → Fin 1024 → EReal) (f : Fin 1024) : EReal := ∑ e, Cert.Ffn.modRow x s c g e * w e f

/-- The projection's number `f` of row `i`: the shift is the modulation's fourth chunk and the scale its fifth, the gain the second
    layer's third. -/
def qAt (x : SX.Idx → EReal) (mod : SM.Idx → EReal) (g : SG.Idx → EReal) (w : SW.Idx → EReal) (b : Fin 2) (i : Fin 8192) : Fin 1024 → EReal :=
  qRow (fun e => x (ix3 b i e)) (fun e => mod (ix2 b ⟨3072 + e, by omega⟩)) (fun e => mod (ix2 b ⟨4096 + e, by omega⟩)) (fun e => g (ix3 (1 : Fin 2) (2 : Fin 6) e))
    (fun e f => w (ix3 (0 : Fin 1) e f))

/-- The rotated query's number `j` of row `i`. -/
def queryAt (x : SX.Idx → EReal) (mod : SM.Idx → EReal) (g : SG.Idx → EReal) (w : SW.Idx → EReal) (b : Fin 2) (i : Fin 8192) (j : Fin 1024) : EReal :=
  ropeAt (fun k => qAt x mod g w b i ⟨64 * (j.val / 64) + k, by omega⟩) (cosSin i) ⟨j.val % 64, by omega⟩

theorem queryAt_spot (x : SX.Idx → EReal) (mod : SM.Idx → EReal) (g : SG.Idx → EReal) (w : SW.Idx → EReal) (b : Fin 2) (i : Fin 8192) (h : Fin 8) (c : Fin 2) (d : Fin 64) :
    queryAt x mod g w b i (spot h c d) = ropeAt (fun k => qAt x mod g w b i (spot h c k)) (cosSin i) d := by
  have e : ∀ k : Fin 64, (⟨64 * ((spot h c d).val / 64) + k, by omega⟩ : Fin 1024) = spot h c k := fun k => Fin.ext (by simp only [spot]; omega)
  have e' : (⟨(spot h c d).val % 64, by omega⟩ : Fin 64) = d := Fin.ext (by simp only [spot]; omega)
  unfold queryAt
  rw [e']
  simp only [e]

end Cert.Query

end
-- ==== Proof.QueryPay.lean ====
module

public import proofs.«01_k».proof.Proof.Gen.QueryIdeal.Value
public import proofs.«01_k».proof.Proof.KvValue
public import proofs.«01_k».proof.Proof.QueryMath

/-!
What one grid point of the query projection computes, row by row: the rotation is the keys' own.
-/

@[expose] public section

set_option maxRecDepth 16384

noncomputable section

namespace Cert.QueryIdeal.Q

open Cert.QueryIdeal Cert.QueryIdeal.Gen
open Idealize.ShloMosaic
open Cert.Ffn Cert.Kv Cert.Query

theorem pay2_apply (x : Vec Ideal S1x512x1024 .f32) (n : Vec Ideal S1x1024 .f32) (c s : Vec Ideal S1x1x1024 .f32) (w : Vec Ideal S1024x1024 .bf16) (r : Fin 512) (f : Fin 1024) :
    k0_pay2 (F := Ideal) x n c s w (ix2 r f)
      = qRow (fun e => x (ix3 0 r e)) (fun e => s (ix3 0 0 e)) (fun e => c (ix3 0 0 e)) (fun e => n (ix2 0 e)) (fun e f => w (ix2 e f)) f := by
  pointwise [k0_pay2]
  rfl

theorem ld_r0 (x : Vec Ideal S1x512x1024 .f32) : View.ld x r0_0 = x := View.ld_unit_zero (by decide) _ x
theorem ld_r1 (x : Vec Ideal S1x1024 .f32) : View.ld x r0_1 = x := View.ld_unit_zero (by decide) _ x
theorem ld_r2 (x : Vec Ideal S1x1x1024 .f32) : View.ld x r0_2 = x := View.ld_unit_zero (by decide) _ x
theorem ld_r3 (x : Vec Ideal S1024x1024 .bf16) : View.ld x r0_3 = x := View.ld_unit_zero (by decide) _ x
theorem ld_r4 (x : Vec Ideal S512x16 .f32) : View.ld x r0_4 = x := View.ld_unit_zero (by decide) _ x

variable (x0 : Vec Ideal S1x512x1024 .f32) (x1 x2 : Vec Ideal S1x1x1024 .f32) (x3 : Vec Ideal S1x1024 .f32) (x4 : Vec Ideal S1024x1024 .bf16) (x5 : Vec Ideal S512x16 .f32)

/-- The projection's row of one grid point. -/
abbrev blockRow (r : Fin 512) : Fin 1024 → EReal :=
  qRow (fun e => x0 (ix3 0 r e)) (fun e => x1 (ix3 0 0 e)) (fun e => x2 (ix3 0 0 e)) (fun e => x3 (ix2 0 e)) (fun e f => x4 (ix2 e f))

theorem pay3_eq (x : Vec Ideal S512x16 .f32) : k0_pay3 (F := Ideal) x = x := by
  funext j
  pointwise [k0_pay3]

/-- The queries' block from the blocks of one grid point. -/
theorem out6_apply (r : Fin 512) (hs : ∀ k, ∃ a : ℝ, x5 (ix2 r k) = a) (h : Fin 8) (c : Fin 2) (d : Fin 64) :
    out0_6 (F := Ideal) x0 x1 x2 x3 x4 x5 (ix3 (0 : Fin 1) r (spot h c d)) = ropeAt (fun k => blockRow x0 x1 x2 x3 x4 r (spot h c k)) (fun k => x5 (ix2 r k)) d := by
  have hy : ∀ f : Fin 1024, k0_pay28 (F := Ideal) x0 x1 x2 x3 x4 x5 (ix2 r f) = blockRow x0 x1 x2 x3 x4 r f := by
    intro f
    unfold k0_pay28
    rw [ld_r0 x0, ld_r1 x3, ld_r2 x2, ld_r2 x1, ld_r3 x4, pay2_apply]
  have h5 : k0_pay29 (F := Ideal) x0 x1 x2 x3 x4 x5 = x5 := by
    unfold k0_pay29
    rw [ld_r4 x5]
    exact pay3_eq x5
  unfold out0_6
  rw [View.canon_unit_zero (by decide)]
  refine (show _ = Cert.KeyValueIdeal.Kv.rotated (k0_pay28 x0 x1 x2 x3 x4 x5) (k0_pay29 x0 x1 x2 x3 x4 x5) _ from rfl).trans ?_
  rw [h5]
  refine (Cert.KeyValueIdeal.Kv.rotated_apply _ _ r hs h c d).trans ?_
  exact congrArg (fun f => ropeAt f (fun k => x5 (ix2 r k)) d) (funext fun k => hy _)

end Cert.QueryIdeal.Q

end
-- ==== Proof.QueryValue.lean ====
module

public import proofs.«01_k».proof.Proof.QueryPay

/-!
The result array of the query projection: what the host operations hand the kernel, which block of it each grid point reads, and the
result's blocks put together.
-/

@[expose] public section

set_option maxRecDepth 16384

noncomputable section

namespace Cert.QueryIdeal.Q

open Cert.QueryIdeal Cert.QueryIdeal.Gen
open Idealize.ShloMosaic Idealize.ShloMosaic.TcCoe Idealize.SL.Sem
open Idealize.ShloMosaic.Pipeline (Dat Window)
open Cert.Ffn Cert.Kv Cert.Query

variable (m : (ℓ : Loc nD τ sig) → Buf (Elt Ideal) ℓ) (ρ : Dev nD → PrngReg)

/-! ### What the kernel is handed -/

/-- A chunk of the modulation, the layer's gain, and the projection's matrix. -/
def shift (x : FVec Ideal S2x9216 .f32) : FVec Ideal S2x1x1024 .f32 := broadcastInDim S2x1x1024 ![0, 2] bcast_S2x1024_S2x1x1024_0_2 (extractStridedSlice S2x1024 ![0, 3072] x slices_S2x9216_S2x1024_0_3072)
def scale (x : FVec Ideal S2x9216 .f32) : FVec Ideal S2x1x1024 .f32 := broadcastInDim S2x1x1024 ![0, 2] bcast_S2x1024_S2x1x1024_0_2 (extractStridedSlice S2x1024 ![0, 4096] x slices_S2x9216_S2x1024_0_4096)
def gain (x : FVec Ideal S2x6x1024 .f32) : FVec Ideal S1x1024 .f32 :=
  shapeCast S1x1024 (shapeCast S1024 (extractStridedSlice S1x1024 ![2, 0] (shapeCast S6x1024 (extractStridedSlice S1x6x1024 ![1, 0, 0] x slices_S2x6x1024_S1x6x1024_1_0_0) shapeCasts_S1x6x1024_S6x1024) slices_S6x1024_S1x1024_2_0) shapeCasts_S1x1024_S1024) shapeCasts_S1024_S1x1024
def matrix (x : FVec Ideal S1x1024x1024 .f32) : FVec Ideal S1024x1024 .bf16 := truncf (F := Ideal) .bf16 (shapeCast S1024x1024 x shapeCasts_S1x1024x1024_S1024x1024) bitsLt_bf16_f32

theorem shift_apply (x : FVec Ideal S2x9216 .f32) (b : Fin 2) (e : Fin 1024) : shift x (ix3 b (0 : Fin 1) e) = x (ix2 b ⟨3072 + e, by omega⟩) := by
  pointwise [shift]
theorem scale_apply (x : FVec Ideal S2x9216 .f32) (b : Fin 2) (e : Fin 1024) : scale x (ix3 b (0 : Fin 1) e) = x (ix2 b ⟨4096 + e, by omega⟩) := by
  pointwise [scale]
theorem gain_apply (x : FVec Ideal S2x6x1024 .f32) (e : Fin 1024) : gain x (ix2 (0 : Fin 1) e) = x (ix3 (1 : Fin 2) (2 : Fin 6) e) := by
  pointwise [gain]
theorem matrix_apply (x : FVec Ideal S1x1024x1024 .f32) (e f : Fin 1024) : matrix x (ix2 e f) = x (ix3 (0 : Fin 1) e f) := by
  pointwise [matrix]

theorem V_main_arg0 (c : Dev nD) : V m c main_arg0 = m ((c : Thread nD τ).loc main_arg0) := by
  unfold V; after_reads_simp <;> rfl
theorem V_main_v8 (c : Dev nD) : V m c main_v8 = shift (m ((c : Thread nD τ).loc main_arg1)) := by
  unfold V; after_reads_simp <;> rfl
theorem V_main_v10 (c : Dev nD) : V m c main_v10 = scale (m ((c : Thread nD τ).loc main_arg1)) := by
  unfold V; after_reads_simp <;> rfl
theorem V_main_v23 (c : Dev nD) : V m c main_v23 = gain (m ((c : Thread nD τ).loc main_arg2)) := by
  unfold V; after_reads_simp <;> rfl
theorem V_main_v25 (c : Dev nD) : V m c main_v25 = matrix (m ((c : Thread nD τ).loc main_arg3)) := by
  unfold V; after_reads_simp <;> rfl
theorem V_main_v42 (c : Dev nD) : V m c main_v42 = Cert.KeyValueIdeal.Kv.table := by
  unfold V; after_reads_simp <;> rfl

/-! ### Which block a grid point reads -/

/-- The batch entry and the row block of a grid point. -/
abbrev bAt (t : Fin cfg0.N) : Fin 2 := ⟨(grid0.coords t 0).val, (grid0.coords t 0).isLt⟩
theorem row_lt (t : Fin cfg0.N) (r : Fin 512) : 512 * (grid0.coords t 1).val + r.val < 8192 := by
  have h : (grid0.coords t 1).val < 16 := (grid0.coords t 1).isLt
  omega
abbrev rowAt (t : Fin cfg0.N) (r : Fin 512) : Fin 8192 := ⟨512 * (grid0.coords t 1).val + r.val, row_lt t r⟩

theorem index0 : ∀ t : Fin grid0.N, cc0_transform_0 (grid0.coords t) = ![(grid0.coords t 0).val, (grid0.coords t 1).val, 0] := by decide +kernel
theorem emb0 (t : Fin cfg0.N) (r : Fin 512) (e : Fin 1024) : (win0_0.rect t).emb (ix3 (0 : Fin 1) r e) = ix3 (bAt t) (rowAt t r) e := by
  have h := index0 t
  funext a
  refine Fin.ext ((win0_0.rect_emb_val t _ a).trans ?_)
  show cc0_transform_0 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem blk0 (c : Dev nD) (t : Fin cfg0.N) (r : Fin 512) (e : Fin 1024) : iblk m c 0 t (ix3 (0 : Fin 1) r e) = m ((c : Thread nD τ).loc main_arg0) (ix3 (bAt t) (rowAt t r) e) := by
  refine Eq.trans (show _ = V m c main_arg0 ((win0_0.rect t).emb (ix3 (0 : Fin 1) r e)) from rfl) ?_
  rw [emb0, V_main_arg0]

theorem index1 : ∀ t : Fin grid0.N, cc0_transform_1 (grid0.coords t) = ![(grid0.coords t 0).val, 0, 0] := by decide +kernel
theorem emb1 (t : Fin cfg0.N) (e : Fin 1024) : (win0_1.rect t).emb (ix3 (0 : Fin 1) (0 : Fin 1) e) = ix3 (bAt t) (0 : Fin 1) e := by
  have h := index1 t
  funext a
  refine Fin.ext ((win0_1.rect_emb_val t _ a).trans ?_)
  show cc0_transform_1 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk1 (c : Dev nD) (t : Fin cfg0.N) (e : Fin 1024) : iblk m c 1 t (ix3 (0 : Fin 1) (0 : Fin 1) e) = m ((c : Thread nD τ).loc main_arg1) (ix2 (bAt t) ⟨3072 + e, by omega⟩) := by
  refine Eq.trans (show _ = V m c main_v8 ((win0_1.rect t).emb (ix3 (0 : Fin 1) (0 : Fin 1) e)) from rfl) ?_
  rw [emb1, V_main_v8]
  exact shift_apply _ _ e

theorem index2 : ∀ t : Fin grid0.N, cc0_transform_2 (grid0.coords t) = ![(grid0.coords t 0).val, 0, 0] := by decide +kernel
theorem emb2 (t : Fin cfg0.N) (e : Fin 1024) : (win0_2.rect t).emb (ix3 (0 : Fin 1) (0 : Fin 1) e) = ix3 (bAt t) (0 : Fin 1) e := by
  have h := index2 t
  funext a
  refine Fin.ext ((win0_2.rect_emb_val t _ a).trans ?_)
  show cc0_transform_2 (grid0.coords t) a * S1x1x1024.size a + _ = _
  rw [h]
  match a with
  | 0 => show (grid0.coords t 0).val * 1 + 0 = (grid0.coords t 0).val; omega
  | 1 => rfl
  | 2 => show 0 * 1024 + e.val = e.val; omega
theorem blk2 (c : Dev nD) (t : Fin cfg0.N) (e : Fin 1024) : iblk m c 2 t (ix3 (0 : Fin 1) (0 : Fin 1) e) = m ((c : Thread nD τ).loc main_arg1) (ix2 (bAt t) ⟨4096 + e, by omega⟩) := by
  refine Eq.trans (show _ = V m c main_v10 ((win0_2.rect t).emb (ix3 (0 : Fin 1) (0 : Fin 1) e)) from rfl) ?_
  rw [emb2, V_main_v10]
  exact scale_apply _ _ e

theorem index3 : ∀ t : Fin grid0.N, cc0_transform_3 (grid0.coords t) = ![0, 0] := by decide +kernel
theorem emb3 (t : Fin cfg0.N) (e : Fin 1024) : (win0_3.rect t).emb (ix2 (0 : Fin 1) e) = ix2 (0 : Fin 1) e := by
  have h := index3 t
  funext a
  refine Fin.ext ((win0_3.rect_emb_val t _ a).trans ?_)
  show cc0_transform_3 (grid0.coords t) a * S1x1024.size a + _ = _
  rw [h]
  match a with
  | 0 => rfl
  | 1 => show 0 * 1024 + e.val = e.val; omega
theorem blk3 (c : Dev nD) (t : Fin cfg0.N) (e : Fin 1024) : iblk m c 3 t (ix2 (0 : Fin 1) e) = m ((c : Thread nD τ).loc main_arg2) (ix3 (1 : Fin 2) (2 : Fin 6) e) := by
  refine Eq.trans (show _ = V m c main_v23 ((win0_3.rect t).emb (ix2 (0 : Fin 1) e)) from rfl) ?_
  rw [emb3, V_main_v23]
  exact gain_apply _ e

theorem index4 : ∀ t : Fin grid0.N, cc0_transform_4 (grid0.coords t) = ![0, 0] := by decide +kernel
theorem emb4 (t : Fin cfg0.N) (e : Fin 1024) (f : Fin 1024) : (win0_4.rect t).emb (ix2 e f) = ix2 e f := by
  have h := index4 t
  funext a
  refine Fin.ext ((win0_4.rect_emb_val t _ a).trans ?_)
  show cc0_transform_4 (grid0.coords t) a * S1024x1024.size a + _ = _
  rw [h]
  match a with
  | 0 => show 0 * 1024 + e.val = e.val; omega
  | 1 => show 0 * 1024 + f.val = f.val; omega
theorem blk4 (c : Dev nD) (t : Fin cfg0.N) (e f : Fin 1024) : iblk m c 4 t (ix2 e f) = m ((c : Thread nD τ).loc main_arg3) (ix3 (0 : Fin 1) e f) := by
  refine Eq.trans (show _ = V m c main_v25 ((win0_4.rect t).emb (ix2 e f)) from rfl) ?_
  rw [emb4, V_main_v25]
  exact matrix_apply _ e f

theorem index5 : ∀ t : Fin grid0.N, cc0_transform_5 (grid0.coords t) = ![(grid0.coords t 1).val, 0] := by decide +kernel
theorem emb5 (t : Fin cfg0.N) (r : Fin 512) (k : Fin 16) : (win0_5.rect t).emb (ix2 r k) = ix2 (rowAt t r) k := by
  have h := index5 t
  funext a
  refine Fin.ext ((win0_5.rect_emb_val t _ a).trans ?_)
  show cc0_transform_5 (grid0.coords t) a * S512x16.size a + _ = _
  rw [h]
  match a with
  | 0 => show (grid0.coords t 1).val * 512 + r.val = 512 * (grid0.coords t 1).val + r.val; omega
  | 1 => show 0 * 16 + k.val = k.val; omega
theorem blk5 (c : Dev nD) (t : Fin cfg0.N) (r : Fin 512) (k : Fin 16) : iblk m c 5 t (ix2 r k) = cosSin (rowAt t r) k := by
  refine Eq.trans (show _ = V m c main_v42 ((win0_5.rect t).emb (ix2 r k)) from rfl) ?_
  rw [emb5, V_main_v42, Cert.KeyValueIdeal.Kv.table_apply]

/-! ### The result -/

theorem block_eq (c : Dev nD) (t : Fin cfg0.N) (r : Fin 512) :
    blockRow (iblk m c 0 t) (iblk m c 1 t) (iblk m c 2 t) (iblk m c 3 t) (iblk m c 4 t) r
      = qAt (m ((c : Thread nD τ).loc main_arg0)) (m ((c : Thread nD τ).loc main_arg1)) (m ((c : Thread nD τ).loc main_arg2)) (m ((c : Thread nD τ).loc main_arg3)) (bAt t) (rowAt t r) := by
  unfold blockRow
  simp only [blk0, blk1, blk2, blk3, blk4]
  rfl

/-- The queries' array. -/
abbrev queries (c : Dev nD) : S2x8192x1024.Idx → EReal := fun y =>
  queryAt (m ((c : Thread nD τ).loc main_arg0)) (m ((c : Thread nD τ).loc main_arg1)) (m ((c : Thread nD τ).loc main_arg2)) (m ((c : Thread nD τ).loc main_arg3)) (y 0) (y 1) (y 2)

theorem query_eq (c : Dev nD) (t : Fin cfg0.N) (r : Fin 512) (j : Fin 1024) :
    out0_6 (F := Ideal) (iblk m c 0 t) (iblk m c 1 t) (iblk m c 2 t) (iblk m c 3 t) (iblk m c 4 t) (iblk m c 5 t) (ix3 (0 : Fin 1) r j) = queries m c (ix3 (bAt t) (rowAt t r) j) := by
  obtain ⟨h, k, d, rfl⟩ := exists_spot j
  refine (out6_apply _ _ _ _ _ _ r (fun k => by rw [blk5]; exact cosSin_real _ _) h k d).trans ?_
  rw [block_eq]
  simp only [blk5]
  exact (queryAt_spot _ _ _ _ _ _ h k d).symm

theorem at_row (y : S1x512x1024.Idx) : y = ix3 (0 : Fin 1) (y 1) (y 2) := by
  funext a
  match a with
  | 0 => exact Subsingleton.elim (α := Fin 1) _ _
  | 1 => rfl
  | 2 => rfl

theorem index6 : ∀ t : Fin grid0.N, cc0_transform_6 (grid0.coords t) = ![(grid0.coords t 0).val, (grid0.coords t 1).val, 0] := by decide +kernel
theorem emb6 (t : Fin cfg0.N) (r : Fin 512) (e : Fin 1024) : (win0_6.rect t).emb (ix3 (0 : Fin 1) r e) = ix3 (bAt t) (rowAt t r) e := by
  have h := index6 t
  funext a
  refine Fin.ext ((win0_6.rect_emb_val t _ a).trans ?_)
  show cc0_transform_6 (grid0.coords t) a * S1x512x1024.size a + _ = _
  rw [h]
  match a with
  | 0 => show (grid0.coords t 0).val * 1 + 0 = (grid0.coords t 0).val; omega
  | 1 => show (grid0.coords t 1).val * 512 + r.val = 512 * (grid0.coords t 1).val + r.val; omega
  | 2 => show 0 * 1024 + e.val = e.val; omega
theorem put6 (c : Dev nD) (t : Fin cfg0.N) (r : Fin 512) (j : Fin 1024) :
    out0_6 (F := Ideal) (iblk m c 0 t) (iblk m c 1 t) (iblk m c 2 t) (iblk m c 3 t) (iblk m c 4 t) (iblk m c 5 t) (ix3 (0 : Fin 1) r j) = queries m c ((win0_6.rect t).emb (ix3 (0 : Fin 1) r j)) := by
  rw [emb6]
  exact query_eq m c t r j
theorem flushed6 (c : Dev nD) (t : Fin cfg0.N) : (dats m 0 c).flushed 6 t = (win0_6.blk t).view.read (Elt Ideal) (queries m c) := by
  show (cfg0.win 6).cut (grid0.coords t) ((dats m 0 c).after 6 t) = _
  rw [after0_6]
  funext y
  rw [at_row y]
  exact put6 m c t (y 1) (y 2)
theorem final6 (c : Dev nD) : (dats m 0 c).arrAt 6 cfg0.N = queries m c :=
  Dat.arrAt_eq_of_cover (dats m 0 c) 6 (queries m c) (fun t _ => flushed6 m c t)
    (fun i => Window.Covers.cover (w := win0_6) (by decide +kernel) (Memref.isWhole_whole _) i)

end Cert.QueryIdeal.Q

end
-- ==== Proof.QueryRefVals.lean ====
module

public import proofs.«01_k».proof.Proof.Gen.QueryRefIdeal.Run
public import proofs.«01_k».proof.Proof.KvRefVals
public import proofs.«01_k».proof.Proof.QueryMath

/-!
What the reference of the query projection computes, at an index: the normalization and the rotation are those of the keys' reference.
-/

@[expose] public section

set_option maxRecDepth 16384

noncomputable section

namespace Cert.QueryRefIdeal.Q

open Cert.QueryRefIdeal Cert.QueryRefIdeal.Gen
open Idealize.ShloMosaic Idealize.ShloMosaic.TcCoe Idealize.SL.Sem
open Cert.Ffn Cert.Kv Cert.Query
open Cert.KeyValueRefIdeal.Kv (rms rms_apply rope rope_apply)

/-- The second layer's third gain. -/
def gain (g : FVec Ideal S2x6x1024 .f32) : FVec Ideal S1024 .f32 :=
  shapeCast S1024 (extractStridedSlice S1x1024 ![2, 0] (shapeCast S6x1024 (extractStridedSlice S1x6x1024 ![1, 0, 0] g slices_S2x6x1024_S1x6x1024_1_0_0) shapeCasts_S1x6x1024_S6x1024) slices_S6x1024_S1x1024_2_0) shapeCasts_S1x1024_S1024

theorem gain_apply (g : FVec Ideal S2x6x1024 .f32) (e : Fin 1024) : gain g (ix1 e) = g (ix3 (1 : Fin 2) (2 : Fin 6) e) := by
  pointwise [gain]

/-- The rows that enter the projection. -/
def modded (x : FVec Ideal S2x8192x1024 .f32) (mod : FVec Ideal S2x9216 .f32) (g : FVec Ideal S2x6x1024 .f32) : FVec Ideal S2x8192x1024 .f32 :=
  addf (mulf (rms x (gain g)) (broadcastInDim S2x8192x1024 ![0, 1, 2] bcast_S2x1x1024_S2x8192x1024_0_1_2
      (addf (broadcastInDim S2x1x1024 ![] bcast_S_S2x1x1024 (constant S_ .f32 0x3F800000#32)) (extractStridedSlice S2x1x1024 ![0, 0, 4096] (broadcastInDim S2x1x9216 ![0, 2] bcast_S2x9216_S2x1x9216_0_2 mod) slices_S2x1x9216_S2x1x1024_0_0_4096))))
    (broadcastInDim S2x8192x1024 ![0, 1, 2] bcast_S2x1x1024_S2x8192x1024_0_1_2 (extractStridedSlice S2x1x1024 ![0, 0, 3072] (broadcastInDim S2x1x9216 ![0, 2] bcast_S2x9216_S2x1x9216_0_2 mod) slices_S2x1x9216_S2x1x1024_0_0_3072))

theorem modded_apply (x : FVec Ideal S2x8192x1024 .f32) (mod : FVec Ideal S2x9216 .f32) (g : FVec Ideal S2x6x1024 .f32) (b : Fin 2) (i : Fin 8192) (e : Fin 1024) :
    modded x mod g (ix3 b i e)
      = modRow (fun e => x (ix3 b i e)) (fun e => mod (ix2 b ⟨3072 + e, by omega⟩)) (fun e => mod (ix2 b ⟨4096 + e, by omega⟩)) (fun e => g (ix3 (1 : Fin 2) (2 : Fin 6) e)) e := by
  pointwise [modded]
  rw [rms_apply]
  simp only [gain_apply]
  rfl

/-- The queries before the rotation. -/
def flat (x : FVec Ideal S2x8192x1024 .f32) (mod : FVec Ideal S2x9216 .f32) (g : FVec Ideal S2x6x1024 .f32) (w : FVec Ideal S1x1024x1024 .f32) : FVec Ideal S2x8192x1024 .f32 :=
  Host.dotGeneral dot_S2x8192x1024_S1024x1024_S2x8192x1024_2_0_01_1_n_n none (modded x mod g) (shapeCast S1024x1024 w shapeCasts_S1x1024x1024_S1024x1024)

theorem flat_apply (x : FVec Ideal S2x8192x1024 .f32) (mod : FVec Ideal S2x9216 .f32) (g : FVec Ideal S2x6x1024 .f32) (w : FVec Ideal S1x1024x1024 .f32) (b : Fin 2) (i : Fin 8192) (f : Fin 1024) :
    flat x mod g w (ix3 b i f) = qAt x mod g w b i f := by
  pointwise [flat]
  simp only [modded_apply]
  rfl

/-- The rotated queries. -/
def queries (x : FVec Ideal S2x8192x1024 .f32) (mod : FVec Ideal S2x9216 .f32) (g : FVec Ideal S2x6x1024 .f32) (w : FVec Ideal S1x1024x1024 .f32) : FVec Ideal S2x8192x1024 .f32 :=
  shapeCast S2x8192x1024 (rope (shapeCast S2x8192x8x2x64 (flat x mod g w) shapeCasts_S2x8192x1024_S2x8192x8x2x64)) shapeCasts_S2x8192x8x2x64_S2x8192x1024

theorem queries_apply (x : FVec Ideal S2x8192x1024 .f32) (mod : FVec Ideal S2x9216 .f32) (g : FVec Ideal S2x6x1024 .f32) (w : FVec Ideal S1x1024x1024 .f32) (b : Fin 2) (i : Fin 8192) (j : Fin 1024) :
    queries x mod g w (ix3 b i j) = queryAt x mod g w b i j := by
  obtain ⟨h, c, d, rfl⟩ := exists_spot j
  rw [queryAt_spot]
  have e : ∀ (y : FVec Ideal S2x8192x8x2x64 .f32) (h' : Fin 8) (c' : Fin 2) (d' : Fin 64), h'.val = h.val → c'.val = c.val → d'.val = d.val → rope y (ix5 b i h' c' d') = rope y (ix5 b i h c d) :=
    fun y h' c' d' p q r => by rw [Fin.ext p, Fin.ext q, Fin.ext r]
  pointwise [queries]
  refine (e _ _ _ _ (by show (128 * h.val + (64 * c.val + d.val)) / 128 = h.val; omega) (by show (128 * h.val + (64 * c.val + d.val)) / 64 % 2 = c.val; omega)
    (by show (128 * h.val + (64 * c.val + d.val)) % 64 = d.val; omega)).trans ((rope_apply _ b i h c d).trans ?_)
  refine congrArg (fun f => ropeAt f (cosSin i) d) (funext fun k => ?_)
  pointwise []
  rw [flat_apply]
  refine congrArg (qAt x mod g w b i) (Fin.ext ?_)
  show h.val * 128 + c.val * 64 + k.val = 128 * h.val + (64 * c.val + k.val)
  omega

theorem res_eq (m : (ℓ : Loc nD τ sig) → Buf (Elt Ideal) ℓ) (c : Dev nD) :
    Cert.QueryRefIdeal.Value.res_out0 m c
      = queries (m ((c.tc : Thread nD τ).loc main_arg0)) (m ((c.tc : Thread nD τ).loc main_arg1)) (m ((c.tc : Thread nD τ).loc main_arg2)) (m ((c.tc : Thread nD τ).loc main_arg3)) := rfl

end Cert.QueryRefIdeal.Q

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Frame
public import proofs.«01_k».proof.Proof.FrameIdeal
public import proofs.«01_k».proof.Proof.Reference
public import proofs.«01_k».proof.Proof.ArrayValue
public import proofs.«01_k».proof.Proof.Finite
public import Idealize.ShloMosaic.Lib.Claim
public import proofs.«01_k».proof.Proof.Gen.Mixed
public import proofs.«01_k».proof.Proof.Gen.Mixed.Frame
public import proofs.«01_k».proof.Proof.Gen.MixedIdeal
public import proofs.«01_k».proof.Proof.Gen.MixedIdeal.Value
public import proofs.«01_k».proof.Proof.Gen.MixedRefIdeal
public import proofs.«01_k».proof.Proof.Gen.MixedRefIdeal.Run
public import proofs.«01_k».proof.Proof.MixedValue
public import proofs.«01_k».proof.Proof.MixedRefVals
public import proofs.«01_k».proof.Proof.Gen.Plain
public import proofs.«01_k».proof.Proof.Gen.Plain.Frame
public import proofs.«01_k».proof.Proof.Gen.PlainIdeal
public import proofs.«01_k».proof.Proof.Gen.PlainIdeal.Value
public import proofs.«01_k».proof.Proof.Gen.PlainRefIdeal
public import proofs.«01_k».proof.Proof.Gen.PlainRefIdeal.Run
public import proofs.«01_k».proof.Proof.PlainValue
public import proofs.«01_k».proof.Proof.PlainRefVals
public import proofs.«01_k».proof.Proof.Gen.KeyValue
public import proofs.«01_k».proof.Proof.Gen.KeyValue.Frame
public import proofs.«01_k».proof.Proof.Gen.KeyValueIdeal
public import proofs.«01_k».proof.Proof.Gen.KeyValueIdeal.Value
public import proofs.«01_k».proof.Proof.Gen.KeyValueRefIdeal
public import proofs.«01_k».proof.Proof.Gen.KeyValueRefIdeal.Run
public import proofs.«01_k».proof.Proof.KvValue
public import proofs.«01_k».proof.Proof.KvRefVals
public import proofs.«01_k».proof.Proof.QueryValue
public import proofs.«01_k».proof.Proof.QueryRefVals
public import proofs.«01_k».proof.Proof.Gen.Query
public import proofs.«01_k».proof.Proof.Gen.Query.Frame
public import proofs.«01_k».proof.Proof.Gen.QueryIdeal
public import proofs.«01_k».proof.Proof.Gen.QueryIdeal.Value
public import proofs.«01_k».proof.Proof.Gen.QueryRefIdeal
public import proofs.«01_k».proof.Proof.Gen.QueryRefIdeal.Run
public import Idealize.ShloMosaic.Adequacy
public import Idealize.ShloMosaic.Init

/-! The certificate's claims, assembled from the runs of its programs. -/

@[expose] public section

noncomputable section

namespace Cert.Proof

open Idealize.ShloMosaic Idealize.SL.Sem

theorem frame_kernel : Cert.quiescent_Kernel := fun m g _ => Cert.Kernel.Att.frame m g
theorem frame_ideal : Cert.quiescent_KernelIdeal := fun m g _ => Cert.KernelIdeal.Att.frame m g
theorem frame_reference : Cert.quiescent_ReferenceIdeal := fun m g _ => Cert.ReferenceIdeal.Att.frame m g

/-- The two constants the ideal kernel names. -/
theorem preserves : Cert.preserves_Kernel_KernelIdeal :=
  ⟨IdealRules.named_const.statement Cert.KernelIdeal.κ "scale" .f32 0x3E38AA3B#32 ((8⁻¹ * (Real.log 2)⁻¹ : ℝ) : EReal) rfl,
    IdealRules.named_const.statement Cert.KernelIdeal.κ "mask" .f32 0xF149F2CA#32 ⊥ rfl⟩

/-- The precondition opened at the kernel's arguments. -/
theorem fin_args (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) : Cert.KernelIdeal.Att.Fin4 m c :=
  have := letI := Cert.Pre_finite.facts; Cert.Pre_finite.fn_reals _ _ _ _ _ (h c)
  ⟨this.1, this.2.1, this.2.2.1, this.2.2.2⟩

/-- The kernel and the reference end with the same result. -/
theorem algebraic : Cert.algebraic_KernelIdeal_ReferenceIdeal_pre_finite (hPre_finite := Cert.Pre_finite.facts) := by
  intro m g m' g' hpre hagree
  refine ⟨fun c => Cert.KernelIdeal.Att.wanted m c, ?_, ?_⟩
  · refine θ_run_mono (θ_run_and (Cert.KernelIdeal.Att.run_main m g) (Cert.KernelIdeal.Att.frame m g)) fun r h c => ⟨?_, h.2.1 c⟩
    exact ((h.1 c).1 5).trans (Cert.KernelIdeal.Att.final m c (fin_args m hpre c))
  · refine θ_run_mono (θ_run_and (Cert.ReferenceIdeal.Att.run m' g') (Cert.ReferenceIdeal.Att.frame m' g')) fun r h c => ⟨?_, h.2.1 c⟩
    refine ((h.1 c Cert.ReferenceIdeal.main_v65).trans (Cert.ReferenceIdeal.Att.result_eq _)).trans ?_
    obtain ⟨h0, h1, h2, h3, h4⟩ := hagree c
    show Cert.ReferenceIdeal.Att.result (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
    rw [h0, h1, h2, h3, h4]

/-! ### The call with the mixer -/

theorem frame_Mixed : Cert.quiescent_Mixed := fun m g _ => Cert.Mixed.Gen.frame (F := Bits) m g
theorem frame_MixedIdeal : Cert.quiescent_MixedIdeal := fun m g _ => Cert.MixedIdeal.Gen.frame (F := Ideal) m g
theorem frame_MixedRefIdeal : Cert.quiescent_MixedRefIdeal := fun m g _ =>
  θ_run_mono (Cert.MixedRefIdeal.Value.run (F := Ideal) m g) fun r h => ⟨fun c => (h c).2, sem_eq_zero_of_no_sems (by decide) r.2⟩

/-- The call with the mixer and its reference end with the same result. -/
theorem algebraic_Mixed : Cert.algebraic_MixedIdeal_MixedRefIdeal := by
  intro m g m' g' _ hagree
  refine ⟨fun c => Cert.MixedIdeal.Ffn.wanted m c, ?_, ?_⟩
  · exact θ_run_mono (Cert.MixedIdeal.Value.run_blocks m g) fun r h c => ⟨(h c).1.trans (Cert.MixedIdeal.Ffn.final m c), (h c).2⟩
  · refine θ_run_mono (Cert.MixedRefIdeal.Value.run m' g') fun r h c => ⟨((h c).1.trans (Cert.MixedRefIdeal.Ffn.res_eq m' c)).trans ?_, (h c).2⟩
    obtain ⟨h0, h1, h2, h3, h4, h5, h6⟩ := hagree c
    show Cert.MixedRefIdeal.Ffn.result (m' ((c.tc : Thread Cert.MixedRefIdeal.nD Cert.MixedRefIdeal.τ).loc Cert.MixedRefIdeal.main_arg0)) (m' ((c.tc : Thread Cert.MixedRefIdeal.nD Cert.MixedRefIdeal.τ).loc Cert.MixedRefIdeal.main_arg1)) (m' ((c.tc : Thread Cert.MixedRefIdeal.nD Cert.MixedRefIdeal.τ).loc Cert.MixedRefIdeal.main_arg2)) (m' ((c.tc : Thread Cert.MixedRefIdeal.nD Cert.MixedRefIdeal.τ).loc Cert.MixedRefIdeal.main_arg3)) (m' ((c.tc : Thread Cert.MixedRefIdeal.nD Cert.MixedRefIdeal.τ).loc Cert.MixedRefIdeal.main_arg4)) (m' ((c.tc : Thread Cert.MixedRefIdeal.nD Cert.MixedRefIdeal.τ).loc Cert.MixedRefIdeal.main_arg5)) (m' ((c.tc : Thread Cert.MixedRefIdeal.nD Cert.MixedRefIdeal.τ).loc Cert.MixedRefIdeal.main_arg6)) = _
    rw [h0, h1, h2, h3, h4, h5, h6]
    funext y
    have e : y = ix3 (y 0) (y 1) (y 2) := by
      funext a
      match a with
      | 0 => rfl
      | 1 => rfl
      | 2 => rfl
    rw [e]
    exact Cert.MixedRefIdeal.Ffn.result_apply _ _ _ _ _ _ _ (y 0) (y 1) (y 2)

/-! ### The call without the mixer -/

theorem frame_Plain : Cert.quiescent_Plain := fun m g _ => Cert.Plain.Gen.frame (F := Bits) m g
theorem frame_PlainIdeal : Cert.quiescent_PlainIdeal := fun m g _ => Cert.PlainIdeal.Gen.frame (F := Ideal) m g
theorem frame_PlainRefIdeal : Cert.quiescent_PlainRefIdeal := fun m g _ =>
  θ_run_mono (Cert.PlainRefIdeal.Value.run (F := Ideal) m g) fun r h => ⟨fun c => (h c).2, sem_eq_zero_of_no_sems (by decide) r.2⟩

/-- The call without the mixer and its reference end with the same result. -/
theorem algebraic_Plain : Cert.algebraic_PlainIdeal_PlainRefIdeal := by
  intro m g m' g' _ hagree
  refine ⟨fun c => Cert.PlainIdeal.Ffn.wanted m c, ?_, ?_⟩
  · exact θ_run_mono (Cert.PlainIdeal.Value.run_blocks m g) fun r h c => ⟨(h c).1.trans (Cert.PlainIdeal.Ffn.final m c), (h c).2⟩
  · refine θ_run_mono (Cert.PlainRefIdeal.Value.run m' g') fun r h c => ⟨((h c).1.trans (Cert.PlainRefIdeal.Ffn.res_eq m' c)).trans ?_, (h c).2⟩
    obtain ⟨h0, h1, h2, h3, h4⟩ := hagree c
    show Cert.PlainRefIdeal.Ffn.result (m' ((c.tc : Thread Cert.PlainRefIdeal.nD Cert.PlainRefIdeal.τ).loc Cert.PlainRefIdeal.main_arg0)) (m' ((c.tc : Thread Cert.PlainRefIdeal.nD Cert.PlainRefIdeal.τ).loc Cert.PlainRefIdeal.main_arg1)) (m' ((c.tc : Thread Cert.PlainRefIdeal.nD Cert.PlainRefIdeal.τ).loc Cert.PlainRefIdeal.main_arg2)) (m' ((c.tc : Thread Cert.PlainRefIdeal.nD Cert.PlainRefIdeal.τ).loc Cert.PlainRefIdeal.main_arg3)) (m' ((c.tc : Thread Cert.PlainRefIdeal.nD Cert.PlainRefIdeal.τ).loc Cert.PlainRefIdeal.main_arg4)) = _
    rw [h0, h1, h2, h3, h4]
    funext y
    have e : y = ix3 (y 0) (y 1) (y 2) := by
      funext a
      match a with
      | 0 => rfl
      | 1 => rfl
      | 2 => rfl
    rw [e]
    exact Cert.PlainRefIdeal.Ffn.result_apply _ _ _ _ _ (y 0) (y 1) (y 2)

/-! ### The key and value projection -/

theorem frame_KeyValue : Cert.quiescent_KeyValue := fun m g _ => Cert.KeyValue.Gen.frame (F := Bits) m g
theorem frame_KeyValueIdeal : Cert.quiescent_KeyValueIdeal := fun m g _ => Cert.KeyValueIdeal.Gen.frame (F := Ideal) m g
theorem frame_KeyValueRefIdeal : Cert.quiescent_KeyValueRefIdeal := fun m g _ =>
  θ_run_mono (Cert.KeyValueRefIdeal.Value.run (F := Ideal) m g) fun r h => ⟨fun c => (h c).2.2.2.2, sem_eq_zero_of_no_sems (by decide) r.2⟩

/-- An index of a result, by its coordinates. -/
theorem at_coords (y : (⟨3, ![2, 8192, 1024]⟩ : Shape).Idx) : y = ix3 (y 0) (y 1) (y 2) := by
  funext a
  match a with
  | 0 => rfl
  | 1 => rfl
  | 2 => rfl

/-- The projection's call and its reference end with the same four results. -/
theorem algebraic_KeyValue : Cert.algebraic_KeyValueIdeal_KeyValueRefIdeal := by
  intro m g m' g' _ hagree
  refine ⟨fun c => Cert.KeyValueIdeal.Kv.keys m c, fun c => Cert.KeyValueIdeal.Kv.values m c, fun c => Cert.KeyValueIdeal.Kv.keys m c, fun c => Cert.KeyValueIdeal.Kv.values m c, ?_, ?_⟩
  · exact θ_run_mono (Cert.KeyValueIdeal.Value.run_blocks m g) fun r h c =>
      ⟨(h c).1.trans (Cert.KeyValueIdeal.Kv.final6 m c), (h c).2.1.trans (Cert.KeyValueIdeal.Kv.final7 m c),
        (h c).2.2.1.trans (Cert.KeyValueIdeal.Kv.final8 m c), (h c).2.2.2.1.trans (Cert.KeyValueIdeal.Kv.final9 m c), (h c).2.2.2.2⟩
  · have k : ∀ c : Dev Cert.KeyValueRefIdeal.nD, Cert.KeyValueRefIdeal.Kv.keys (m' ((c.tc : Thread Cert.KeyValueRefIdeal.nD Cert.KeyValueRefIdeal.τ).loc Cert.KeyValueRefIdeal.main_arg0)) (m' ((c.tc : Thread Cert.KeyValueRefIdeal.nD Cert.KeyValueRefIdeal.τ).loc Cert.KeyValueRefIdeal.main_arg1)) (m' ((c.tc : Thread Cert.KeyValueRefIdeal.nD Cert.KeyValueRefIdeal.τ).loc Cert.KeyValueRefIdeal.main_arg2)) (m' ((c.tc : Thread Cert.KeyValueRefIdeal.nD Cert.KeyValueRefIdeal.τ).loc Cert.KeyValueRefIdeal.main_arg3)) = Cert.KeyValueIdeal.Kv.keys m c := by
      intro c
      obtain ⟨h0, h1, h2, h3⟩ := hagree c
      rw [h0, h1, h2, h3]
      funext y
      rw [at_coords y]
      exact Cert.KeyValueRefIdeal.Kv.keys_apply _ _ _ _ (y 0) (y 1) (y 2)
    have v : ∀ c : Dev Cert.KeyValueRefIdeal.nD, Cert.KeyValueRefIdeal.Kv.values (m' ((c.tc : Thread Cert.KeyValueRefIdeal.nD Cert.KeyValueRefIdeal.τ).loc Cert.KeyValueRefIdeal.main_arg0)) (m' ((c.tc : Thread Cert.KeyValueRefIdeal.nD Cert.KeyValueRefIdeal.τ).loc Cert.KeyValueRefIdeal.main_arg1)) (m' ((c.tc : Thread Cert.KeyValueRefIdeal.nD Cert.KeyValueRefIdeal.τ).loc Cert.KeyValueRefIdeal.main_arg2)) (m' ((c.tc : Thread Cert.KeyValueRefIdeal.nD Cert.KeyValueRefIdeal.τ).loc Cert.KeyValueRefIdeal.main_arg3)) = Cert.KeyValueIdeal.Kv.values m c := by
      intro c
      obtain ⟨h0, h1, h2, h3⟩ := hagree c
      rw [h0, h1, h2, h3]
      funext y
      rw [at_coords y]
      exact Cert.KeyValueRefIdeal.Kv.values_apply _ _ _ _ (y 0) (y 1) (y 2)
    exact θ_run_mono (Cert.KeyValueRefIdeal.Value.run m' g') fun r h c =>
      ⟨((h c).1.trans (Cert.KeyValueRefIdeal.Kv.res_eq m' c)).trans (k c), (h c).2.1.trans (v c),
        ((h c).2.2.1.trans (Cert.KeyValueRefIdeal.Kv.res_half_eq m' c)).trans (k c), (h c).2.2.2.1.trans (v c), (h c).2.2.2.2⟩

/-! ### The query projection -/

theorem frame_Query : Cert.quiescent_Query := fun m g _ => Cert.Query.Gen.frame (F := Bits) m g
theorem frame_QueryIdeal : Cert.quiescent_QueryIdeal := fun m g _ => Cert.QueryIdeal.Gen.frame (F := Ideal) m g
theorem frame_QueryRefIdeal : Cert.quiescent_QueryRefIdeal := fun m g _ =>
  θ_run_mono (Cert.QueryRefIdeal.Value.run (F := Ideal) m g) fun r h => ⟨fun c => (h c).2, sem_eq_zero_of_no_sems (by decide) r.2⟩

/-- The projection's call and its reference end with the same queries. -/
theorem algebraic_Query : Cert.algebraic_QueryIdeal_QueryRefIdeal := by
  intro m g m' g' _ hagree
  refine ⟨fun c => Cert.QueryIdeal.Q.queries m c, ?_, ?_⟩
  · exact θ_run_mono (Cert.QueryIdeal.Value.run_blocks m g) fun r h c => ⟨(h c).1.trans (Cert.QueryIdeal.Q.final6 m c), (h c).2⟩
  · refine θ_run_mono (Cert.QueryRefIdeal.Value.run m' g') fun r h c => ⟨((h c).1.trans (Cert.QueryRefIdeal.Q.res_eq m' c)).trans ?_, (h c).2⟩
    obtain ⟨h0, h1, h2, h3⟩ := hagree c
    show Cert.QueryRefIdeal.Q.queries (m' ((c.tc : Thread Cert.QueryRefIdeal.nD Cert.QueryRefIdeal.τ).loc Cert.QueryRefIdeal.main_arg0)) (m' ((c.tc : Thread Cert.QueryRefIdeal.nD Cert.QueryRefIdeal.τ).loc Cert.QueryRefIdeal.main_arg1)) (m' ((c.tc : Thread Cert.QueryRefIdeal.nD Cert.QueryRefIdeal.τ).loc Cert.QueryRefIdeal.main_arg2)) (m' ((c.tc : Thread Cert.QueryRefIdeal.nD Cert.QueryRefIdeal.τ).loc Cert.QueryRefIdeal.main_arg3)) = _
    rw [h0, h1, h2, h3]
    funext y
    rw [at_coords y]
    exact Cert.QueryRefIdeal.Q.queries_apply _ _ _ _ (y 0) (y 1) (y 2)

theorem claim : Cert.Claim :=
  ⟨Cert.Kernel.Gen.facts, Cert.KernelIdeal.Gen.facts, Cert.ReferenceIdeal.Gen.facts, Cert.Mixed.Gen.facts, Cert.MixedIdeal.Gen.facts, Cert.MixedRefIdeal.Gen.facts,
    Cert.Plain.Gen.facts, Cert.PlainIdeal.Gen.facts, Cert.PlainRefIdeal.Gen.facts,
    Cert.KeyValue.Gen.facts, Cert.KeyValueIdeal.Gen.facts, Cert.KeyValueRefIdeal.Gen.facts,
    Cert.Query.Gen.facts, Cert.QueryIdeal.Gen.facts, Cert.QueryRefIdeal.Gen.facts, Cert.Pre_finite.facts,
    frame_kernel, frame_ideal, fun m g _ => Cert.KernelIdeal.Att.frame m g, frame_reference, fun m g _ => Cert.ReferenceIdeal.Att.frame m g,
    frame_Mixed, frame_MixedIdeal, frame_MixedRefIdeal, frame_Plain, frame_PlainIdeal, frame_PlainRefIdeal, frame_KeyValue, frame_KeyValueIdeal, frame_KeyValueRefIdeal,
    frame_Query, frame_QueryIdeal, frame_QueryRefIdeal,
    preserves, algebraic, trivial, algebraic_Mixed, trivial, algebraic_Plain, trivial, algebraic_KeyValue, trivial, algebraic_Query⟩

end Cert.Proof

end
